-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gates [hPre_finite_gates : Cert.Pre_finite_gates.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gates.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gates [hPre_finite_gates : Cert.Pre_finite_gates.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gates.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite_gates [hKernel3Ideal : Cert.Kernel3Ideal.Facts] [hPre_finite_gates : Cert.Pre_finite_gates.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gates m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite_gates [hReference3Ideal : Cert.Reference3Ideal.Facts] [hPre_finite_gates : Cert.Pre_finite_gates.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gates m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "log2e_8" .f32 0x3E38AA3B#32 ((8⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v45_0)) (v1 : (c : Dev Cert.Kernel2Ideal.nD) → Buf (Elt Ideal) ((c.tc : Thread Cert.Kernel2Ideal.nD Cert.Kernel2Ideal.τ).loc Cert.Kernel2Ideal.main_v45_1)) (v2 : (c : Dev Cert.Kernel2Ideal.nD) → Buf (Elt Ideal) ((c.tc : Thread Cert.Kernel2Ideal.nD Cert.Kernel2Ideal.τ).loc Cert.Kernel2Ideal.main_v45_2)) (v3 : (c : Dev Cert.Kernel2Ideal.nD) → Buf (Elt Ideal) ((c.tc : Thread Cert.Kernel2Ideal.nD Cert.Kernel2Ideal.τ).loc Cert.Kernel2Ideal.main_v45_3)) (v4 : (c : Dev Cert.Kernel2Ideal.nD) → Buf (Elt Ideal) ((c.tc : Thread Cert.Kernel2Ideal.nD Cert.Kernel2Ideal.τ).loc Cert.Kernel2Ideal.main_v45_4)) (v5 : (c : Dev Cert.Kernel2Ideal.nD) → Buf (Elt Ideal) ((c.tc : Thread Cert.Kernel2Ideal.nD Cert.Kernel2Ideal.τ).loc Cert.Kernel2Ideal.main_v45_5)) (v6 : (c : Dev Cert.Kernel2Ideal.nD) → Buf (Elt Ideal) ((c.tc : Thread Cert.Kernel2Ideal.nD Cert.Kernel2Ideal.τ).loc Cert.Kernel2Ideal.main_v45_6)) (v7 : (c : Dev Cert.Kernel2Ideal.nD) → Buf (Elt Ideal) ((c.tc : Thread Cert.Kernel2Ideal.nD Cert.Kernel2Ideal.τ).loc Cert.Kernel2Ideal.main_v45_7)) (v8 : (c : Dev Cert.Kernel2Ideal.nD) → Buf (Elt Ideal) ((c.tc : Thread Cert.Kernel2Ideal.nD Cert.Kernel2Ideal.τ).loc Cert.Kernel2Ideal.main_v45_8)) (v9 : (c : Dev Cert.Kernel2Ideal.nD) → Buf (Elt Ideal) ((c.tc : Thread Cert.Kernel2Ideal.nD Cert.Kernel2Ideal.τ).loc Cert.Kernel2Ideal.main_v45_9)) (v10 : (c : Dev Cert.Kernel2Ideal.nD) → Buf (Elt Ideal) ((c.tc : Thread Cert.Kernel2Ideal.nD Cert.Kernel2Ideal.τ).loc Cert.Kernel2Ideal.main_v45_10)) (v11 : (c : Dev Cert.Kernel2Ideal.nD) → Buf (Elt Ideal) ((c.tc : Thread Cert.Kernel2Ideal.nD Cert.Kernel2Ideal.τ).loc Cert.Kernel2Ideal.main_v45_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45_0) = v0 c
          ∧ r.2.mem ((c.tc : Thread Cert.Kernel2Ideal.nD Cert.Kernel2Ideal.τ).loc Cert.Kernel2Ideal.main_v45_1) = v1 c
          ∧ r.2.mem ((c.tc : Thread Cert.Kernel2Ideal.nD Cert.Kernel2Ideal.τ).loc Cert.Kernel2Ideal.main_v45_2) = v2 c
          ∧ r.2.mem ((c.tc : Thread Cert.Kernel2Ideal.nD Cert.Kernel2Ideal.τ).loc Cert.Kernel2Ideal.main_v45_3) = v3 c
          ∧ r.2.mem ((c.tc : Thread Cert.Kernel2Ideal.nD Cert.Kernel2Ideal.τ).loc Cert.Kernel2Ideal.main_v45_4) = v4 c
          ∧ r.2.mem ((c.tc : Thread Cert.Kernel2Ideal.nD Cert.Kernel2Ideal.τ).loc Cert.Kernel2Ideal.main_v45_5) = v5 c
          ∧ r.2.mem ((c.tc : Thread Cert.Kernel2Ideal.nD Cert.Kernel2Ideal.τ).loc Cert.Kernel2Ideal.main_v45_6) = v6 c
          ∧ r.2.mem ((c.tc : Thread Cert.Kernel2Ideal.nD Cert.Kernel2Ideal.τ).loc Cert.Kernel2Ideal.main_v45_7) = v7 c
          ∧ r.2.mem ((c.tc : Thread Cert.Kernel2Ideal.nD Cert.Kernel2Ideal.τ).loc Cert.Kernel2Ideal.main_v45_8) = v8 c
          ∧ r.2.mem ((c.tc : Thread Cert.Kernel2Ideal.nD Cert.Kernel2Ideal.τ).loc Cert.Kernel2Ideal.main_v45_9) = v9 c
          ∧ r.2.mem ((c.tc : Thread Cert.Kernel2Ideal.nD Cert.Kernel2Ideal.τ).loc Cert.Kernel2Ideal.main_v45_10) = v10 c
          ∧ r.2.mem ((c.tc : Thread Cert.Kernel2Ideal.nD Cert.Kernel2Ideal.τ).loc Cert.Kernel2Ideal.main_v45_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v100) = v1 c
          ∧ r.2.mem ((c.tc : Thread Cert.Reference2Ideal.nD Cert.Reference2Ideal.τ).loc Cert.Reference2Ideal.main_v101) = v2 c
          ∧ r.2.mem ((c.tc : Thread Cert.Reference2Ideal.nD Cert.Reference2Ideal.τ).loc Cert.Reference2Ideal.main_v103) = v3 c
          ∧ r.2.mem ((c.tc : Thread Cert.Reference2Ideal.nD Cert.Reference2Ideal.τ).loc Cert.Reference2Ideal.main_v142) = v4 c
          ∧ r.2.mem ((c.tc : Thread Cert.Reference2Ideal.nD Cert.Reference2Ideal.τ).loc Cert.Reference2Ideal.main_v226) = v5 c
          ∧ r.2.mem ((c.tc : Thread Cert.Reference2Ideal.nD Cert.Reference2Ideal.τ).loc Cert.Reference2Ideal.main_v229) = v6 c
          ∧ r.2.mem ((c.tc : Thread Cert.Reference2Ideal.nD Cert.Reference2Ideal.τ).loc Cert.Reference2Ideal.main_v232) = v7 c
          ∧ r.2.mem ((c.tc : Thread Cert.Reference2Ideal.nD Cert.Reference2Ideal.τ).loc Cert.Reference2Ideal.main_v235) = v8 c
          ∧ r.2.mem ((c.tc : Thread Cert.Reference2Ideal.nD Cert.Reference2Ideal.τ).loc Cert.Reference2Ideal.main_v238) = v9 c
          ∧ r.2.mem ((c.tc : Thread Cert.Reference2Ideal.nD Cert.Reference2Ideal.τ).loc Cert.Reference2Ideal.main_v240) = v10 c
          ∧ r.2.mem ((c.tc : Thread Cert.Reference2Ideal.nD Cert.Reference2Ideal.τ).loc Cert.Reference2Ideal.main_v247) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_gates [hKernel3Ideal : Cert.Kernel3Ideal.Facts] [hReference3Ideal : Cert.Reference3Ideal.Facts] [hPre_finite_gates : Cert.Pre_finite_gates.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gates m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v37)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v37) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v76) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_gates : Cert.Pre_finite_gates.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_gates (hKernel3Ideal := hKernel3Ideal) (hPre_finite_gates := hPre_finite_gates)
    ∧ quiescent_Reference3Ideal (hReference3Ideal := hReference3Ideal)
    ∧ quiescent_Reference3Ideal_pre_finite_gates (hReference3Ideal := hReference3Ideal) (hPre_finite_gates := hPre_finite_gates)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_gates (hKernel3Ideal := hKernel3Ideal) (hReference3Ideal := hReference3Ideal) (hPre_finite_gates := hPre_finite_gates)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x4096x512 : Shape := ⟨3, ![8, 4096, 512]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)

variable [Facts]

def fn {F : FTy → Type} [FloatOps F] (main_arg0 : FVec F S8x4096x512 .bf16) (main_arg1 : FVec F S8x4096x512 .bf16) (main_arg2 : FVec F S8x4096x512 .bf16) (main_arg3 : FVec F S8x4096x512 .bf16) : IVec S8x4096x512 1 × IVec S8x4096x512 1 × IVec S8x4096x512 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_v4 : FVec F S8x4096x512 .f32 := (extf .f32 · bitsLt_bf16_f32) main_arg1
  let main_v5 : FVec F S8x4096x512 .f32 := Host.absf main_v4
  let main_cst_0 : FVec F S_ .f32 := constant S_ .f32 0x7F800000#32
  let main_v6 : FVec F S8x4096x512 .f32 := broadcastInDim S8x4096x512 ![] bcast_S_S8x4096x512 main_cst_0
  let main_v7 : IVec S8x4096x512 1 := cmpf .olt main_v5 main_v6
  let main_v8 : FVec F S8x4096x512 .f32 := (extf .f32 · bitsLt_bf16_f32) main_arg2
  let main_v9 : FVec F S8x4096x512 .f32 := Host.absf main_v8
  let main_cst_1 : FVec F S_ .f32 := constant S_ .f32 0x7F800000#32
  let main_v10 : FVec F S8x4096x512 .f32 := broadcastInDim S8x4096x512 ![] bcast_S_S8x4096x512 main_cst_1
  let main_v11 : IVec S8x4096x512 1 := cmpf .olt main_v9 main_v10
  (main_v3, main_v7, main_v11)
-- ==== Pre_finite_gates.lean ====
abbrev S8x4096x1024 : Shape := ⟨3, ![8, 4096, 1024]⟩
abbrev S8x3072 : Shape := ⟨2, ![8, 3072]⟩
abbrev S1024 : Shape := ⟨1, ![1024]⟩
abbrev S8x4096x512 : Shape := ⟨3, ![8, 4096, 512]⟩
abbrev S8x4096x128 : Shape := ⟨3, ![8, 4096, 128]⟩
abbrev S1024x1024 : Shape := ⟨2, ![1024, 1024]⟩
abbrev S8x4096x24 : Shape := ⟨3, ![8, 4096, 24]⟩
abbrev S_ : Shape := ⟨0, ![]⟩

class Facts : Prop where
  slices_S8x4096x128_S8x4096x24_0_0_0 : S8x4096x128.Slices ![0, 0, 0] S8x4096x24
  bcast_S_S8x4096x24 : S_.BroadcastsInDim S8x4096x24 (![] : Fin 0 → Fin S8x4096x24.rank)

variable [Facts]

def fn {F : FTy → Type} [FloatOps F] (main_arg0 : FVec F S8x4096x1024 .f32) (main_arg1 : FVec F S8x3072 .f32) (main_arg2 : FVec F S1024 .f32) (main_arg3 : FVec F S8x4096x512 .bf16) (main_arg4 : FVec F S8x4096x512 .bf16) (main_arg5 : FVec F S8x4096x1024 .bf16) (main_arg6 : FVec F S8x4096x1024 .bf16) (main_arg7 : FVec F S8x4096x128 .f32) (main_arg8 : FVec F S8x4096x512 .bf16) (main_arg9 : FVec F S1024x1024 .f32) : IVec S8x4096x24 1 :=
  let main_v0 : FVec F S8x4096x24 .f32 := (extractStridedSlice S8x4096x24 ![0, 0, 0] · slices_S8x4096x128_S8x4096x24_0_0_0) main_arg7
  let main_v1 : FVec F S8x4096x24 .f32 := Host.absf main_v0
  let main_cst : FVec F S_ .f32 := constant S_ .f32 0x7F800000#32
  let main_v2 : FVec F S8x4096x24 .f32 := broadcastInDim S8x4096x24 ![] bcast_S_S8x4096x24 main_cst
  let main_v3 : IVec S8x4096x24 1 := cmpf .olt main_v1 main_v2
  main_v3
-- ==== Kernel.lean ====
abbrev S8x4096x512 : Shape := ⟨3, ![8, 4096, 512]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S4x1x2 : Shape := ⟨3, ![4, 1, 2]⟩
abbrev S4x1x2x64 : Shape := ⟨4, ![4, 1, 2, 64]⟩
abbrev S4x1x128 : Shape := ⟨3, ![4, 1, 128]⟩
abbrev S4x2x128 : Shape := ⟨3, ![4, 2, 128]⟩
abbrev S4x128x2 : Shape := ⟨3, ![4, 128, 2]⟩
abbrev S4x128x2x64 : Shape := ⟨4, ![4, 128, 2, 64]⟩
abbrev S4x128x128 : Shape := ⟨3, ![4, 128, 128]⟩
abbrev S1x4096x128 : Shape := ⟨3, ![1, 4096, 128]⟩
abbrev S2x128x128 : Shape := ⟨3, ![2, 128, 128]⟩
abbrev S1x1x128 : Shape := ⟨3, ![1, 1, 128]⟩

abbrev nBuf : Space → Nat
  | .hbm => 71
  | .vmem => 19
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S128, .f32⟩
  | .hbm, ⟨14, _⟩ => ⟨S128x1, .f32⟩
  | .hbm, ⟨15, _⟩ => ⟨S1x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S1x128x128, .f32⟩
  | .hbm, ⟨20, _⟩ => ⟨S_, .f32⟩
  | .hbm, ⟨21, _⟩ => ⟨S1x128x128, .f32⟩
  | .hbm, ⟨22, _⟩ => ⟨S1x128x128, .i1⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S1x128x128, .f32⟩
  | .hbm, ⟨27, _⟩ => ⟨S8x1x1, .f32⟩
  | .hbm, ⟨28, _⟩ => ⟨S8x128x128, .f32⟩
  | .hbm, ⟨29, _⟩ => ⟨S8x128x128, .f32⟩
  | .hbm, ⟨30, _⟩ => ⟨S8x128x128, .f32⟩
  | .hbm, ⟨31, _⟩ => ⟨S8x128x128, .f32⟩
  | .hbm, ⟨32, _⟩ => ⟨S_, .f32⟩
  | .hbm, ⟨33, _⟩ => ⟨S_, .f32⟩
  | .hbm, ⟨34, _⟩ => ⟨S8x128x128, .i1⟩
  | .hbm, ⟨35, _⟩ => ⟨S8x128x128, .f32⟩
  | .hbm, ⟨36, _⟩ => ⟨S8x128x128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S8x1, .f32⟩
  | .hbm, ⟨42, _⟩ => ⟨S8x128, .f32⟩
  | .hbm, ⟨43, _⟩ => ⟨S8x128, .f32⟩
  | .hbm, ⟨44, _⟩ => ⟨S8x128, .f32⟩
  | .hbm, ⟨45, _⟩ => ⟨S8x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S8x1, .f32⟩
  | .hbm, ⟨51, _⟩ => ⟨S8x128, .f32⟩
  | .hbm, ⟨52, _⟩ => ⟨S8x128, .f32⟩
  | .hbm, ⟨53, _⟩ => ⟨S8x128, .f32⟩
  | .hbm, ⟨54, _⟩ => ⟨S8x128, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S8, .f32⟩
  | .hbm, ⟨59, _⟩ => ⟨S4x1x2, .f32⟩
  | .hbm, ⟨60, _⟩ => ⟨S4x1x2x64, .f32⟩
  | .hbm, ⟨61, _⟩ => ⟨S4x1x128, .f32⟩
  | .hbm, ⟨62, _⟩ => ⟨S4x2x128, .f32⟩
  | .hbm, ⟨63, _⟩ => ⟨S4x128x2, .f32⟩
  | .hbm, ⟨64, _⟩ => ⟨S4x128x2x64, .f32⟩
  | .hbm, ⟨65, _⟩ => ⟨S4x128x128, .f32⟩
  | .hbm, ⟨66, _⟩ => ⟨S4x2x128, .f32⟩
  | .hbm, ⟨67, _⟩ => ⟨S4x128x2, .f32⟩
  | .hbm, ⟨68, _⟩ => ⟨S4x128x2x64, .f32⟩
  | .hbm, ⟨69, _⟩ => ⟨S4x128x128, .f32⟩
  | .hbm, ⟨70, _⟩ => ⟨S8x4096x512, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S2x128x128, .f32⟩
  | .local _ .vmem, ⟨9, _⟩ => ⟨S2x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x1x128, .f32⟩
  | .local _ .vmem, ⟨15, _⟩ => ⟨S1x1x128, .f32⟩
  | .local _ .vmem, ⟨16, _⟩ => ⟨S1x4096x128, .bf16⟩
  | .local _ .vmem, ⟨17, _⟩ => ⟨S1x4096x128, .bf16⟩
  | .local _ .vmem, ⟨18, _⟩ => ⟨S128x128, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S8x4096x512 : Shape := ⟨3, ![8, 4096, 512]⟩
abbrev S8 : Shape := ⟨1, ![8]⟩
abbrev S_ : Shape := ⟨0, ![]⟩
abbrev S128 : Shape := ⟨1, ![128]⟩
abbrev S8x32x128x8x64 : Shape := ⟨5, ![8, 32, 128, 8, 64]⟩
abbrev S1x128 : Shape := ⟨2, ![1, 128]⟩
abbrev S8x1 : Shape := ⟨2, ![8, 1]⟩
abbrev S8x128 : Shape := ⟨2, ![8, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S32x8x8x64x64 : Shape := ⟨5, ![32, 8, 8, 64, 64]⟩
abbrev S1x8x1x1 : Shape := ⟨4, ![1, 8, 1, 1]⟩
abbrev S8x8x64x64 : Shape := ⟨4, ![8, 8, 64, 64]⟩
abbrev S1x8x8x64x64 : Shape := ⟨5, ![1, 8, 8, 64, 64]⟩
abbrev S128x1 : Shape := ⟨2, ![128, 1]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x32x8x128x128 : Shape := ⟨5, ![8, 32, 8, 128, 128]⟩
abbrev S1x1x8x128x128 : Shape := ⟨5, ![1, 1, 8, 128, 128]⟩
abbrev S8x32x8x64x128 : Shape := ⟨5, ![8, 32, 8, 64, 128]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩

abbrev nBuf : Space → Nat
  | .hbm => 160
  | .vmem => 0
  | .smem => 0
  | _ => 0

abbrev hbmTy0_0 (i : Nat) : BufTy := match i % 128 with
  | 0 => ⟨S8x4096x512, .bf16⟩
  | 1 => ⟨S8x4096x512, .bf16⟩
  | 2 => ⟨S8x4096x512, .bf16⟩
  | 3 => ⟨S8x4096x512, .bf16⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S8, .f32⟩
  | 12 => ⟨S8, .f32⟩
  | 13 => ⟨S128, .f32⟩
  | 14 => ⟨S8x4096x512, .f32⟩
  | 15 => ⟨S8x32x128x8x64, .f32⟩
  | 16 => ⟨S8x4096x512, .f32⟩
  | 17 => ⟨S8x32x128x8x64, .f32⟩
  | 18 => ⟨S_, .f32⟩
  | 19 => ⟨S128, .f32⟩
  | 20 => ⟨S128, .f32⟩
  | 21 => ⟨S1x128, .f32⟩
  | 22 => ⟨S8x1, .f32⟩
  | 23 => ⟨S8x128, .f32⟩
  | 24 => ⟨S8x128, .f32⟩
  | 25 => ⟨S8x128, .f32⟩
  | 26 => ⟨S8x128, .f32⟩
  | 27 => ⟨S128x8, .f32⟩
  | 28 => ⟨S128x8x1, .f32⟩
  | 29 => ⟨S1x1x128x8x1, .f32⟩
  | 30 => ⟨S8x32x128x8x64, .f32⟩
  | 31 => ⟨S8x32x128x8x64, .f32⟩
  | 32 => ⟨S32x8x8x64x64, .f32⟩
  | 33 => ⟨S_, .f32⟩
  | 34 => ⟨S8, .f32⟩
  | 35 => ⟨S8, .f32⟩
  | 36 => ⟨S8, .f32⟩
  | 37 => ⟨S1x8x1x1, .f32⟩
  | 38 => ⟨S_, .f32⟩
  | 39 => ⟨S8x8x64x64, .f32⟩
  | 40 => ⟨S_, .f32⟩
  | 41 => ⟨S32x8x8x64x64, .f32⟩
  | 42 => ⟨S_, .i32⟩
  | 43 => ⟨S32x8x8x64x64, .f32⟩
  | 44 => ⟨S1x8x1x1, .f32⟩
  | 45 => ⟨S_, .i32⟩
  | 46 => ⟨S8x8x64x64, .f32⟩
  | 47 => ⟨S32x8x8x64x64, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S1x8x8x64x64, .f32⟩
  | 55 => ⟨S8x8x64x64, .f32⟩
  | 56 => ⟨S8x8x64x64, .f32⟩
  | 57 => ⟨S8x8x64x64, .f32⟩
  | 58 => ⟨S8x8x64x64, .f32⟩
  | 59 => ⟨S1x8x8x64x64, .f32⟩
  | 60 => ⟨S_, .i32⟩
  | 61 => ⟨S_, .i32⟩
  | 62 => ⟨S_, .i32⟩
  | 63 => ⟨S_, .i32⟩
  | 64 => ⟨S32x8x8x64x64, .f32⟩
  | 65 => ⟨S_, .i32⟩
  | 66 => ⟨S_, .i32⟩
  | 67 => ⟨S8x4096x512, .f32⟩
  | 68 => ⟨S8x32x128x8x64, .f32⟩
  | 69 => ⟨S8x4096x512, .f32⟩
  | 70 => ⟨S8x32x128x8x64, .f32⟩
  | 71 => ⟨S8x4096x512, .f32⟩
  | 72 => ⟨S8x32x128x8x64, .f32⟩
  | 73 => ⟨S8, .f32⟩
  | 74 => ⟨S_, .f32⟩
  | 75 => ⟨S8, .f32⟩
  | 76 => ⟨S8, .f32⟩
  | 77 => ⟨S_, .f32⟩
  | 78 => ⟨S8, .f32⟩
  | 79 => ⟨S8, .f32⟩
  | 80 => ⟨S8, .f32⟩
  | 81 => ⟨S8, .f32⟩
  | 82 => ⟨S128, .f32⟩
  | 83 => ⟨S128x1, .f32⟩
  | 84 => ⟨S1x128, .f32⟩
  | 85 => ⟨S128x128, .f32⟩
  | 86 => ⟨S128x128, .f32⟩
  | 87 => ⟨S128x128, .f32⟩
  | 88 => ⟨S128, .i32⟩
  | 89 => ⟨S128x1, .i32⟩
  | 90 => ⟨S1x128, .i32⟩
  | 91 => ⟨S128x128, .i32⟩
  | 92 => ⟨S128x128, .i32⟩
  | 93 => ⟨S128x128, .i1⟩
  | 94 => ⟨S1x128x128, .i1⟩
  | 95 => ⟨S_, .f32⟩
  | 96 => ⟨S128x128, .f32⟩
  | 97 => ⟨S128x128, .f32⟩
  | 98 => ⟨S1x128x128, .f32⟩
  | 99 => ⟨S8x1x1, .f32⟩
  | 100 => ⟨S8x128x128, .f32⟩
  | 101 => ⟨S8x128x128, .f32⟩
  | 102 => ⟨S8x128x128, .f32⟩
  | 103 => ⟨S8x128x128, .f32⟩
  | 104 => ⟨S_, .f32⟩
  | 105 => ⟨S_, .f32⟩
  | 106 => ⟨S8x128x128, .i1⟩
  | 107 => ⟨S8x128x128, .f32⟩
  | 108 => ⟨S8x128x128, .f32⟩
  | 109 => ⟨S8x32x8x128x128, .f32⟩
  | 110 => ⟨S1x1x8x128x128, .f32⟩
  | 111 => ⟨S8x32x8x128x128, .f32⟩
  | 112 => ⟨S8x32x8x128x128, .f32⟩
  | 113 => ⟨S8x32x8x64x128, .f32⟩
  | 114 => ⟨S8x32x128x8x64, .f32⟩
  | 115 => ⟨S_, .f32⟩
  | 116 => ⟨S128, .f32⟩
  | 117 => ⟨S128, .f32⟩
  | 118 => ⟨S1x128, .f32⟩
  | 119 => ⟨S8x1, .f32⟩
  | 120 => ⟨S8x128, .f32⟩
  | 121 => ⟨S8x128, .f32⟩
  | 122 => ⟨S8x128, .f32⟩
  | 123 => ⟨S8x128, .f32⟩
  | 124 => ⟨S8x32x8x64x128, .f32⟩
  | 125 => ⟨S8x32x128x8x64, .f32⟩
  | 126 => ⟨S128x8, .f32⟩
  | 127 => ⟨S128x8x1, .f32⟩
  | _ => ⟨S8x4096x512, .bf16⟩

abbrev hbmTy0_1 (i : Nat) : BufTy := match i % 128 with
  | 0 => ⟨S1x1x128x8x1, .f32⟩
  | 1 => ⟨S8x32x128x8x64, .f32⟩
  | 2 => ⟨S8x32x128x8x64, .f32⟩
  | 3 => ⟨S8x32x128x8x64, .f32⟩
  | 4 => ⟨S8x4096x8x64, .f32⟩
  | 5 => ⟨S_, .f32⟩
  | 6 => ⟨S8x4096x8, .f32⟩
  | 7 => ⟨S8x4096x8x1, .f32⟩
  | 8 => ⟨S_, .f32⟩
  | 9 => ⟨S8x4096x8x1, .f32⟩
  | 10 => ⟨S8x4096x8x1, .f32⟩
  | 11 => ⟨S8x4096x8x64, .f32⟩
  | 12 => ⟨S8x4096x8x64, .f32⟩
  | 13 => ⟨S8x4096x8x64, .f32⟩
  | 14 => ⟨S_, .f32⟩
  | 15 => ⟨S8x4096x8, .f32⟩
  | 16 => ⟨S8x4096x8x1, .f32⟩
  | 17 => ⟨S_, .f32⟩
  | 18 => ⟨S8x4096x8x1, .f32⟩
  | 19 => ⟨S8x4096x8x1, .f32⟩
  | 20 => ⟨S8x4096x8x64, .f32⟩
  | 21 => ⟨S8x4096x8x64, .f32⟩
  | 22 => ⟨S_, .f32⟩
  | 23 => ⟨S8x4096x8x1, .f32⟩
  | 24 => ⟨S8x4096x8x1, .f32⟩
  | 25 => ⟨S8x4096x8x1, .f32⟩
  | 26 => ⟨S8x4096x8x64, .f32⟩
  | 27 => ⟨S8x4096x8x64, .f32⟩
  | 28 => ⟨S8x4096x512, .f32⟩
  | 29 => ⟨S8x4096x512, .f32⟩
  | 30 => ⟨S8x4096x512, .f32⟩
  | 31 => ⟨S8x4096x512, .bf16⟩
  | _ => ⟨S8x4096x512, .bf16⟩

abbrev hbmTy (i : Nat) : BufTy := match i / 128 with
  | 0 => hbmTy0_0 i
  | 1 => hbmTy0_1 i
  | _ => ⟨S8x4096x512, .bf16⟩

abbrev bufTy : (tb : Table) → Fin (tcTables nBuf tb) → BufTy
  | .hbm, ⟨i, _⟩ => hbmTy i
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_c : Ref sig .tc := ⟨.hbm, 42, rfl⟩
abbrev main_v32_0 : Ref sig .tc := ⟨.hbm, 43, rfl⟩
abbrev main_v32_1 : Ref sig .tc := ⟨.hbm, 44, rfl⟩
abbrev main_v32_2 : Ref sig .tc := ⟨.hbm, 45, rfl⟩
abbrev main_v32_3 : Ref sig .tc := ⟨.hbm, 46, rfl⟩
abbrev main_v32_4 : Ref sig .tc := ⟨.hbm, 47, rfl⟩
abbrev main_while0c_c_19 : Ref sig .tc := ⟨.hbm, 48, rfl⟩
abbrev main_while0c_v113 : Ref sig .tc := ⟨.hbm, 49, rfl⟩
abbrev main_while0b_call0_c : Ref sig .tc := ⟨.hbm, 50, rfl⟩
abbrev main_while0b_call0_c_0 : Ref sig .tc := ⟨.hbm, 51, rfl⟩
abbrev main_while0b_call0_c_1 : Ref sig .tc := ⟨.hbm, 52, rfl⟩
abbrev main_while0b_call0_c_2 : Ref sig .tc := ⟨.hbm, 53, rfl⟩
abbrev main_while0b_call0_v0 : Ref sig .tc := ⟨.hbm, 54, rfl⟩
abbrev main_while0b_v113 : Ref sig .tc := ⟨.hbm, 55, rfl⟩
abbrev main_while0b_v114 : Ref sig .tc := ⟨.hbm, 56, rfl⟩
abbrev main_while0b_v115 : Ref sig .tc := ⟨.hbm, 57, rfl⟩
abbrev main_while0b_v116 : Ref sig .tc := ⟨.hbm, 58, rfl⟩
abbrev main_while0b_call1_v0 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_c_2 : Ref sig .tc := ⟨.hbm, 63, rfl⟩
abbrev main_while0b_v117 : Ref sig .tc := ⟨.hbm, 64, rfl⟩
abbrev main_while0b_c_19 : Ref sig .tc := ⟨.hbm, 65, rfl⟩
abbrev main_while0b_v118 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_5 : Ref sig .tc := ⟨.hbm, 74, rfl⟩
abbrev main_v40 : Ref sig .tc := ⟨.hbm, 75, rfl⟩
abbrev main_v41 : Ref sig .tc := ⟨.hbm, 76, rfl⟩
abbrev main_cst_6 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_7 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_8 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_9 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_10 : Ref sig .tc := ⟨.hbm, 133, rfl⟩
abbrev main_v91 : Ref sig .tc := ⟨.hbm, 134, rfl⟩
abbrev main_v92 : Ref sig .tc := ⟨.hbm, 135, rfl⟩
abbrev main_cst_11 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_12 : Ref sig .tc := ⟨.hbm, 142, rfl⟩
abbrev main_v98 : Ref sig .tc := ⟨.hbm, 143, rfl⟩
abbrev main_v99 : Ref sig .tc := ⟨.hbm, 144, rfl⟩
abbrev main_cst_13 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_14 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x4096x1024 : Shape := ⟨3, ![8, 4096, 1024]⟩
abbrev S8x4096 : Shape := ⟨2, ![8, 4096]⟩
abbrev S8x3072 : Shape := ⟨2, ![8, 3072]⟩
abbrev S1024 : Shape := ⟨1, ![1024]⟩
abbrev S1024x3864 : Shape := ⟨2, ![1024, 3864]⟩
abbrev S8x1024 : Shape := ⟨2, ![8, 1024]⟩
abbrev S8x1x1024 : Shape := ⟨3, ![8, 1, 1024]⟩
abbrev S1024x24 : Shape := ⟨2, ![1024, 24]⟩
abbrev S1024x3328 : Shape := ⟨2, ![1024, 3328]⟩
abbrev S1024x512 : Shape := ⟨2, ![1024, 512]⟩
abbrev S_ : Shape := ⟨0, ![]⟩
abbrev S1024x104 : Shape := ⟨2, ![1024, 104]⟩
abbrev S1024x3968 : Shape := ⟨2, ![1024, 3968]⟩
abbrev S128 : Shape := ⟨1, ![128]⟩
abbrev S32 : Shape := ⟨1, ![32]⟩
abbrev S8 : Shape := ⟨1, ![8]⟩
abbrev S128x1 : Shape := ⟨2, ![128, 1]⟩
abbrev S1x128 : Shape := ⟨2, ![1, 128]⟩
abbrev S8x4096x1 : Shape := ⟨3, ![8, 4096, 1]⟩
abbrev S1x1024 : Shape := ⟨2, ![1, 1024]⟩
abbrev S8x4096x512 : Shape := ⟨3, ![8, 4096, 512]⟩
abbrev S8x4096x256 : Shape := ⟨3, ![8, 4096, 256]⟩
abbrev S8x4096x128 : Shape := ⟨3, ![8, 4096, 128]⟩
abbrev S1x1024x1024 : Shape := ⟨3, ![1, 1024, 1024]⟩
abbrev S1x1x1024 : Shape := ⟨3, ![1, 1, 1024]⟩
abbrev S1x1024x1 : Shape := ⟨3, ![1, 1024, 1]⟩
abbrev S1x1024x512 : Shape := ⟨3, ![1, 1024, 512]⟩
abbrev S1x1024x256 : Shape := ⟨3, ![1, 1024, 256]⟩
abbrev S1x1024x128 : Shape := ⟨3, ![1, 1024, 128]⟩
abbrev S1024x128 : Shape := ⟨2, ![1024, 128]⟩
abbrev S1024x768 : Shape := ⟨2, ![1024, 768]⟩
abbrev S1024x1024 : Shape := ⟨2, ![1024, 1024]⟩
abbrev S1024x1 : Shape := ⟨2, ![1024, 1]⟩
abbrev S1024x640 : Shape := ⟨2, ![1024, 640]⟩

abbrev nBuf : Space → Nat
  | .hbm => 113
  | .vmem => 42
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8x3072, .f32⟩
  | .hbm, ⟨3, _⟩ => ⟨S1024, .f32⟩
  | .hbm, ⟨4, _⟩ => ⟨S1024x3864, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S1024x24, .f32⟩
  | .hbm, ⟨12, _⟩ => ⟨S1024x3328, .f32⟩
  | .hbm, ⟨13, _⟩ => ⟨S1024x512, .f32⟩
  | .hbm, ⟨14, _⟩ => ⟨S_, .f32⟩
  | .hbm, ⟨15, _⟩ => ⟨S1024x104, .f32⟩
  | .hbm, ⟨16, _⟩ => ⟨S1024x3968, .f32⟩
  | .hbm, ⟨17, _⟩ => ⟨S1024x3968, .bf16⟩
  | .hbm, ⟨18, _⟩ => ⟨S128, .i32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S_, .i32⟩
  | .hbm, ⟨47, _⟩ => ⟨S128, .i32⟩
  | .hbm, ⟨48, _⟩ => ⟨S128, .i1⟩
  | .hbm, ⟨49, _⟩ => ⟨S_, .i32⟩
  | .hbm, ⟨50, _⟩ => ⟨S_, .i1⟩
  | .hbm, ⟨51, _⟩ => ⟨S128, .i1⟩
  | .hbm, ⟨52, _⟩ => ⟨S128, .i1⟩
  | .hbm, ⟨53, _⟩ => ⟨S128, .i1⟩
  | .hbm, ⟨54, _⟩ => ⟨S128, .i32⟩
  | .hbm, ⟨55, _⟩ => ⟨S128, .i32⟩
  | .hbm, ⟨56, _⟩ => ⟨S128, .i32⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S_, .i32⟩
  | .hbm, ⟨61, _⟩ => ⟨S128, .i32⟩
  | .hbm, ⟨62, _⟩ => ⟨S128, .i32⟩
  | .hbm, ⟨63, _⟩ => ⟨S128, .i32⟩
  | .hbm, ⟨64, _⟩ => ⟨S128x1, .i32⟩
  | .hbm, ⟨65, _⟩ => ⟨S128, .f32⟩
  | .hbm, ⟨66, _⟩ => ⟨S1x128, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S128, .i32⟩
  | .hbm, ⟨74, _⟩ => ⟨S128, .i32⟩
  | .hbm, ⟨75, _⟩ => ⟨S_, .i32⟩
  | .hbm, ⟨76, _⟩ => ⟨S128, .i32⟩
  | .hbm, ⟨77, _⟩ => ⟨S128, .i1⟩
  | .hbm, ⟨78, _⟩ => ⟨S_, .i32⟩
  | .hbm, ⟨79, _⟩ => ⟨S128, .i32⟩
  | .hbm, ⟨80, _⟩ => ⟨S128, .i1⟩
  | .hbm, ⟨81, _⟩ => ⟨S_, .i32⟩
  | .hbm, ⟨82, _⟩ => ⟨S_, .i1⟩
  | .hbm, ⟨83, _⟩ => ⟨S128, .i1⟩
  | .hbm, ⟨84, _⟩ => ⟨S128, .i1⟩
  | .hbm, ⟨85, _⟩ => ⟨S128, .i1⟩
  | .hbm, ⟨86, _⟩ => ⟨S128, .i32⟩
  | .hbm, ⟨87, _⟩ => ⟨S128, .i32⟩
  | .hbm, ⟨88, _⟩ => ⟨S128, .i32⟩
  | .hbm, ⟨89, _⟩ => ⟨S_, .i32⟩
  | .hbm, ⟨90, _⟩ => ⟨S128, .i32⟩
  | .hbm, ⟨91, _⟩ => ⟨S128, .i1⟩
  | .hbm, ⟨92, _⟩ => ⟨S_, .i32⟩
  | .hbm, ⟨93, _⟩ => ⟨S128, .i32⟩
  | .hbm, ⟨94, _⟩ => ⟨S128, .i32⟩
  | .hbm, ⟨95, _⟩ => ⟨S128, .i32⟩
  | .hbm, ⟨96, _⟩ => ⟨S128x1, .i32⟩
  | .hbm, ⟨97, _⟩ => ⟨S128, .f32⟩
  | .hbm, ⟨98, _⟩ => ⟨S1x128, .f32⟩
  | .hbm, ⟨99, _⟩ => ⟨S8x4096x1, .i32⟩
  | .hbm, ⟨100, _⟩ => ⟨S1x1024, .f32⟩
  | .hbm, ⟨101, _⟩ => ⟨S8x4096x512, .bf16⟩
  | .hbm, ⟨102, _⟩ => ⟨S8x4096x512, .bf16⟩
  | .hbm, ⟨103, _⟩ => ⟨S8x4096x512, .bf16⟩
  | .hbm, ⟨104, _⟩ => ⟨S8x4096x512, .bf16⟩
  | .hbm, ⟨105, _⟩ => ⟨S8x4096x512, .bf16⟩
  | .hbm, ⟨106, _⟩ => ⟨S8x4096x512, .f32⟩
  | .hbm, ⟨107, _⟩ => ⟨S8x4096x256, .bf16⟩
  | .hbm, ⟨108, _⟩ => ⟨S8x4096x256, .bf16⟩
  | .hbm, ⟨109, _⟩ => ⟨S8x4096x256, .bf16⟩
  | .hbm, ⟨110, _⟩ => ⟨S8x4096x256, .bf16⟩
  | .hbm, ⟨111, _⟩ => ⟨S8x4096x512, .bf16⟩
  | .hbm, ⟨112, _⟩ => ⟨S8x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024x1, .i32⟩
  | .local _ .vmem, ⟨8, _⟩ => ⟨S1x1024x1, .i32⟩
  | .local _ .vmem, ⟨9, _⟩ => ⟨S1x128, .f32⟩
  | .local _ .vmem, ⟨10, _⟩ => ⟨S1x128, .f32⟩
  | .local _ .vmem, ⟨11, _⟩ => ⟨S1024x3968, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .f32⟩
  | .local _ .vmem, ⟨23, _⟩ => ⟨S1x1024x512, .f32⟩
  | .local _ .vmem, ⟨24, _⟩ => ⟨S1x1024x256, .bf16⟩
  | .local _ .vmem, ⟨25, _⟩ => ⟨S1x1024x256, .bf16⟩
  | .local _ .vmem, ⟨26, _⟩ => ⟨S1x1024x256, .bf16⟩
  | .local _ .vmem, ⟨27, _⟩ => ⟨S1x1024x256, .bf16⟩
  | .local _ .vmem, ⟨28, _⟩ => ⟨S1x1024x256, .bf16⟩
  | .local _ .vmem, ⟨29, _⟩ => ⟨S1x1024x256, .bf16⟩
  | .local _ .vmem, ⟨30, _⟩ => ⟨S1x1024x256, .bf16⟩
  | .local _ .vmem, ⟨31, _⟩ => ⟨S1x1024x256, .bf16⟩
  | .local _ .vmem, ⟨32, _⟩ => ⟨S1x1024x512, .bf16⟩
  | .local _ .vmem, ⟨33, _⟩ => ⟨S1x1024x512, .bf16⟩
  | .local _ .vmem, ⟨34, _⟩ => ⟨S1x1024x128, .f32⟩
  | .local _ .vmem, ⟨35, _⟩ => ⟨S1x1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S1024x768, .f32⟩
  | .local _ .vmem, ⟨41, _⟩ => ⟨S1024x768, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_1 : Ref sig .tc := ⟨.hbm, 43, rfl⟩
abbrev main_call0_v5 : Ref sig .tc := ⟨.hbm, 44, rfl⟩
abbrev main_call0_v6 : Ref sig .tc := ⟨.hbm, 45, rfl⟩
abbrev main_call0_c_2 : Ref sig .tc := ⟨.hbm, 46, rfl⟩
abbrev main_call0_v7 : Ref sig .tc := ⟨.hbm, 47, rfl⟩
abbrev main_call0_v8 : Ref sig .tc := ⟨.hbm, 48, rfl⟩
abbrev main_call0_c_3 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_v25 : Ref sig .tc := ⟨.hbm, 56, rfl⟩
abbrev main_c_4 : Ref sig .tc := ⟨.hbm, 57, rfl⟩
abbrev main_v26 : Ref sig .tc := ⟨.hbm, 58, rfl⟩
abbrev main_v27 : Ref sig .tc := ⟨.hbm, 59, rfl⟩
abbrev main_c_5 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_6 : Ref sig .tc := ⟨.hbm, 67, rfl⟩
abbrev main_call1_v0 : Ref sig .tc := ⟨.hbm, 68, rfl⟩
abbrev main_call1_c : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_c_1 : Ref sig .tc := ⟨.hbm, 75, rfl⟩
abbrev main_call1_v5 : Ref sig .tc := ⟨.hbm, 76, rfl⟩
abbrev main_call1_v6 : Ref sig .tc := ⟨.hbm, 77, rfl⟩
abbrev main_call1_c_2 : Ref sig .tc := ⟨.hbm, 78, rfl⟩
abbrev main_call1_v7 : Ref sig .tc := ⟨.hbm, 79, rfl⟩
abbrev main_call1_v8 : Ref sig .tc := ⟨.hbm, 80, rfl⟩
abbrev main_call1_c_3 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_v34 : Ref sig .tc := ⟨.hbm, 88, rfl⟩
abbrev main_c_7 : Ref sig .tc := ⟨.hbm, 89, rfl⟩
abbrev main_v35 : Ref sig .tc := ⟨.hbm, 90, rfl⟩
abbrev main_v36 : Ref sig .tc := ⟨.hbm, 91, rfl⟩
abbrev main_c_8 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45_0 : Ref sig .tc := ⟨.hbm, 101, rfl⟩
abbrev main_v45_1 : Ref sig .tc := ⟨.hbm, 102, rfl⟩
abbrev main_v45_2 : Ref sig .tc := ⟨.hbm, 103, rfl⟩
abbrev main_v45_3 : Ref sig .tc := ⟨.hbm, 104, rfl⟩
abbrev main_v45_4 : Ref sig .tc := ⟨.hbm, 105, rfl⟩
abbrev main_v45_5 : Ref sig .tc := ⟨.hbm, 106, rfl⟩
abbrev main_v45_6 : Ref sig .tc := ⟨.hbm, 107, rfl⟩
abbrev main_v45_7 : Ref sig .tc := ⟨.hbm, 108, rfl⟩
abbrev main_v45_8 : Ref sig .tc := ⟨.hbm, 109, rfl⟩
abbrev main_v45_9 : Ref sig .tc := ⟨.hbm, 110, rfl⟩
abbrev main_v45_10 : Ref sig .tc := ⟨.hbm, 111, rfl⟩
abbrev main_v45_11 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x3968 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Kernel2Ideal.lean ====
variable {F : FTy → Type} [FloatOps F] [Named F]
def κ : String → Option EReal := fun
  | "log2e_8" => some ((8⁻¹ * (Real.log 2)⁻¹ : ℝ) : EReal)
  | _ => none
-- ==== Reference2Ideal.lean ====
abbrev S8x4096x1024 : Shape := ⟨3, ![8, 4096, 1024]⟩
abbrev S8x4096 : Shape := ⟨2, ![8, 4096]⟩
abbrev S8x3072 : Shape := ⟨2, ![8, 3072]⟩
abbrev S1024 : Shape := ⟨1, ![1024]⟩
abbrev S1024x3864 : Shape := ⟨2, ![1024, 3864]⟩
abbrev S8x1024 : Shape := ⟨2, ![8, 1024]⟩
abbrev S_ : Shape := ⟨0, ![]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x3864 : Shape := ⟨3, ![8, 4096, 3864]⟩
abbrev S8x4096x512 : Shape := ⟨3, ![8, 4096, 512]⟩
abbrev S8x4096x768 : Shape := ⟨3, ![8, 4096, 768]⟩
abbrev S8x4096x24 : Shape := ⟨3, ![8, 4096, 24]⟩
abbrev S8x4096x8x64 : Shape := ⟨4, ![8, 4096, 8, 64]⟩
abbrev S32 : Shape := ⟨1, ![32]⟩
abbrev S1x1x32 : Shape := ⟨3, ![1, 1, 32]⟩
abbrev S8x4096x32 : Shape := ⟨3, ![8, 4096, 32]⟩
abbrev S8x4096x1x32 : Shape := ⟨4, ![8, 4096, 1, 32]⟩
abbrev S8x4096x8x32 : Shape := ⟨4, ![8, 4096, 8, 32]⟩
abbrev S8x4096x8x0 : Shape := ⟨4, ![8, 4096, 8, 0]⟩
abbrev S8 : Shape := ⟨1, ![8]⟩
abbrev S1x1x8 : Shape := ⟨3, ![1, 1, 8]⟩
abbrev S8x4096x8 : Shape := ⟨3, ![8, 4096, 8]⟩
abbrev S8x4096x1x8 : Shape := ⟨4, ![8, 4096, 1, 8]⟩
abbrev S8x4096x8x8 : Shape := ⟨4, ![8, 4096, 8, 8]⟩
abbrev S8x4096x8x48 : Shape := ⟨4, ![8, 4096, 8, 48]⟩
abbrev S8x4096x6x2x64 : Shape := ⟨5, ![8, 4096, 6, 2, 64]⟩
abbrev S8x4096x1x2x64 : Shape := ⟨5, ![8, 4096, 1, 2, 64]⟩
abbrev S8x4096x2x64 : Shape := ⟨4, ![8, 4096, 2, 64]⟩
abbrev S8x4096x2x8 : Shape := ⟨4, ![8, 4096, 2, 8]⟩
abbrev S8x4096x2x48 : Shape := ⟨4, ![8, 4096, 2, 48]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S8x4096x2x128 : Shape := ⟨4, ![8, 4096, 2, 128]⟩
abbrev S8x4096x256 : Shape := ⟨3, ![8, 4096, 256]⟩
abbrev S8x4096x128 : Shape := ⟨3, ![8, 4096, 128]⟩

abbrev nBuf : Space → Nat
  | .hbm => 313
  | .vmem => 0
  | .smem => 0
  | _ => 0

abbrev hbmTy0_0 (i : Nat) : BufTy := match i % 128 with
  | 0 => ⟨S8x4096x1024, .f32⟩
  | 1 => ⟨S8x4096, .i32⟩
  | 2 => ⟨S8x3072, .f32⟩
  | 3 => ⟨S1024, .f32⟩
  | 4 => ⟨S1024x3864, .f32⟩
  | 5 => ⟨S8x1024, .f32⟩
  | 6 => ⟨S8x1024, .f32⟩
  | 7 => ⟨S8x1024, .f32⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x1024, .f32⟩
  | 20 => ⟨S8x4096x1024, .f32⟩
  | 21 => ⟨S1x1x1024, .f32⟩
  | 22 => ⟨S8x4096x1024, .f32⟩
  | 23 => ⟨S8x4096x1024, .f32⟩
  | 24 => ⟨S8x1x1024, .f32⟩
  | 25 => ⟨S_, .f32⟩
  | 26 => ⟨S8x1x1024, .f32⟩
  | 27 => ⟨S8x1x1024, .f32⟩
  | 28 => ⟨S8x4096x1024, .f32⟩
  | 29 => ⟨S8x4096x1024, .f32⟩
  | 30 => ⟨S8x1x1024, .f32⟩
  | 31 => ⟨S8x4096x1024, .f32⟩
  | 32 => ⟨S8x4096x1024, .f32⟩
  | 33 => ⟨S8x4096x3864, .f32⟩
  | 34 => ⟨S8x4096x512, .f32⟩
  | 35 => ⟨S8x4096x512, .f32⟩
  | 36 => ⟨S8x4096x512, .f32⟩
  | 37 => ⟨S8x4096x512, .f32⟩
  | 38 => ⟨S8x4096x512, .f32⟩
  | 39 => ⟨S8x4096x768, .f32⟩
  | 40 => ⟨S8x4096x24, .f32⟩
  | 41 => ⟨S8x4096x512, .f32⟩
  | 42 => ⟨S8x4096x8x64, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S8x4096, .f32⟩
  | 52 => ⟨S8x4096x1, .f32⟩
  | 53 => ⟨S1x1x32, .f32⟩
  | 54 => ⟨S8x4096x32, .f32⟩
  | 55 => ⟨S8x4096x32, .f32⟩
  | 56 => ⟨S8x4096x32, .f32⟩
  | 57 => ⟨S8x4096x32, .f32⟩
  | 58 => ⟨S8x4096x1x32, .f32⟩
  | 59 => ⟨S8x4096x32, .f32⟩
  | 60 => ⟨S8x4096x1x32, .f32⟩
  | 61 => ⟨S8x4096x8x32, .f32⟩
  | 62 => ⟨S8x4096x8x32, .f32⟩
  | 63 => ⟨S8x4096x8x32, .f32⟩
  | 64 => ⟨S8x4096x8x32, .f32⟩
  | 65 => ⟨S8x4096x8x32, .f32⟩
  | 66 => ⟨S8x4096x8x32, .f32⟩
  | 67 => ⟨S8x4096x8x32, .f32⟩
  | 68 => ⟨S8x4096x8x32, .f32⟩
  | 69 => ⟨S8x4096x8x32, .f32⟩
  | 70 => ⟨S8x4096x8x32, .f32⟩
  | 71 => ⟨S8x4096x8x32, .f32⟩
  | 72 => ⟨S8x4096x8x32, .f32⟩
  | 73 => ⟨S8x4096x8x0, .f32⟩
  | 74 => ⟨S8x4096x8x64, .f32⟩
  | 75 => ⟨S_, .f32⟩
  | 76 => ⟨S8x4096x8x64, .f32⟩
  | 77 => ⟨S8x4096x8x64, .f32⟩
  | 78 => ⟨S8x4096x512, .f32⟩
  | 79 => ⟨S8x4096x512, .bf16⟩
  | 80 => ⟨S8x4096x8x64, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S8x4096, .f32⟩
  | 90 => ⟨S8x4096x1, .f32⟩
  | 91 => ⟨S1x1x32, .f32⟩
  | 92 => ⟨S8x4096x32, .f32⟩
  | 93 => ⟨S8x4096x32, .f32⟩
  | 94 => ⟨S8x4096x32, .f32⟩
  | 95 => ⟨S8x4096x32, .f32⟩
  | 96 => ⟨S8x4096x1x32, .f32⟩
  | 97 => ⟨S8x4096x32, .f32⟩
  | 98 => ⟨S8x4096x1x32, .f32⟩
  | 99 => ⟨S8x4096x8x32, .f32⟩
  | 100 => ⟨S8x4096x8x32, .f32⟩
  | 101 => ⟨S8x4096x8x32, .f32⟩
  | 102 => ⟨S8x4096x8x32, .f32⟩
  | 103 => ⟨S8x4096x8x32, .f32⟩
  | 104 => ⟨S8x4096x8x32, .f32⟩
  | 105 => ⟨S8x4096x8x32, .f32⟩
  | 106 => ⟨S8x4096x8x32, .f32⟩
  | 107 => ⟨S8x4096x8x32, .f32⟩
  | 108 => ⟨S8x4096x8x32, .f32⟩
  | 109 => ⟨S8x4096x8x32, .f32⟩
  | 110 => ⟨S8x4096x8x32, .f32⟩
  | 111 => ⟨S8x4096x8x0, .f32⟩
  | 112 => ⟨S8x4096x8x64, .f32⟩
  | 113 => ⟨S8x4096x512, .f32⟩
  | 114 => ⟨S8x4096x512, .bf16⟩
  | 115 => ⟨S8x4096x512, .bf16⟩
  | 116 => ⟨S8x4096x512, .f32⟩
  | 117 => ⟨S8x4096x512, .f32⟩
  | 118 => ⟨S_, .f32⟩
  | 119 => ⟨S8x4096x512, .f32⟩
  | 120 => ⟨S8x4096x512, .f32⟩
  | 121 => ⟨S_, .f32⟩
  | 122 => ⟨S8x4096x512, .f32⟩
  | 123 => ⟨S8x4096x512, .f32⟩
  | 124 => ⟨S8x4096x512, .f32⟩
  | 125 => ⟨S8x4096x512, .bf16⟩
  | 126 => ⟨S8x4096x8x64, .f32⟩
  | 127 => ⟨S8, .f32⟩
  | _ => ⟨S8x4096x1024, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S_, .f32⟩
  | 5 => ⟨S8, .f32⟩
  | 6 => ⟨S8, .f32⟩
  | 7 => ⟨S8x4096, .f32⟩
  | 8 => ⟨S8x4096x1, .f32⟩
  | 9 => ⟨S1x1x8, .f32⟩
  | 10 => ⟨S8x4096x8, .f32⟩
  | 11 => ⟨S8x4096x8, .f32⟩
  | 12 => ⟨S8x4096x8, .f32⟩
  | 13 => ⟨S8x4096x8, .f32⟩
  | 14 => ⟨S8x4096x1x8, .f32⟩
  | 15 => ⟨S8x4096x8, .f32⟩
  | 16 => ⟨S8x4096x1x8, .f32⟩
  | 17 => ⟨S8x4096x8x8, .f32⟩
  | 18 => ⟨S8x4096x8x8, .f32⟩
  | 19 => ⟨S8x4096x8x8, .f32⟩
  | 20 => ⟨S8x4096x8x8, .f32⟩
  | 21 => ⟨S8x4096x8x8, .f32⟩
  | 22 => ⟨S8x4096x8x8, .f32⟩
  | 23 => ⟨S8x4096x8x8, .f32⟩
  | 24 => ⟨S8x4096x8x8, .f32⟩
  | 25 => ⟨S8x4096x8x8, .f32⟩
  | 26 => ⟨S8x4096x8x8, .f32⟩
  | 27 => ⟨S8x4096x8x8, .f32⟩
  | 28 => ⟨S8x4096x8x8, .f32⟩
  | 29 => ⟨S8x4096x8x48, .f32⟩
  | 30 => ⟨S8x4096x8x64, .f32⟩
  | 31 => ⟨S_, .f32⟩
  | 32 => ⟨S8x4096x8x64, .f32⟩
  | 33 => ⟨S8x4096x8x64, .f32⟩
  | 34 => ⟨S_, .f32⟩
  | 35 => ⟨S_, .f32⟩
  | 36 => ⟨S_, .f32⟩
  | 37 => ⟨S8x4096x8x64, .f32⟩
  | 38 => ⟨S8x4096x8x64, .f32⟩
  | 39 => ⟨S8x4096x512, .f32⟩
  | 40 => ⟨S8x4096x512, .bf16⟩
  | 41 => ⟨S8x4096x6x2x64, .f32⟩
  | 42 => ⟨S8x4096x1x2x64, .f32⟩
  | 43 => ⟨S8x4096x2x64, .f32⟩
  | 44 => ⟨S8x4096x1x2x64, .f32⟩
  | 45 => ⟨S8x4096x2x64, .f32⟩
  | 46 => ⟨S8x4096x1x2x64, .f32⟩
  | 47 => ⟨S8x4096x2x64, .f32⟩
  | 48 => ⟨S8x4096x1x2x64, .f32⟩
  | 49 => ⟨S8x4096x2x64, .f32⟩
  | 50 => ⟨S8x4096x1x2x64, .f32⟩
  | 51 => ⟨S8x4096x2x64, .f32⟩
  | 52 => ⟨S8x4096x1x2x64, .f32⟩
  | 53 => ⟨S8x4096x2x64, .f32⟩
  | 54 => ⟨S8, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S8x4096, .f32⟩
  | 63 => ⟨S8x4096x1, .f32⟩
  | 64 => ⟨S1x1x8, .f32⟩
  | 65 => ⟨S8x4096x8, .f32⟩
  | 66 => ⟨S8x4096x8, .f32⟩
  | 67 => ⟨S8x4096x8, .f32⟩
  | 68 => ⟨S8x4096x8, .f32⟩
  | 69 => ⟨S8x4096x1x8, .f32⟩
  | 70 => ⟨S8x4096x8, .f32⟩
  | 71 => ⟨S8x4096x1x8, .f32⟩
  | 72 => ⟨S8x4096x2x8, .f32⟩
  | 73 => ⟨S8x4096x2x8, .f32⟩
  | 74 => ⟨S8x4096x2x8, .f32⟩
  | 75 => ⟨S8x4096x2x8, .f32⟩
  | 76 => ⟨S8x4096x2x8, .f32⟩
  | 77 => ⟨S8x4096x2x8, .f32⟩
  | 78 => ⟨S8x4096x2x8, .f32⟩
  | 79 => ⟨S8x4096x2x8, .f32⟩
  | 80 => ⟨S8x4096x2x8, .f32⟩
  | 81 => ⟨S8x4096x2x8, .f32⟩
  | 82 => ⟨S8x4096x2x8, .f32⟩
  | 83 => ⟨S8x4096x2x8, .f32⟩
  | 84 => ⟨S8x4096x2x48, .f32⟩
  | 85 => ⟨S8x4096x2x64, .f32⟩
  | 86 => ⟨S8, .f32⟩
  | 87 => ⟨S8, .f32⟩
  | 88 => ⟨S_, .f32⟩
  | 89 => ⟨S8, .f32⟩
  | 90 => ⟨S8, .f32⟩
  | 91 => ⟨S_, .f32⟩
  | 92 => ⟨S8, .f32⟩
  | 93 => ⟨S8, .f32⟩
  | 94 => ⟨S8x4096, .f32⟩
  | 95 => ⟨S8x4096x1, .f32⟩
  | 96 => ⟨S1x1x8, .f32⟩
  | 97 => ⟨S8x4096x8, .f32⟩
  | 98 => ⟨S8x4096x8, .f32⟩
  | 99 => ⟨S8x4096x8, .f32⟩
  | 100 => ⟨S8x4096x8, .f32⟩
  | 101 => ⟨S8x4096x1x8, .f32⟩
  | 102 => ⟨S8x4096x8, .f32⟩
  | 103 => ⟨S8x4096x1x8, .f32⟩
  | 104 => ⟨S8x4096x2x8, .f32⟩
  | 105 => ⟨S8x4096x2x8, .f32⟩
  | 106 => ⟨S8x4096x2x8, .f32⟩
  | 107 => ⟨S8x4096x2x8, .f32⟩
  | 108 => ⟨S8x4096x2x8, .f32⟩
  | 109 => ⟨S8x4096x2x8, .f32⟩
  | 110 => ⟨S8x4096x2x8, .f32⟩
  | 111 => ⟨S8x4096x2x8, .f32⟩
  | 112 => ⟨S8x4096x2x8, .f32⟩
  | 113 => ⟨S8x4096x2x8, .f32⟩
  | 114 => ⟨S8x4096x2x8, .f32⟩
  | 115 => ⟨S8x4096x2x8, .f32⟩
  | 116 => ⟨S8x4096x2x48, .f32⟩
  | 117 => ⟨S8x4096x2x64, .f32⟩
  | 118 => ⟨S_, .f32⟩
  | 119 => ⟨S8x4096x2x64, .f32⟩
  | 120 => ⟨S4096, .i32⟩
  | 121 => ⟨S_, .i32⟩
  | 122 => ⟨S_, .i32⟩
  | 123 => ⟨S4096, .i32⟩
  | 124 => ⟨S4096, .i32⟩
  | 125 => ⟨S4096, .i32⟩
  | 126 => ⟨S_, .i32⟩
  | 127 => ⟨S4096, .i32⟩
  | _ => ⟨S8x4096x1024, .f32⟩

abbrev hbmTy0_2 (i : Nat) : BufTy := match i % 128 with
  | 0 => ⟨S4096, .i1⟩
  | 1 => ⟨S4096, .i32⟩
  | 2 => ⟨S4096, .i32⟩
  | 3 => ⟨S_, .i32⟩
  | 4 => ⟨S4096, .i32⟩
  | 5 => ⟨S4096, .i1⟩
  | 6 => ⟨S4096, .i1⟩
  | 7 => ⟨S_, .i32⟩
  | 8 => ⟨S4096, .i32⟩
  | 9 => ⟨S4096, .i32⟩
  | 10 => ⟨S4096, .i32⟩
  | 11 => ⟨S4096x1, .i32⟩
  | 12 => ⟨S1x64, .i32⟩
  | 13 => ⟨S4096x64, .i32⟩
  | 14 => ⟨S4096x64, .i32⟩
  | 15 => ⟨S4096x64, .i1⟩
  | 16 => ⟨S4096x64, .f32⟩
  | 17 => ⟨S1x4096x1x64, .f32⟩
  | 18 => ⟨S8x4096x2x64, .f32⟩
  | 19 => ⟨S8x4096x2x128, .f32⟩
  | 20 => ⟨S8x4096x256, .f32⟩
  | 21 => ⟨S8x4096x2x128, .f32⟩
  | 22 => ⟨S8x4096x256, .f32⟩
  | 23 => ⟨S8x4096x512, .f32⟩
  | 24 => ⟨S8x4096x2x128, .f32⟩
  | 25 => ⟨S8x4096x256, .f32⟩
  | 26 => ⟨S8x4096x256, .bf16⟩
  | 27 => ⟨S8x4096x2x128, .f32⟩
  | 28 => ⟨S8x4096x256, .f32⟩
  | 29 => ⟨S8x4096x256, .bf16⟩
  | 30 => ⟨S8x4096x2x128, .f32⟩
  | 31 => ⟨S8x4096x256, .f32⟩
  | 32 => ⟨S8x4096x256, .bf16⟩
  | 33 => ⟨S8x4096x2x128, .f32⟩
  | 34 => ⟨S8x4096x256, .f32⟩
  | 35 => ⟨S8x4096x256, .bf16⟩
  | 36 => ⟨S8x4096x512, .f32⟩
  | 37 => ⟨S8x4096x512, .f32⟩
  | 38 => ⟨S_, .f32⟩
  | 39 => ⟨S8x4096x512, .f32⟩
  | 40 => ⟨S8x4096x512, .f32⟩
  | 41 => ⟨S_, .f32⟩
  | 42 => ⟨S8x4096x512, .f32⟩
  | 43 => ⟨S8x4096x512, .f32⟩
  | 44 => ⟨S8x4096x512, .f32⟩
  | 45 => ⟨S8x4096x512, .bf16⟩
  | 46 => ⟨S_, .i32⟩
  | 47 => ⟨S_, .f32⟩
  | 48 => ⟨S8x4096x128, .f32⟩
  | 49 => ⟨S8x4096x128, .f32⟩
  | 50 => ⟨S8x4096x128, .f32⟩
  | 51 => ⟨S_, .f32⟩
  | 52 => ⟨S8x4096x128, .f32⟩
  | 53 => ⟨S8x4096x128, .f32⟩
  | 54 => ⟨S_, .f32⟩
  | 55 => ⟨S8x4096x128, .f32⟩
  | 56 => ⟨S8x4096x128, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_5 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_6 : Ref sig .tc := ⟨.hbm, 83, rfl⟩
abbrev main_v71 : Ref sig .tc := ⟨.hbm, 84, rfl⟩
abbrev main_v72 : Ref sig .tc := ⟨.hbm, 85, rfl⟩
abbrev main_cst_7 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_call0_v0 : Ref sig .tc := ⟨.hbm, 116, rfl⟩
abbrev main_call0_v1 : Ref sig .tc := ⟨.hbm, 117, rfl⟩
abbrev main_call0_cst : Ref sig .tc := ⟨.hbm, 118, rfl⟩
abbrev main_call0_v2 : Ref sig .tc := ⟨.hbm, 119, rfl⟩
abbrev main_call0_v3 : Ref sig .tc := ⟨.hbm, 120, rfl⟩
abbrev main_call0_cst_0 : Ref sig .tc := ⟨.hbm, 121, rfl⟩
abbrev main_call0_v4 : Ref sig .tc := ⟨.hbm, 122, rfl⟩
abbrev main_call0_v5 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_8 : Ref sig .tc := ⟨.hbm, 129, rfl⟩
abbrev main_v107 : Ref sig .tc := ⟨.hbm, 130, rfl⟩
abbrev main_v108 : Ref sig .tc := ⟨.hbm, 131, rfl⟩
abbrev main_cst_9 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_cst_10 : Ref sig .tc := ⟨.hbm, 159, rfl⟩
abbrev main_v135 : Ref sig .tc := ⟨.hbm, 160, rfl⟩
abbrev main_v136 : Ref sig .tc := ⟨.hbm, 161, rfl⟩
abbrev main_cst_11 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_12 : Ref sig .tc := ⟨.hbm, 184, rfl⟩
abbrev main_v158 : Ref sig .tc := ⟨.hbm, 185, rfl⟩
abbrev main_v159 : Ref sig .tc := ⟨.hbm, 186, rfl⟩
abbrev main_cst_13 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_cst_14 : Ref sig .tc := ⟨.hbm, 216, rfl⟩
abbrev main_v188 : Ref sig .tc := ⟨.hbm, 217, rfl⟩
abbrev main_v189 : Ref sig .tc := ⟨.hbm, 218, rfl⟩
abbrev main_cst_15 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_cst_16 : Ref sig .tc := ⟨.hbm, 246, rfl⟩
abbrev main_v216 : Ref sig .tc := ⟨.hbm, 247, rfl⟩
abbrev main_v217 : Ref sig .tc := ⟨.hbm, 248, rfl⟩
abbrev main_c : Ref sig .tc := ⟨.hbm, 249, rfl⟩
abbrev main_call1_v0 : Ref sig .tc := ⟨.hbm, 250, rfl⟩
abbrev main_call1_v1 : Ref sig .tc := ⟨.hbm, 251, rfl⟩
abbrev main_call1_v2 : Ref sig .tc := ⟨.hbm, 252, rfl⟩
abbrev main_call1_v3 : Ref sig .tc := ⟨.hbm, 253, rfl⟩
abbrev main_call1_v4 : Ref sig .tc := ⟨.hbm, 254, rfl⟩
abbrev main_call1_v5 : Ref sig .tc := ⟨.hbm, 255, rfl⟩
abbrev main_call1_v6 : Ref sig .tc := ⟨.hbm, 256, rfl⟩
abbrev main_call1_v7 : Ref sig .tc := ⟨.hbm, 257, rfl⟩
abbrev main_call1_v8 : Ref sig .tc := ⟨.hbm, 258, rfl⟩
abbrev main_call1_c : Ref sig .tc := ⟨.hbm, 259, rfl⟩
abbrev main_call1_v9 : Ref sig .tc := ⟨.hbm, 260, rfl⟩
abbrev main_call1_v10 : Ref sig .tc := ⟨.hbm, 261, rfl⟩
abbrev main_call1_v11 : Ref sig .tc := ⟨.hbm, 262, rfl⟩
abbrev main_call1_c_0 : Ref sig .tc := ⟨.hbm, 263, rfl⟩
abbrev main_call1_v12 : Ref sig .tc := ⟨.hbm, 264, rfl⟩
abbrev main_call1_v13 : Ref sig .tc := ⟨.hbm, 265, rfl⟩
abbrev main_v218 : Ref sig .tc := ⟨.hbm, 266, rfl⟩
abbrev main_call2_v0 : Ref sig .tc := ⟨.hbm, 267, rfl⟩
abbrev main_call2_v1 : Ref sig .tc := ⟨.hbm, 268, rfl⟩
abbrev main_call2_v2 : Ref sig .tc := ⟨.hbm, 269, rfl⟩
abbrev main_call2_v3 : Ref sig .tc := ⟨.hbm, 270, rfl⟩
abbrev main_call2_v4 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_call3_v0 : Ref sig .tc := ⟨.hbm, 292, rfl⟩
abbrev main_call3_v1 : Ref sig .tc := ⟨.hbm, 293, rfl⟩
abbrev main_call3_cst : Ref sig .tc := ⟨.hbm, 294, rfl⟩
abbrev main_call3_v2 : Ref sig .tc := ⟨.hbm, 295, rfl⟩
abbrev main_call3_v3 : Ref sig .tc := ⟨.hbm, 296, rfl⟩
abbrev main_call3_cst_0 : Ref sig .tc := ⟨.hbm, 297, rfl⟩
abbrev main_call3_v4 : Ref sig .tc := ⟨.hbm, 298, rfl⟩
abbrev main_call3_v5 : Ref sig .tc := ⟨.hbm, 299, rfl⟩
abbrev main_v239 : Ref sig .tc := ⟨.hbm, 300, rfl⟩
abbrev main_v240 : Ref sig .tc := ⟨.hbm, 301, rfl⟩
abbrev main_c_17 : Ref sig .tc := ⟨.hbm, 302, rfl⟩
abbrev main_call4_v0 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_cst_18 : Ref sig .tc := ⟨.hbm, 307, rfl⟩
abbrev main_v244 : Ref sig .tc := ⟨.hbm, 308, rfl⟩
abbrev main_v245 : Ref sig .tc := ⟨.hbm, 309, rfl⟩
abbrev main_cst_19 : Ref sig .tc := ⟨.hbm, 310, rfl⟩
abbrev main_v246 : Ref sig .tc := ⟨.hbm, 311, rfl⟩
abbrev main_v247 : Ref sig .tc := ⟨.hbm, 312, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x3072 : Shape := ⟨2, ![8, 3072]⟩
abbrev S1024 : Shape := ⟨1, ![1024]⟩
abbrev S8x4096x512 : Shape := ⟨3, ![8, 4096, 512]⟩
abbrev S8x4096x128 : Shape := ⟨3, ![8, 4096, 128]⟩
abbrev S1024x1024 : Shape := ⟨2, ![1024, 1024]⟩
abbrev S8x1024 : Shape := ⟨2, ![8, 1024]⟩
abbrev S8x1x1024 : Shape := ⟨3, ![8, 1, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1x1024x128 : Shape := ⟨3, ![1, 1024, 128]⟩
abbrev S1024x128 : Shape := ⟨2, ![1024, 128]⟩
abbrev S128x512 : Shape := ⟨2, ![128, 512]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 19
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x3072, .f32⟩
  | .hbm, ⟨2, _⟩ => ⟨S1024, .f32⟩
  | .hbm, ⟨3, _⟩ => ⟨S8x4096x512, .bf16⟩
  | .hbm, ⟨4, _⟩ => ⟨S8x4096x512, .bf16⟩
  | .hbm, ⟨5, _⟩ => ⟨S8x4096x1024, .bf16⟩
  | .hbm, ⟨6, _⟩ => ⟨S8x4096x1024, .bf16⟩
  | .hbm, ⟨7, _⟩ => ⟨S8x4096x128, .f32⟩
  | .hbm, ⟨8, _⟩ => ⟨S8x4096x512, .bf16⟩
  | .hbm, ⟨9, _⟩ => ⟨S1024x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S1x1024, .f32⟩
  | .hbm, ⟨17, _⟩ => ⟨S1024x1024, .bf16⟩
  | .hbm, ⟨18, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x128, .f32⟩
  | .local _ .vmem, ⟨14, _⟩ => ⟨S1x1024x128, .f32⟩
  | .local _ .vmem, ⟨15, _⟩ => ⟨S1x1024x512, .bf16⟩
  | .local _ .vmem, ⟨16, _⟩ => ⟨S1x1024x512, .bf16⟩
  | .local _ .vmem, ⟨17, _⟩ => ⟨S1024x1024, .bf16⟩
  | .local _ .vmem, ⟨18, _⟩ => ⟨S1x1024x1024, .f32⟩
  | .local _ .vmem, ⟨19, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S8x4096x1024 : Shape := ⟨3, ![8, 4096, 1024]⟩
abbrev S8x3072 : Shape := ⟨2, ![8, 3072]⟩
abbrev S1024 : Shape := ⟨1, ![1024]⟩
abbrev S8x4096x512 : Shape := ⟨3, ![8, 4096, 512]⟩
abbrev S8x4096x128 : Shape := ⟨3, ![8, 4096, 128]⟩
abbrev S1024x1024 : Shape := ⟨2, ![1024, 1024]⟩
abbrev S8x1024 : Shape := ⟨2, ![8, 1024]⟩
abbrev S8x4096x24 : Shape := ⟨3, ![8, 4096, 24]⟩
abbrev S8x4096x8x3 : Shape := ⟨4, ![8, 4096, 8, 3]⟩
abbrev S8x4096x8x1 : Shape := ⟨4, ![8, 4096, 8, 1]⟩
abbrev S8x4096x8x64 : Shape := ⟨4, ![8, 4096, 8, 64]⟩
abbrev S8x4096x8x128 : Shape := ⟨4, ![8, 4096, 8, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3072, .f32⟩
  | .hbm, ⟨2, _⟩ => ⟨S1024, .f32⟩
  | .hbm, ⟨3, _⟩ => ⟨S8x4096x512, .bf16⟩
  | .hbm, ⟨4, _⟩ => ⟨S8x4096x512, .bf16⟩
  | .hbm, ⟨5, _⟩ => ⟨S8x4096x1024, .bf16⟩
  | .hbm, ⟨6, _⟩ => ⟨S8x4096x1024, .bf16⟩
  | .hbm, ⟨7, _⟩ => ⟨S8x4096x128, .f32⟩
  | .hbm, ⟨8, _⟩ => ⟨S8x4096x512, .bf16⟩
  | .hbm, ⟨9, _⟩ => ⟨S1024x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x4096x24, .f32⟩
  | .hbm, ⟨14, _⟩ => ⟨S8x4096x8x3, .f32⟩
  | .hbm, ⟨15, _⟩ => ⟨S8x4096x8x1, .f32⟩
  | .hbm, ⟨16, _⟩ => ⟨S8x4096x512, .f32⟩
  | .hbm, ⟨17, _⟩ => ⟨S8x4096x8x64, .f32⟩
  | .hbm, ⟨18, _⟩ => ⟨S8x4096x8x64, .f32⟩
  | .hbm, ⟨19, _⟩ => ⟨S8x4096x8x64, .f32⟩
  | .hbm, ⟨20, _⟩ => ⟨S8x4096x8x1, .f32⟩
  | .hbm, ⟨21, _⟩ => ⟨S8x4096x1024, .f32⟩
  | .hbm, ⟨22, _⟩ => ⟨S8x4096x8x128, .f32⟩
  | .hbm, ⟨23, _⟩ => ⟨S8x4096x8x64, .f32⟩
  | .hbm, ⟨24, _⟩ => ⟨S8x4096x1024, .f32⟩
  | .hbm, ⟨25, _⟩ => ⟨S8x4096x8x128, .f32⟩
  | .hbm, ⟨26, _⟩ => ⟨S8x4096x8x64, .f32⟩
  | .hbm, ⟨27, _⟩ => ⟨S_, .f32⟩
  | .hbm, ⟨28, _⟩ => ⟨S8x4096x8x64, .f32⟩
  | .hbm, ⟨29, _⟩ => ⟨S8x4096x8x64, .f32⟩
  | .hbm, ⟨30, _⟩ => ⟨S8x4096x8x64, .f32⟩
  | .hbm, ⟨31, _⟩ => ⟨S8x4096x8x64, .f32⟩
  | .hbm, ⟨32, _⟩ => ⟨S8x4096x8x64, .f32⟩
  | .hbm, ⟨33, _⟩ => ⟨S8x4096x8x64, .f32⟩
  | .hbm, ⟨34, _⟩ => ⟨S8x4096x8x1, .f32⟩
  | .hbm, ⟨35, _⟩ => ⟨S8x4096x1024, .f32⟩
  | .hbm, ⟨36, _⟩ => ⟨S8x4096x8x128, .f32⟩
  | .hbm, ⟨37, _⟩ => ⟨S8x4096x8x64, .f32⟩
  | .hbm, ⟨38, _⟩ => ⟨S8x4096x1024, .f32⟩
  | .hbm, ⟨39, _⟩ => ⟨S8x4096x8x128, .f32⟩
  | .hbm, ⟨40, _⟩ => ⟨S8x4096x8x64, .f32⟩
  | .hbm, ⟨41, _⟩ => ⟨S_, .f32⟩
  | .hbm, ⟨42, _⟩ => ⟨S8x4096x8x64, .f32⟩
  | .hbm, ⟨43, _⟩ => ⟨S8x4096x8x64, .f32⟩
  | .hbm, ⟨44, _⟩ => ⟨S8x4096x8x64, .f32⟩
  | .hbm, ⟨45, _⟩ => ⟨S8x4096x8x64, .f32⟩
  | .hbm, ⟨46, _⟩ => ⟨S8x4096x8x64, .f32⟩
  | .hbm, ⟨47, _⟩ => ⟨S8x4096x8x64, .f32⟩
  | .hbm, ⟨48, _⟩ => ⟨S8x4096x512, .f32⟩
  | .hbm, ⟨49, _⟩ => ⟨S8x4096x512, .f32⟩
  | .hbm, ⟨50, _⟩ => ⟨S8x4096x512, .f32⟩
  | .hbm, ⟨51, _⟩ => ⟨S8x4096x512, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1, .f32⟩
  | .hbm, ⟨65, _⟩ => ⟨S8x4096x1024, .f32⟩
  | .hbm, ⟨66, _⟩ => ⟨S8x4096x1024, .f32⟩
  | .hbm, ⟨67, _⟩ => ⟨S1x1x1024, .f32⟩
  | .hbm, ⟨68, _⟩ => ⟨S8x4096x1024, .f32⟩
  | .hbm, ⟨69, _⟩ => ⟨S8x4096x1024, .f32⟩
  | .hbm, ⟨70, _⟩ => ⟨S8x1x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_1 : Ref sig .tc := ⟨.hbm, 55, rfl⟩
abbrev main_v43 : Ref sig .tc := ⟨.hbm, 56, rfl⟩
abbrev main_v44 : Ref sig .tc := ⟨.hbm, 57, rfl⟩
abbrev main_cst_2 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Kernel4.lean ====
abbrev S8x1024 : Shape := ⟨2, ![8, 1024]⟩
abbrev S1x1024x3072 : Shape := ⟨3, ![1, 1024, 3072]⟩
abbrev S1x3072 : Shape := ⟨2, ![1, 3072]⟩
abbrev S1x1x3072 : Shape := ⟨3, ![1, 1, 3072]⟩
abbrev S8x3072 : Shape := ⟨2, ![8, 3072]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x3072, .f32⟩
  | .hbm, ⟨2, _⟩ => ⟨S1x3072, .f32⟩
  | .hbm, ⟨3, _⟩ => ⟨S1x1x3072, .f32⟩
  | .hbm, ⟨4, _⟩ => ⟨S8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1x1024x3072 : Shape := ⟨3, ![1, 1024, 3072]⟩
abbrev S1x3072 : Shape := ⟨2, ![1, 3072]⟩
abbrev S_ : Shape := ⟨0, ![]⟩
abbrev S1024x3072 : Shape := ⟨2, ![1024, 3072]⟩
abbrev S8x3072 : Shape := ⟨2, ![8, 3072]⟩
abbrev S3072 : Shape := ⟨1, ![3072]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x3072, .f32⟩
  | .hbm, ⟨2, _⟩ => ⟨S1x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x3072, .f32⟩
  | .hbm, ⟨13, _⟩ => ⟨S8x3072, .f32⟩
  | .hbm, ⟨14, _⟩ => ⟨S3072, .f32⟩
  | .hbm, ⟨15, _⟩ => ⟨S1x3072, .f32⟩
  | .hbm, ⟨16, _⟩ => ⟨S8x3072, .f32⟩
  | .hbm, ⟨17, _⟩ => ⟨S8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel5.lean ====
abbrev S8x4096x512 : Shape := ⟨3, ![8, 4096, 512]⟩
abbrev S8x4096 : Shape := ⟨2, ![8, 4096]⟩
abbrev S32x64 : Shape := ⟨2, ![32, 64]⟩
abbrev S2048x256 : Shape := ⟨2, ![2048, 256]⟩
abbrev S256x64 : Shape := ⟨2, ![256, 64]⟩
abbrev S255 : Shape := ⟨1, ![255]⟩
abbrev S128 : Shape := ⟨1, ![128]⟩
abbrev S8 : Shape := ⟨1, ![8]⟩
abbrev S_ : Shape := ⟨0, ![]⟩
abbrev S128x1 : Shape := ⟨2, ![128, 1]⟩
abbrev S1x128 : Shape := ⟨2, ![1, 128]⟩
abbrev S1x32x64 : Shape := ⟨3, ![1, 32, 64]⟩
abbrev S2x32x64 : Shape := ⟨3, ![2, 32, 64]⟩
abbrev S2x16x128 : Shape := ⟨3, ![2, 16, 128]⟩
abbrev S1x2048x256 : Shape := ⟨3, ![1, 2048, 256]⟩
abbrev S2x2048x256 : Shape := ⟨3, ![2, 2048, 256]⟩
abbrev S2x16x128x256 : Shape := ⟨4, ![2, 16, 128, 256]⟩
abbrev S1x256x64 : Shape := ⟨3, ![1, 256, 64]⟩
abbrev S2x256x64 : Shape := ⟨3, ![2, 256, 64]⟩
abbrev S2x256x128 : Shape := ⟨3, ![2, 256, 128]⟩
abbrev S255x1 : Shape := ⟨2, ![255, 1]⟩
abbrev S8x255 : Shape := ⟨2, ![8, 255]⟩
abbrev S8x256 : Shape := ⟨2, ![8, 256]⟩
abbrev S8x256x1 : Shape := ⟨3, ![8, 256, 1]⟩
abbrev S8x2x2x256x128 : Shape := ⟨5, ![8, 2, 2, 256, 128]⟩
abbrev S1x4096x128 : Shape := ⟨3, ![1, 4096, 128]⟩
abbrev S1x16x128 : Shape := ⟨3, ![1, 16, 128]⟩
abbrev S1x16x128x256 : Shape := ⟨4, ![1, 16, 128, 256]⟩
abbrev S1x256x128 : Shape := ⟨3, ![1, 256, 128]⟩
abbrev S1x256x1 : Shape := ⟨3, ![1, 256, 1]⟩
abbrev S1x1x1x256x128 : Shape := ⟨5, ![1, 1, 1, 256, 128]⟩
abbrev S256x128 : Shape := ⟨2, ![256, 128]⟩
abbrev S256x256 : Shape := ⟨2, ![256, 256]⟩
abbrev S1x1x128 : Shape := ⟨3, ![1, 1, 128]⟩
abbrev S1x1x128x256 : Shape := ⟨4, ![1, 1, 128, 256]⟩
abbrev S128x256 : Shape := ⟨2, ![128, 256]⟩
abbrev S256x1 : Shape := ⟨2, ![256, 1]⟩

abbrev nBuf : Space → Nat
  | .hbm => 76
  | .vmem => 13
  | .smem => 0
  | _ => 0

abbrev bufTy : (tb : Table) → Fin (tcTables nBuf tb) → BufTy
  | .hbm, ⟨0, _⟩ => ⟨S8x4096x512, .f32⟩
  | .hbm, ⟨1, _⟩ => ⟨S8x4096, .i32⟩
  | .hbm, ⟨2, _⟩ => ⟨S32x64, .f32⟩
  | .hbm, ⟨3, _⟩ => ⟨S2048x256, .f32⟩
  | .hbm, ⟨4, _⟩ => ⟨S256x64, .f32⟩
  | .hbm, ⟨5, _⟩ => ⟨S32x64, .f32⟩
  | .hbm, ⟨6, _⟩ => ⟨S2048x256, .f32⟩
  | .hbm, ⟨7, _⟩ => ⟨S256x64, .f32⟩
  | .hbm, ⟨8, _⟩ => ⟨S255, .i32⟩
  | .hbm, ⟨9, _⟩ => ⟨S255, .i1⟩
  | .hbm, ⟨10, _⟩ => ⟨S128, .i32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .i32⟩
  | .hbm, ⟨34, _⟩ => ⟨S_, .i1⟩
  | .hbm, ⟨35, _⟩ => ⟨S128, .i1⟩
  | .hbm, ⟨36, _⟩ => ⟨S128, .i1⟩
  | .hbm, ⟨37, _⟩ => ⟨S128, .i1⟩
  | .hbm, ⟨38, _⟩ => ⟨S128, .i32⟩
  | .hbm, ⟨39, _⟩ => ⟨S128, .i32⟩
  | .hbm, ⟨40, _⟩ => ⟨S128, .i32⟩
  | .hbm, ⟨41, _⟩ => ⟨S_, .i32⟩
  | .hbm, ⟨42, _⟩ => ⟨S128, .i32⟩
  | .hbm, ⟨43, _⟩ => ⟨S128, .i1⟩
  | .hbm, ⟨44, _⟩ => ⟨S_, .i32⟩
  | .hbm, ⟨45, _⟩ => ⟨S128, .i32⟩
  | .hbm, ⟨46, _⟩ => ⟨S128, .i32⟩
  | .hbm, ⟨47, _⟩ => ⟨S128, .i32⟩
  | .hbm, ⟨48, _⟩ => ⟨S128x1, .i32⟩
  | .hbm, ⟨49, _⟩ => ⟨S128, .f32⟩
  | .hbm, ⟨50, _⟩ => ⟨S1x128, .f32⟩
  | .hbm, ⟨51, _⟩ => ⟨S1x32x64, .f32⟩
  | .hbm, ⟨52, _⟩ => ⟨S1x32x64, .f32⟩
  | .hbm, ⟨53, _⟩ => ⟨S2x32x64, .f32⟩
  | .hbm, ⟨54, _⟩ => ⟨S2x16x128, .f32⟩
  | .hbm, ⟨55, _⟩ => ⟨S1x2048x256, .f32⟩
  | .hbm, ⟨56, _⟩ => ⟨S1x2048x256, .f32⟩
  | .hbm, ⟨57, _⟩ => ⟨S2x2048x256, .f32⟩
  | .hbm, ⟨58, _⟩ => ⟨S2x16x128x256, .f32⟩
  | .hbm, ⟨59, _⟩ => ⟨S2x16x128x256, .bf16⟩
  | .hbm, ⟨60, _⟩ => ⟨S1x256x64, .f32⟩
  | .hbm, ⟨61, _⟩ => ⟨S1x256x64, .f32⟩
  | .hbm, ⟨62, _⟩ => ⟨S2x256x64, .f32⟩
  | .hbm, ⟨63, _⟩ => ⟨S2x256x128, .f32⟩
  | .hbm, ⟨64, _⟩ => ⟨S2x256x128, .bf16⟩
  | .hbm, ⟨65, _⟩ => ⟨S_, .i32⟩
  | .hbm, ⟨66, _⟩ => ⟨S255, .i32⟩
  | .hbm, ⟨67, _⟩ => ⟨S255, .i32⟩
  | .hbm, ⟨68, _⟩ => ⟨S255, .i32⟩
  | .hbm, ⟨69, _⟩ => ⟨S255x1, .i32⟩
  | .hbm, ⟨70, _⟩ => ⟨S8x255, .i32⟩
  | .hbm, ⟨71, _⟩ => ⟨S_, .i32⟩
  | .hbm, ⟨72, _⟩ => ⟨S_, .i32⟩
  | .hbm, ⟨73, _⟩ => ⟨S8x256, .i32⟩
  | .hbm, ⟨74, _⟩ => ⟨S8x256x1, .i32⟩
  | .hbm, ⟨75, _⟩ => ⟨S8x2x2x256x128, .bf16⟩
  | .local _ .vmem, ⟨0, _⟩ => ⟨S1x4096x128, .f32⟩
  | .local _ .vmem, ⟨1, _⟩ => ⟨S1x4096x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128x256, .bf16⟩
  | .local _ .vmem, ⟨5, _⟩ => ⟨S1x16x128x256, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x1, .i32⟩
  | .local _ .vmem, ⟨9, _⟩ => ⟨S1x256x1, .i32⟩
  | .local _ .vmem, ⟨10, _⟩ => ⟨S1x128, .f32⟩
  | .local _ .vmem, ⟨11, _⟩ => ⟨S1x1x1x256x128, .bf16⟩
  | .local _ .vmem, ⟨12, _⟩ => ⟨S1x1x1x256x128, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v7 : Ref sig .tc := ⟨.hbm, 40, rfl⟩
abbrev main_c_3 : Ref sig .tc := ⟨.hbm, 41, rfl⟩
abbrev main_v8 : Ref sig .tc := ⟨.hbm, 42, rfl⟩
abbrev main_v9 : Ref sig .tc := ⟨.hbm, 43, rfl⟩
abbrev main_c_4 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_c_5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_6 : Ref sig .tc := ⟨.hbm, 71, rfl⟩
abbrev main_call1_v0 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, c0_i32.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference5Ideal.lean ====
abbrev S8x4096x512 : Shape := ⟨3, ![8, 4096, 512]⟩
abbrev S8x4096 : Shape := ⟨2, ![8, 4096]⟩
abbrev S32x64 : Shape := ⟨2, ![32, 64]⟩
abbrev S2048x256 : Shape := ⟨2, ![2048, 256]⟩
abbrev S256x64 : Shape := ⟨2, ![256, 64]⟩
abbrev S255 : Shape := ⟨1, ![255]⟩
abbrev S8x2048x2x2x2x2x64 : Shape := ⟨7, ![8, 2048, 2, 2, 2, 2, 64]⟩
abbrev S8x2048x1x2x2x1x64 : Shape := ⟨7, ![8, 2048, 1, 2, 2, 1, 64]⟩
abbrev S8x2048x2x2x64 : Shape := ⟨5, ![8, 2048, 2, 2, 64]⟩
abbrev S8x2048x1x2x2x64 : Shape := ⟨6, ![8, 2048, 1, 2, 2, 64]⟩
abbrev S8x2048x2x2x2x64 : Shape := ⟨6, ![8, 2048, 2, 2, 2, 64]⟩
abbrev S8x4096x2x2x64 : Shape := ⟨5, ![8, 4096, 2, 2, 64]⟩
abbrev S_ : Shape := ⟨0, ![]⟩
abbrev S255x1 : Shape := ⟨2, ![255, 1]⟩
abbrev S8x255 : Shape := ⟨2, ![8, 255]⟩
abbrev S8x256 : Shape := ⟨2, ![8, 256]⟩
abbrev S8x4096x1x2x64 : Shape := ⟨5, ![8, 4096, 1, 2, 64]⟩
abbrev S8x4096x2x64 : Shape := ⟨4, ![8, 4096, 2, 64]⟩
abbrev S8x256x16x2x64 : Shape := ⟨5, ![8, 256, 16, 2, 64]⟩
abbrev S8x255x16x2x64 : Shape := ⟨5, ![8, 255, 16, 2, 64]⟩
abbrev S8x1x16x2x64 : Shape := ⟨5, ![8, 1, 16, 2, 64]⟩
abbrev S8x256x32x2x64 : Shape := ⟨5, ![8, 256, 32, 2, 64]⟩
abbrev S1x1x32x1x64 : Shape := ⟨5, ![1, 1, 32, 1, 64]⟩
abbrev S8x256x2x32x64 : Shape := ⟨5, ![8, 256, 2, 32, 64]⟩
abbrev S8x256x2x2048 : Shape := ⟨4, ![8, 256, 2, 2048]⟩
abbrev S8x256x2x256 : Shape := ⟨4, ![8, 256, 2, 256]⟩
abbrev S8x256x2x64 : Shape := ⟨4, ![8, 256, 2, 64]⟩
abbrev S8 : Shape := ⟨1, ![8]⟩
abbrev S8x256x1 : Shape := ⟨3, ![8, 256, 1]⟩
abbrev S1x1x8 : Shape := ⟨3, ![1, 1, 8]⟩
abbrev S8x256x8 : Shape := ⟨3, ![8, 256, 8]⟩
abbrev S8x256x1x8 : Shape := ⟨4, ![8, 256, 1, 8]⟩
abbrev S8x256x2x8 : Shape := ⟨4, ![8, 256, 2, 8]⟩
abbrev S8x256x2x48 : Shape := ⟨4, ![8, 256, 2, 48]⟩
abbrev S8x1x256x2x64 : Shape := ⟨5, ![8, 1, 256, 2, 64]⟩
abbrev S8x2x256x2x64 : Shape := ⟨5, ![8, 2, 256, 2, 64]⟩
abbrev S8x2x2x256x64 : Shape := ⟨5, ![8, 2, 2, 256, 64]⟩
abbrev S8x2x2x256x128 : Shape := ⟨5, ![8, 2, 2, 256, 128]⟩

abbrev nBuf : Space → Nat
  | .hbm => 112
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096, .i32⟩
  | .hbm, ⟨2, _⟩ => ⟨S32x64, .f32⟩
  | .hbm, ⟨3, _⟩ => ⟨S2048x256, .f32⟩
  | .hbm, ⟨4, _⟩ => ⟨S256x64, .f32⟩
  | .hbm, ⟨5, _⟩ => ⟨S32x64, .f32⟩
  | .hbm, ⟨6, _⟩ => ⟨S2048x256, .f32⟩
  | .hbm, ⟨7, _⟩ => ⟨S256x64, .f32⟩
  | .hbm, ⟨8, _⟩ => ⟨S255, .i32⟩
  | .hbm, ⟨9, _⟩ => ⟨S255, .i1⟩
  | .hbm, ⟨10, _⟩ => ⟨S8x2048x2x2x2x2x64, .f32⟩
  | .hbm, ⟨11, _⟩ => ⟨S8x2048x1x2x2x1x64, .f32⟩
  | .hbm, ⟨12, _⟩ => ⟨S8x2048x2x2x64, .f32⟩
  | .hbm, ⟨13, _⟩ => ⟨S8x2048x1x2x2x1x64, .f32⟩
  | .hbm, ⟨14, _⟩ => ⟨S8x2048x2x2x64, .f32⟩
  | .hbm, ⟨15, _⟩ => ⟨S8x2048x1x2x2x64, .f32⟩
  | .hbm, ⟨16, _⟩ => ⟨S8x2048x1x2x2x64, .f32⟩
  | .hbm, ⟨17, _⟩ => ⟨S8x2048x2x2x2x64, .f32⟩
  | .hbm, ⟨18, _⟩ => ⟨S8x4096x2x2x64, .f32⟩
  | .hbm, ⟨19, _⟩ => ⟨S_, .i32⟩
  | .hbm, ⟨20, _⟩ => ⟨S255, .i32⟩
  | .hbm, ⟨21, _⟩ => ⟨S255, .i32⟩
  | .hbm, ⟨22, _⟩ => ⟨S255, .i32⟩
  | .hbm, ⟨23, _⟩ => ⟨S255x1, .i32⟩
  | .hbm, ⟨24, _⟩ => ⟨S8x255, .i32⟩
  | .hbm, ⟨25, _⟩ => ⟨S_, .i32⟩
  | .hbm, ⟨26, _⟩ => ⟨S_, .i32⟩
  | .hbm, ⟨27, _⟩ => ⟨S8x256, .i32⟩
  | .hbm, ⟨28, _⟩ => ⟨S8x4096x1x2x64, .f32⟩
  | .hbm, ⟨29, _⟩ => ⟨S8x4096x2x64, .f32⟩
  | .hbm, ⟨30, _⟩ => ⟨S8x256x16x2x64, .f32⟩
  | .hbm, ⟨31, _⟩ => ⟨S8x255x16x2x64, .f32⟩
  | .hbm, ⟨32, _⟩ => ⟨S8x1x16x2x64, .f32⟩
  | .hbm, ⟨33, _⟩ => ⟨S8x256x16x2x64, .f32⟩
  | .hbm, ⟨34, _⟩ => ⟨S8x256x32x2x64, .f32⟩
  | .hbm, ⟨35, _⟩ => ⟨S1x1x32x1x64, .f32⟩
  | .hbm, ⟨36, _⟩ => ⟨S8x256x32x2x64, .f32⟩
  | .hbm, ⟨37, _⟩ => ⟨S8x256x32x2x64, .f32⟩
  | .hbm, ⟨38, _⟩ => ⟨S8x256x2x32x64, .f32⟩
  | .hbm, ⟨39, _⟩ => ⟨S8x256x2x2048, .f32⟩
  | .hbm, ⟨40, _⟩ => ⟨S8x256x2x256, .f32⟩
  | .hbm, ⟨41, _⟩ => ⟨S8x256x2x256, .f32⟩
  | .hbm, ⟨42, _⟩ => ⟨S8x256x2x256, .f32⟩
  | .hbm, ⟨43, _⟩ => ⟨S_, .f32⟩
  | .hbm, ⟨44, _⟩ => ⟨S8x256x2x256, .f32⟩
  | .hbm, ⟨45, _⟩ => ⟨S8x256x2x256, .f32⟩
  | .hbm, ⟨46, _⟩ => ⟨S_, .f32⟩
  | .hbm, ⟨47, _⟩ => ⟨S8x256x2x256, .f32⟩
  | .hbm, ⟨48, _⟩ => ⟨S8x256x2x256, .f32⟩
  | .hbm, ⟨49, _⟩ => ⟨S8x256x2x256, .f32⟩
  | .hbm, ⟨50, _⟩ => ⟨S8x256x2x64, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S8x256, .f32⟩
  | .hbm, ⟨60, _⟩ => ⟨S8x256x1, .f32⟩
  | .hbm, ⟨61, _⟩ => ⟨S1x1x8, .f32⟩
  | .hbm, ⟨62, _⟩ => ⟨S8x256x8, .f32⟩
  | .hbm, ⟨63, _⟩ => ⟨S8x256x8, .f32⟩
  | .hbm, ⟨64, _⟩ => ⟨S8x256x8, .f32⟩
  | .hbm, ⟨65, _⟩ => ⟨S8x256x8, .f32⟩
  | .hbm, ⟨66, _⟩ => ⟨S8x256x1x8, .f32⟩
  | .hbm, ⟨67, _⟩ => ⟨S8x256x8, .f32⟩
  | .hbm, ⟨68, _⟩ => ⟨S8x256x1x8, .f32⟩
  | .hbm, ⟨69, _⟩ => ⟨S8x256x2x8, .f32⟩
  | .hbm, ⟨70, _⟩ => ⟨S8x256x2x8, .f32⟩
  | .hbm, ⟨71, _⟩ => ⟨S8x256x2x8, .f32⟩
  | .hbm, ⟨72, _⟩ => ⟨S8x256x2x8, .f32⟩
  | .hbm, ⟨73, _⟩ => ⟨S8x256x2x8, .f32⟩
  | .hbm, ⟨74, _⟩ => ⟨S8x256x2x8, .f32⟩
  | .hbm, ⟨75, _⟩ => ⟨S8x256x2x8, .f32⟩
  | .hbm, ⟨76, _⟩ => ⟨S8x256x2x8, .f32⟩
  | .hbm, ⟨77, _⟩ => ⟨S8x256x2x8, .f32⟩
  | .hbm, ⟨78, _⟩ => ⟨S8x256x2x8, .f32⟩
  | .hbm, ⟨79, _⟩ => ⟨S8x256x2x8, .f32⟩
  | .hbm, ⟨80, _⟩ => ⟨S8x256x2x8, .f32⟩
  | .hbm, ⟨81, _⟩ => ⟨S8x256x2x48, .f32⟩
  | .hbm, ⟨82, _⟩ => ⟨S8x256x2x64, .f32⟩
  | .hbm, ⟨83, _⟩ => ⟨S8x4096x1x2x64, .f32⟩
  | .hbm, ⟨84, _⟩ => ⟨S8x4096x2x64, .f32⟩
  | .hbm, ⟨85, _⟩ => ⟨S8x256x16x2x64, .f32⟩
  | .hbm, ⟨86, _⟩ => ⟨S8x255x16x2x64, .f32⟩
  | .hbm, ⟨87, _⟩ => ⟨S8x1x16x2x64, .f32⟩
  | .hbm, ⟨88, _⟩ => ⟨S8x256x16x2x64, .f32⟩
  | .hbm, ⟨89, _⟩ => ⟨S8x256x32x2x64, .f32⟩
  | .hbm, ⟨90, _⟩ => ⟨S1x1x32x1x64, .f32⟩
  | .hbm, ⟨91, _⟩ => ⟨S8x256x32x2x64, .f32⟩
  | .hbm, ⟨92, _⟩ => ⟨S8x256x32x2x64, .f32⟩
  | .hbm, ⟨93, _⟩ => ⟨S8x256x2x32x64, .f32⟩
  | .hbm, ⟨94, _⟩ => ⟨S8x256x2x2048, .f32⟩
  | .hbm, ⟨95, _⟩ => ⟨S8x256x2x256, .f32⟩
  | .hbm, ⟨96, _⟩ => ⟨S8x256x2x256, .f32⟩
  | .hbm, ⟨97, _⟩ => ⟨S8x256x2x256, .f32⟩
  | .hbm, ⟨98, _⟩ => ⟨S_, .f32⟩
  | .hbm, ⟨99, _⟩ => ⟨S8x256x2x256, .f32⟩
  | .hbm, ⟨100, _⟩ => ⟨S8x256x2x256, .f32⟩
  | .hbm, ⟨101, _⟩ => ⟨S_, .f32⟩
  | .hbm, ⟨102, _⟩ => ⟨S8x256x2x256, .f32⟩
  | .hbm, ⟨103, _⟩ => ⟨S8x256x2x256, .f32⟩
  | .hbm, ⟨104, _⟩ => ⟨S8x256x2x256, .f32⟩
  | .hbm, ⟨105, _⟩ => ⟨S8x256x2x64, .f32⟩
  | .hbm, ⟨106, _⟩ => ⟨S8x1x256x2x64, .f32⟩
  | .hbm, ⟨107, _⟩ => ⟨S8x1x256x2x64, .f32⟩
  | .hbm, ⟨108, _⟩ => ⟨S8x2x256x2x64, .f32⟩
  | .hbm, ⟨109, _⟩ => ⟨S8x2x2x256x64, .f32⟩
  | .hbm, ⟨110, _⟩ => ⟨S8x2x2x256x128, .f32⟩
  | .hbm, ⟨111, _⟩ => ⟨S8x2x2x256x128, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call3_v0 : Ref sig .tc := ⟨.hbm, 86, rfl⟩
abbrev main_call3_v1 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call4_v0 : Ref sig .tc := ⟨.hbm, 96, rfl⟩
abbrev main_call4_v1 : Ref sig .tc := ⟨.hbm, 97, rfl⟩
abbrev main_call4_cst : Ref sig .tc := ⟨.hbm, 98, rfl⟩
abbrev main_call4_v2 : Ref sig .tc := ⟨.hbm, 99, rfl⟩
abbrev main_call4_v3 : Ref sig .tc := ⟨.hbm, 100, rfl⟩
abbrev main_call4_cst_0 : Ref sig .tc := ⟨.hbm, 101, rfl⟩
abbrev main_call4_v4 : Ref sig .tc := ⟨.hbm, 102, rfl⟩
abbrev main_call4_v5 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩

abbrev nD : Nat := 1
abbrev τ : Topo := Topo.v7x

variable {F : FTy → Type} [FloatOps F]
-- ==== Proof.RefTerm.lean ====
/- The reference's result in named layers: the decay tables, a chunk's own part, the part from the state, the group norm. -/
module

public import proofs.«01_k».proof.Proof.Gen.ReferenceIdeal.Step

@[expose] public section

noncomputable section

namespace Cert.ReferenceIdeal.Term

open Idealize.ShloMosaic Cert.ReferenceIdeal Cert.ReferenceIdeal.Gen
open Cert.ReferenceIdeal.Step (State)

variable {F : FTy → Type} [FloatOps F]

/-- An argument. -/
abbrev Arg (F : FTy → Type) := (⟨S8x4096x512, .bf16⟩ : BufTy).Contents (Elt F)

/-- An argument's columns as heads, its tokens as chunks. -/
def heads (t : Arg F) : FVec F S8x32x128x8x64 .f32 :=
  shapeCast S8x32x128x8x64 (extf .f32 t bitsLt_bf16_f32) shapeCasts_S8x4096x512_S8x32x128x8x64

/-- The logarithms of the heads' decays. -/
def logDecay : FVec F S8 .f32 :=
  Host.log1p (Host.negf (Host.powf (broadcastInDim S8 ![] bcast_S_S8 (constant S_ .f32 0x40000000#32))
    (subf (broadcastInDim S8 ![] bcast_S_S8 (constant S_ .f32 0xC0A00000#32)) (sitofp .f32 (iotaInDim S8 32 0)))))

/-- The positions of a chunk's rows. -/
abbrev pos : FVec F S128 .f32 := sitofp .f32 (iotaInDim S128 32 0)

/-- Where a row's number is at least a column's. -/
def causal : IVec S128x128 1 :=
  cmpi .sge (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

/-- A row's distance from a column, at least nothing. -/
def distance : FVec F S128x128 .f32 :=
  maximumf (subf (broadcastInDim S128x128 ![0, 1] bcast_S128x1_S128x128_0_1 (broadcastInDim S128x1 ![0] bcast_S128_S128x1_0 pos))
      (broadcastInDim S128x128 ![0, 1] bcast_S1x128_S128x128_0_1 (broadcastInDim S1x128 ![1] bcast_S128_S1x128_1 pos)))
    (broadcastInDim S128x128 ![] bcast_S_S128x128 (constant S_ .f32 0x00000000#32))

/-- The decay between a chunk's rows, per head. -/
def decay : FVec F S8x128x128 .f32 :=
  select (broadcastInDim S8x128x128 ![0, 1, 2] bcast_S1x128x128_S8x128x128_0_1_2 (broadcastInDim S1x128x128 ![1, 2] bcast_S128x128_S1x128x128_1_2 causal))
    (Host.exp (mulf (broadcastInDim S8x128x128 ![0, 1, 2] bcast_S1x128x128_S8x128x128_0_1_2 (broadcastInDim S1x128x128 ![1, 2] bcast_S128x128_S1x128x128_1_2 distance))
      (broadcastInDim S8x128x128 ![0, 1, 2] bcast_S8x1x1_S8x128x128_0_1_2 (broadcastInDim S8x1x1 ![0] bcast_S8_S8x1x1_0 logDecay))))
    (broadcastInDim S8x128x128 ![] bcast_S_S8x128x128 (id (constant S_ .f32 0x00000000#32)))

/-- The decay from the state to a chunk's rows, per head. -/
def xi : FVec F S8x128 .f32 :=
  Host.exp (mulf (broadcastInDim S8x128 ![0, 1] bcast_S1x128_S8x128_0_1 (broadcastInDim S1x128 ![1] bcast_S128_S1x128_1 (addf pos (broadcastInDim S128 ![] bcast_S_S128 (constant S_ .f32 0x3F800000#32)))))
    (broadcastInDim S8x128 ![0, 1] bcast_S8x1_S8x128_0_1 (broadcastInDim S8x1 ![0] bcast_S8_S8x1_0 logDecay)))

/-- The scores within a chunk, decayed. -/
def scores (q k : Arg F) : FVec F S8x32x8x128x128 .f32 :=
  mulf (Host.dotGeneral dot_S8x32x128x8x64_S8x32x128x8x64_S8x32x8x128x128_4_4_2_2_013_013 none (heads q) (heads k))
    (broadcastInDim S8x32x8x128x128 ![0, 1, 2, 3, 4] bcast_S1x1x8x128x128_S8x32x8x128x128_0_1_2_3_4 (broadcastInDim S1x1x8x128x128 ![2, 3, 4] bcast_S8x128x128_S1x1x8x128x128_2_3_4 decay))

/-- A chunk's own part. -/
def own (q k v : Arg F) : FVec F S8x32x128x8x64 .f32 :=
  transpose S8x32x128x8x64 [0, 1, 4, 2, 3]
    (Host.dotGeneral dot_S8x32x128x8x64_S8x32x8x128x128_S8x32x8x64x128_2_4_4_3_013_012 none (heads v) (scores q k))
    transposes_S8x32x8x64x128_S8x32x128x8x64_0_1_4_2_3

/-- The part from the states. -/
def cross (q : Arg F) (r : FVec F S32x8x8x64x64 .f32) : FVec F S8x32x128x8x64 .f32 :=
  mulf (transpose S8x32x128x8x64 [0, 1, 4, 2, 3]
      (Host.dotGeneral dot_S32x8x8x64x64_S8x32x128x8x64_S8x32x8x64x128_3_4_4_2_102_013 none r (heads q))
      transposes_S8x32x8x64x128_S8x32x128x8x64_0_1_4_2_3)
    (broadcastInDim S8x32x128x8x64 ![0, 1, 2, 3, 4] bcast_S1x1x128x8x1_S8x32x128x8x64_0_1_2_3_4 (broadcastInDim S1x1x128x8x1 ![2, 3, 4] bcast_S128x8x1_S1x1x128x8x1_2_3_4
      (broadcastInDim S128x8x1 ![0, 1] bcast_S128x8_S128x8x1_0_1 (transpose S128x8 [1, 0] xi transposes_S8x128_S128x8_1_0))))

/-- The heads' results, before the group norm. -/
def result (q k v : Arg F) (r : FVec F S32x8x8x64x64 .f32) : FVec F S8x4096x8x64 .f32 :=
  shapeCast S8x4096x8x64 (addf (own q k v) (cross q r)) shapeCasts_S8x32x128x8x64_S8x4096x8x64

/-- The mean over a head. -/
def mean (o : FVec F S8x4096x8x64 .f32) : FVec F S8x4096x8x1 .f32 :=
  Host.divf (broadcastInDim S8x4096x8x1 ![0, 1, 2] bcast_S8x4096x8_S8x4096x8x1_0_1_2 (Host.reduceAdd o (constant S_ .f32 0x00000000#32) reducesTo_S8x4096x8x64_S8x4096x8_d3 h_S_))
    (broadcastInDim S8x4096x8x1 ![] bcast_S_S8x4096x8x1 (constant S_ .f32 0x42800000#32))

/-- The deviation from it. -/
def dev (o : FVec F S8x4096x8x64 .f32) : FVec F S8x4096x8x64 .f32 :=
  subf o (broadcastInDim S8x4096x8x64 ![0, 1, 2, 3] bcast_S8x4096x8x1_S8x4096x8x64_0_1_2_3 (mean o))

/-- The group norm, times the gate. -/
def normed (o : FVec F S8x4096x8x64 .f32) (g : Arg F) : Arg F :=
  truncf .bf16 (mulf (shapeCast S8x4096x512 (mulf (dev o)
      (broadcastInDim S8x4096x8x64 ![0, 1, 2, 3] bcast_S8x4096x8x1_S8x4096x8x64_0_1_2_3 (Host.rsqrt (addf (mean (mulf (dev o) (dev o)))
        (broadcastInDim S8x4096x8x1 ![] bcast_S_S8x4096x8x1 (constant S_ .f32 0x3727C5AC#32)))))) shapeCasts_S8x4096x8x64_S8x4096x512)
    (extf .f32 g bitsLt_bf16_f32)) bitsLt_bf16_f32

/-- The operations after the loop, in these layers. -/
theorem R_eq (s : State F) (q k v g : Arg F) :
    Cert.ReferenceIdeal.Step.R_main_v112 s q k v g = normed (result q k v s.main_v32_4) g := rfl

end Cert.ReferenceIdeal.Term
-- ==== Proof.RefRun.lean ====
/- The reference's run, read through one trip of its scan: the carried state after `n` trips is `Step.step` iterated `n`
   times, and the result is `Step.R_main_v112` of the last state and the arguments. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- A valuation that holds a state at the loop's buffers, the trip's number at its counter and the decays at the loop's
    constant. -/
structure Holds : Prop where
  state : V0 (Proc.devRef .tc main_v32_3) = s.main_v32_3
  stack : V0 (Proc.devRef .tc main_v32_4) = s.main_v32_4
  terms : V0 (Proc.devRef .tc main_v32_0) = s.main_v32_0
  trip : V0 (Proc.devRef .tc main_v32_2) = constantI S_ 32 (BitVec.ofNat 32 j)
  decay : V0 (Proc.devRef .tc main_v32_1) = Cert.ReferenceIdeal.Step.K_main_v29 (F := F)

variable {V0 s j}

theorem next_state (h : Holds V0 s j) : step_main_v32_3 V0 = (step j s).main_v32_3 := by
  unfold step_main_v32_3
  rw [h.state, h.decay, h.terms, h.trip]
  rfl

theorem next_stack (h : Holds V0 s j) : step_main_v32_4 V0 = (step j s).main_v32_4 := by
  unfold step_main_v32_4
  rw [h.state, h.stack, h.trip]
  rfl

theorem next_trip (h : Holds V0 s j) : step_main_v32_2 V0 = constantI S_ 32 (BitVec.ofNat 32 (j + 1)) := by
  unfold step_main_v32_2
  rw [h.trip]
  funext i
  show BitVec.ofNat 32 j + 1#32 = BitVec.ofNat 32 (j + 1)
  simp only [BitVec.ofNat_add]

/-- One trip of the loop takes a valuation that holds a state to one that holds the next state. -/
theorem Holds.step (h : Holds V0 s j) : Holds (STEP V0) (step j s) (j + 1) where
  state := (STEP_main_v32_3 V0).trans (next_state h)
  stack := (STEP_main_v32_4 V0).trans (next_stack h)
  terms := (STEP_main_v32_0 V0).trans h.terms
  trip := (STEP_main_v32_2 V0).trans (next_trip h)
  decay := (STEP_main_v32_1 V0).trans h.decay

set_option maxRecDepth 8192 in
theorem result_of_holds (h : Holds V0 s j) {a0 a1 a2 a3 : (⟨S8x4096x512, .bf16⟩ : BufTy).Contents (Elt F)}
    (h0 : V0 (Proc.devRef .tc main_arg0) = a0) (h1 : V0 (Proc.devRef .tc main_arg1) = a1)
    (h2 : V0 (Proc.devRef .tc main_arg2) = a2) (h3 : V0 (Proc.devRef .tc main_arg3) = a3) :
    out_main_v112 V0 = Cert.ReferenceIdeal.Step.R_main_v112 s a0 a1 a2 a3 := by
  unfold out_main_v112 Cert.ReferenceIdeal.Step.R_main_v112
  rw [h.stack, h0, h1, h2, h3]
  try rfl

variable (m : (ℓ : Loc nD τ sig) → Buf (Elt F) ℓ) (c : Dev nD)

/-- The state before the first trip, of the memory the run starts from. -/
abbrev start : State F :=
  init (m ((c.tc : Thread nD τ).loc main_arg1)) (m ((c.tc : Thread nD τ).loc main_arg2))

/-- The state before trip `n`. -/
def stateAt : ℕ → State F
  | 0 => start m c
  | n + 1 => step n (stateAt n)

set_option maxRecDepth 65536 in
set_option maxHeartbeats 300000 in
theorem entry_holds : Holds (entryContents preI m c) (start m c) 0 := by
  constructor <;> (simp only [entryContents, afterL_cons, afterL_nil]; after_reads_simp) <;> rfl

theorem holds_stateAt : ∀ k, Holds (STEP^[k] (entryContents preI m c)) (stateAt m c k) k
  | 0 => entry_holds m c
  | k + 1 => by
    rw [Function.iterate_succ_apply']
    exact (holds_stateAt k).step

/-- Every execution of the reference ends with `R_main_v112` of the state after all trips as its result. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v112) = Cert.ReferenceIdeal.Step.R_main_v112 (stateAt m c 32)
          (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (result_of_holds (holds_stateAt m c 32) (iter_main_arg0 m c 32) (iter_main_arg1 m c 32)
      (iter_main_arg2 m c 32) (iter_main_arg3 m c 32)), (h c).2⟩) (Value.run m ρ)

end Cert.ReferenceIdeal.RefRun

end
-- ==== Proof.Spec.lean ====
/- The retention over the extended reals: the function that the kernel and the reference are both shown to compute. -/
module

public import Idealize.ShloMosaic.Lib.Pointwise

@[expose] public section

noncomputable section

namespace Cert.Retention

open Idealize.ShloMosaic

/-- A whole number as a float. -/
def num (i : ℕ) : EReal := FloatOps.sitofp (F := Ideal) .f32 (BitVec.ofNat 32 i)

/-- The logarithm of a head's decay. -/
def logDecay (h : ℕ) : EReal :=
  Ideal.log1p (-Ideal.pow (Ideal.ofBits .f32 0x40000000#32) (Ideal.ofBits .f32 0xC0A00000#32 - num h))

/-- The decay between two rows of a chunk. -/
def decay (h i j : ℕ) : EReal := if j ≤ i then Ideal.exp (max (num i - num j) 0 * logDecay h) else 0

/-- The decay from a chunk's start to a row. -/
def xi (h i : ℕ) : EReal := Ideal.exp ((num i + Ideal.ofBits .f32 0x3F800000#32) * logDecay h)

/-- The decay from a row to the chunk's last. -/
def zeta (h j : ℕ) : EReal := Ideal.exp ((Ideal.ofBits .f32 0x42FE0000#32 - num j) * logDecay h)

/-- The decay over a whole chunk. -/
def whole (h : ℕ) : EReal := Ideal.exp (Ideal.ofBits .f32 0x43000000#32 * logDecay h)

/-- A head's part of an argument: rows and columns. -/
abbrev Head := Fin 4096 → Fin 64 → EReal

/-- Row `i` of chunk `n`. -/
def tok (n : ℕ) (i : Fin 128) : Fin 4096 := Fin.ofNat 4096 (n * 128 + i)

/-- What chunk `n` adds to the state. -/
def kv (k v : Head) (h n : ℕ) (d e : Fin 64) : EReal := ∑ x : Fin 128, k (tok n x) d * zeta h x * v (tok n x) e

/-- The state that chunk `n` finds. -/
def state (k v : Head) (h : ℕ) : ℕ → Fin 64 → Fin 64 → EReal
  | 0 => fun _ _ => 0
  | n + 1 => fun d e => state k v h n d e * whole h + kv k v h n d e

/-- The decayed score of two rows of a chunk. -/
def score (q k : Head) (h n : ℕ) (i j : Fin 128) : EReal := (∑ d, q (tok n i) d * k (tok n j) d) * decay h i j

/-- A head's result before its group norm. -/
def out (q k v : Head) (h n : ℕ) (i : Fin 128) (e : Fin 64) : EReal :=
  (∑ j, score q k h n i j * v (tok n j) e) + (∑ d, q (tok n i) d * state k v h n d e) * xi h i

/-- One sixty-fourth. -/
def share : EReal := Ideal.ofBits .f32 0x3C800000#32

/-- A row's deviation from its mean. -/
def dev (o : Fin 64 → EReal) (e : Fin 64) : EReal := o e - (∑ x, o x) * share

/-- A row's group norm. -/
def normed (o : Fin 64 → EReal) (e : Fin 64) : EReal :=
  dev o e * Ideal.rsqrt ((∑ x, dev o x * dev o x) * share + Ideal.ofBits .f32 0x3727C5AC#32)

/-- A head's result at a row of chunk `n`. -/
def result (q k v g : Head) (h n : ℕ) (i : Fin 128) (e : Fin 64) : EReal :=
  normed (out q k v h n i) e * g (tok n i) e

/-! ### The values of the constants -/

theorem ofBits_two : Ideal.ofBits .f32 0x40000000#32 = ((2 : ℝ) : EReal) := by
  simp [Ideal.ofBits, Ideal.ieee, -EReal.coe_mul]; norm_num
theorem ofBits_neg_five : Ideal.ofBits .f32 0xC0A00000#32 = ((-5 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem share_eq : share = ((1 / 64 : ℝ) : EReal) := by
  simp [share, Ideal.ofBits, Ideal.ieee, -EReal.coe_mul]; norm_num

/-- A division by sixty-four is a multiplication by `share`. -/
theorem div_64 (x : EReal) : Ideal.div x (Ideal.ofBits .f32 0x42800000#32) = x * share := by
  rw [ofBits_64, share_eq]; exact Ideal.div_coe (by norm_num) x

/-- A small whole number as a float is that number. -/
theorem num_eq (i : ℕ) (hi : i < 2 ^ 31) : num i = ((i : ℝ) : EReal) := by
  have : (BitVec.ofNat 32 i).toInt = (i : ℤ) := by
    rw [BitVec.toInt_eq_toNat_of_lt (by rw [BitVec.toNat_ofNat]; omega), BitVec.toNat_ofNat, Nat.mod_eq_of_lt (by omega)]
  show (((BitVec.ofNat 32 i).toInt : ℝ) : EReal) = _
  rw [this]; rfl

/-- The order of small whole numbers, by the difference of the floats. -/
theorem num_le (i j : Fin 128) : (0 : EReal) ≤ num i - num j ↔ j.val ≤ i.val := by
  rw [num_eq _ (by omega), num_eq _ (by omega), ← EReal.coe_sub, EReal.coe_nonneg, sub_nonneg, Nat.cast_le]

/-! ### What stays real -/

/-- A value is a real number. -/
def IsReal (x : EReal) : Prop := ∃ r : ℝ, x = (r : EReal)

theorem IsReal.coe (r : ℝ) : IsReal r := ⟨r, rfl⟩
theorem IsReal.zero : IsReal 0 := ⟨0, rfl⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.max {x y : EReal} : IsReal x → IsReal y → IsReal (max x y) := by
  intro hx hy; rcases max_choice x y with h | h <;> rw [h] <;> assumption
theorem IsReal.exp {x : EReal} : IsReal x → IsReal (Ideal.exp x) := by
  rintro ⟨a, rfl⟩; exact ⟨Real.exp a, rfl⟩
theorem IsReal.sum {α : Type} [Fintype α] {f : α → EReal} (hf : ∀ a, IsReal (f a)) : IsReal (∑ a, f a) :=
  Finset.sum_induction f IsReal (fun _ _ => IsReal.add) IsReal.zero fun a _ => hf a
/-- A real number less itself is nothing. -/
theorem IsReal.sub_self {x : EReal} : IsReal x → x - x = 0 := by
  rintro ⟨a, rfl⟩; rw [← EReal.coe_sub, _root_.sub_self]; rfl

theorem IsReal.num {i : ℕ} (hi : i < 2 ^ 31) : IsReal (num i) := ⟨_, num_eq i hi⟩

theorem IsReal.share : IsReal share := ⟨_, share_eq⟩

theorem IsReal.logDecay {h : ℕ} (hh : h < 8) : IsReal (logDecay h) := by
  have h1 : Ideal.pow ((2 : ℝ) : EReal) ((-5 - h : ℝ) : EReal) = (((2 : ℝ) ^ (-5 - h : ℝ) : ℝ) : EReal) := rfl
  have h2 : (0 : ℝ) < 1 + -(2 : ℝ) ^ (-5 - h : ℝ) := by
    have : (2 : ℝ) ^ (-5 - h : ℝ) < 1 := Real.rpow_lt_one_of_one_lt_of_neg (by norm_num) (by have : (0 : ℝ) ≤ h := Nat.cast_nonneg h; linarith)
    linarith
  unfold Retention.logDecay
  rw [ofBits_two, ofBits_neg_five, num_eq _ (by omega), ← EReal.coe_sub, h1, ← EReal.coe_neg]
  refine ⟨Real.log (1 + -(2 : ℝ) ^ (-5 - h : ℝ)), ?_⟩
  have h3 : (1 : EReal) + ((-(2 : ℝ) ^ (-5 - h : ℝ) : ℝ) : EReal) = ((1 + -(2 : ℝ) ^ (-5 - h : ℝ) : ℝ) : EReal) := by
    rw [EReal.coe_add]; rfl
  unfold Ideal.log1p
  rw [h3]
  show (if (1 + -(2 : ℝ) ^ (-5 - h : ℝ) : ℝ) ≤ 0 then ⊥ else _) = _
  rw [if_neg (not_le.mpr h2)]

theorem IsReal.decay {h : ℕ} (hh : h < 8) (i j : Fin 128) : IsReal (decay h i j) := by
  unfold Retention.decay
  split
  · exact ((((IsReal.num (by omega)).sub (IsReal.num (by omega))).max IsReal.zero).mul (IsReal.logDecay hh)).exp
  · exact IsReal.zero

theorem IsReal.xi {h : ℕ} (hh : h < 8) (i : Fin 128) : IsReal (xi h i) :=
  (((IsReal.num (by omega)).add ⟨_, ofBits_one⟩).mul (IsReal.logDecay hh)).exp

theorem IsReal.zeta {h : ℕ} (hh : h < 8) (j : Fin 128) : IsReal (zeta h j) :=
  ((IsReal.sub ⟨_, ofBits_127⟩ (IsReal.num (by omega))).mul (IsReal.logDecay hh)).exp

theorem IsReal.whole {h : ℕ} (hh : h < 8) : IsReal (whole h) :=
  (IsReal.mul ⟨_, ofBits_128⟩ (IsReal.logDecay hh)).exp

variable {q k v : Head} (hq : ∀ s d, IsReal (q s d)) (hk : ∀ s d, IsReal (k s d)) (hv : ∀ s d, IsReal (v s d))

include hk hv in
theorem IsReal.state {h : ℕ} (hh : h < 8) (n : ℕ) (d e : Fin 64) : IsReal (state k v h n d e) := by
  induction n with
  | zero => exact IsReal.zero
  | succ n ih => exact (ih.mul (IsReal.whole hh)).add (IsReal.sum fun x => ((hk _ _).mul (IsReal.zeta hh x)).mul (hv _ _))

include hq hk hv in
/-- Real queries, keys and values have real results before the group norm. -/
theorem IsReal.out {h : ℕ} (hh : h < 8) (n : ℕ) (i : Fin 128) (e : Fin 64) : IsReal (out q k v h n i e) :=
  (IsReal.sum fun j => ((IsReal.sum fun d => (hq _ _).mul (hk _ _)).mul (IsReal.decay hh i j)).mul (hv _ _)).add
    ((IsReal.sum fun d => (hq _ _).mul (IsReal.state hk hv hh n d e)).mul (IsReal.xi hh i))

theorem IsReal.dev {o : Fin 64 → EReal} (ho : ∀ e, IsReal (o e)) (e : Fin 64) : IsReal (dev o e) :=
  (ho e).sub ((IsReal.sum ho).mul IsReal.share)

end Cert.Retention
-- ==== Proof.RefPoint.lean ====
/- The reference's result over the extended reals, at an index: its heads are `Cert.Retention.result`. -/
module

public import proofs.«01_k».proof.Proof.RefTerm
public import proofs.«01_k».proof.Proof.RefRun
public import proofs.«01_k».proof.Proof.Spec

@[expose] public section

set_option maxRecDepth 16384

noncomputable section

namespace Cert.ReferenceIdeal.Point

open Idealize.ShloMosaic Idealize.ShloMosaic.TcCoe Idealize.SL.Sem Cert.ReferenceIdeal Cert.ReferenceIdeal.Gen Cert.ReferenceIdeal.Term
open Cert.ReferenceIdeal.Step (State step b0 b1 b2 b3 b4 b5 b6 b7 b8 b9 b10 b11 b12 b13 b14 A_main_v25)
open Cert.Retention (Head tok)

/-- Head `h` of an argument's batch `b`. -/
def slice (t : Arg Ideal) (b h : Fin 8) : Head := fun s d => t (ix3 b s ⟨h.val * 64 + d.val, by omega⟩)

theorem slice_eq (t : Arg Ideal) (b h : Fin 8) (n : Fin 32) (x : Fin 128) (d : Fin 64) (h1 : n.val * 128 + x.val < 4096) (h2 : h.val * 64 + d.val < 512) :
    t (ix3 b ⟨n.val * 128 + x.val, h1⟩ ⟨h.val * 64 + d.val, h2⟩) = slice t b h (tok n x) d :=
  congrArg (fun s => t (ix3 b s ⟨h.val * 64 + d.val, h2⟩)) (Fin.ext (Nat.mod_eq_of_lt h1).symm)

theorem logDecay_apply (h : Fin 8) : logDecay (F := Ideal) (ix1 h) = Cert.Retention.logDecay h := by
  pointwise [logDecay]
  rfl

theorem sge_eq (i j : Fin 128) : IntOp.cmpi .sge (BitVec.ofNat 32 i.val) (BitVec.ofNat 32 j.val) = if j.val ≤ i.val then 1#1 else 0#1 := by
  revert i j
  decide +kernel

theorem decay_apply (h : Fin 8) (i j : Fin 128) : decay (F := Ideal) (ix3 h i j) = Cert.Retention.decay h i j := by
  pointwise [decay, causal, distance]
  rw [sge_eq, logDecay_apply]
  unfold Cert.Retention.decay
  split
  · rfl
  · show constant (F := Ideal) S_ .f32 0#32 ix0 = 0
    pointwise

theorem xi_apply (h : Fin 8) (i : Fin 128) : xi (F := Ideal) (ix2 h i) = Cert.Retention.xi h i := by
  pointwise [xi]
  rw [logDecay_apply, Cert.Retention.xi, Cert.Retention.ofBits_one]
  rfl

theorem logDecay_step (h : Fin 8) : Step.K_main_v6 (F := Ideal) (ix1 h) = Cert.Retention.logDecay h := logDecay_apply h

theorem kv_apply (k v : Arg Ideal) (n : Fin 32) (b h : Fin 8) (d e : Fin 64) :
    A_main_v25 (F := Ideal) k v (ix5 n b h d e) = Cert.Retention.kv (slice k b h) (slice v b h) h n d e := by
  pointwise [A_main_v25, Step.A_main_v24, Step.A_main_v11, Step.A_main_v9, Step.A_main_v8, Step.A_main_v10, Step.K_main_v23, Step.K_main_v22,
    Step.K_main_v21, Step.K_main_v20, Step.K_main_v19, Step.K_main_v18, Step.K_main_v17, Step.K_main_v16, Step.K_main_v15, Step.K_main_v14,
    Step.K_main_v13, Step.K_main_v12, Step.K_main_v7, Step.K_main_cst_1]
  refine Finset.sum_congr rfl fun x _ => ?_
  rw [slice_eq k b h n x d, slice_eq v b h n x e, logDecay_step]
  rfl

/-- Where trip `n` reads and writes: at chunk `n`. -/
theorem starts (n : Fin 32) (ht : S1x8x8x64x64.rank = S32x8x8x64x64.rank) (a : Fin 5) :
    Host.clampedStart S32x8x8x64x64 S1x8x8x64x64 ht (fun k => BitVec.toInt (![constantI S_ 32 (BitVec.ofNat 32 n.val), constantI S_ 32 0#32,
      constantI S_ 32 0#32, constantI S_ 32 0#32, constantI S_ 32 0#32] k (Shape.Idx.first h_S_))) a = (![n.val, 0, 0, 0, 0] : Fin 5 → ℕ) a := by
  have hn : ∀ n : Fin 32, (BitVec.ofNat 32 n.val).toInt = (n.val : ℤ) := by decide
  have := n.isLt
  refine Host.clampedStart_of_le ht _ a _ ?_ ?_
  · fin_cases a
    · exact hn n
    all_goals rfl
  · fin_cases a
    · show n.val + 1 ≤ 32; omega
    all_goals exact Nat.le_refl _

theorem b8_apply (s : State Ideal) (n : Fin 32) (b h : Fin 8) (d e : Fin 64) :
    b8 n.val s (ix4 b h d e) = s.main_v32_3 (ix4 b h d e) * Cert.Retention.whole h + s.main_v32_0 (ix5 n b h d e) := by
  pointwise [b8, b7, b6, b5, b4, b3, b2, b1, b0, Step.K_main_v29, Step.K_main_v28, Step.K_main_v27, Step.K_main_v26, Step.K_main_cst_2]
  rw [logDecay_step]
  refine congrArg₂ (· + ·) rfl (congrArg s.main_v32_0 ?_)
  have e5 {n n' : Fin 32} {b b' h h' : Fin 8} {d d' e e' : Fin 64} (h1 : n.val = n'.val) (h2 : b.val = b'.val) (h3 : h.val = h'.val)
      (h4 : d.val = d'.val) (h5 : e.val = e'.val) : ix5 n b h d e = ix5 n' b' h' d' e' := by
    rw [Fin.ext h1, Fin.ext h2, Fin.ext h3, Fin.ext h4, Fin.ext h5]
  exact e5 (starts n rfl 0) ((congrArg (· + b.val) (starts n rfl 1)).trans (Nat.zero_add _)) ((congrArg (· + h.val) (starts n rfl 2)).trans (Nat.zero_add _))
    ((congrArg (· + d.val) (starts n rfl 3)).trans (Nat.zero_add _)) ((congrArg (· + e.val) (starts n rfl 4)).trans (Nat.zero_add _))

theorem b14_apply (s : State Ideal) (n n' : Fin 32) (b h : Fin 8) (d e : Fin 64) :
    b14 n.val s (ix5 n' b h d e) = if n' = n then s.main_v32_3 (ix4 b h d e) else s.main_v32_4 (ix5 n' b h d e) := by
  pointwise [b14, b9, b10, b11, b12, b13]
  simp only [starts]
  by_cases hn : n' = n
  · subst hn
    rw [if_pos rfl, dif_pos (by simp)]
    rfl
  · rw [if_neg hn, dif_neg]
    intro hc
    have h1 : n.val ≤ n'.val := hc.1.1
    have h2 : n'.val < n.val + 1 := hc.1.2
    exact hn (Fin.ext (by omega))

variable (m : (ℓ : Loc nD τ sig) → Buf (Elt Ideal) ℓ) (c : Dev nD)

/-- The keys and the values that the run starts with. -/
abbrev keys : Arg Ideal := m ((c.tc : Thread nD τ).loc main_arg1)
abbrev vals : Arg Ideal := m ((c.tc : Thread nD τ).loc main_arg2)

theorem terms_apply (n : ℕ) : (RefRun.stateAt m c n).main_v32_0 = A_main_v25 (keys m c) (vals m c) := by
  induction n with
  | zero => rfl
  | succ n ih => exact ih

/-- The carried state before trip `n` is the state that chunk `n` finds. -/
theorem carried_apply {n : ℕ} (hn : n ≤ 32) (b h : Fin 8) (d e : Fin 64) :
    (RefRun.stateAt m c n).main_v32_3 (ix4 b h d e) = Cert.Retention.state (slice (keys m c) b h) (slice (vals m c) b h) h n d e := by
  induction n with
  | zero =>
    show Step.K_main_v30 (F := Ideal) (ix4 b h d e) = _
    pointwise [Step.K_main_v30, Step.K_main_cst_3]
    rfl
  | succ n ih =>
    refine (b8_apply (RefRun.stateAt m c n) ⟨n, hn⟩ b h d e).trans ?_
    rw [ih (by omega), terms_apply, kv_apply]
    rfl

/-- The stack before trip `n` holds the states that the chunks before `n` found. -/
theorem stack_apply {n : ℕ} (hn : n ≤ 32) (n' : Fin 32) (hn' : n'.val < n) (b h : Fin 8) (d e : Fin 64) :
    (RefRun.stateAt m c n).main_v32_4 (ix5 n' b h d e) = Cert.Retention.state (slice (keys m c) b h) (slice (vals m c) b h) h n' d e := by
  induction n with
  | zero => omega
  | succ n ih =>
    refine (b14_apply (RefRun.stateAt m c n) ⟨n, hn⟩ n' b h d e).trans ?_
    split
    · rename_i heq
      subst heq
      exact carried_apply m c (by omega) b h d e
    · rename_i hne
      have : n'.val ≠ n := fun he => hne (Fin.ext he)
      exact ih (by omega) (by omega)

/-- A head's result before the group norm. -/
theorem result_apply (q k v : Arg Ideal) (r : FVec Ideal S32x8x8x64x64 .f32)
    (hr : ∀ n b h d e, r (ix5 n b h d e) = Cert.Retention.state (slice k b h) (slice v b h) h n.val d e)
    (b : Fin 8) (n : Fin 32) (i : Fin 128) (h : Fin 8) (e : Fin 64) :
    result q k v r (ix4 b ⟨n.val * 128 + i.val, by omega⟩ h e) = Cert.Retention.out (slice q b h) (slice k b h) (slice v b h) h n i e := by
  pointwise [result]
  pointwise [own, cross]
  rw [xi_apply]
  refine congrArg₂ (· + ·) (Finset.sum_congr rfl fun x _ => ?_) (congrArg (· * _) (Finset.sum_congr rfl fun d _ => ?_))
  · pointwise [scores, heads]
    rw [decay_apply, slice_eq v b h n x e, mul_comm]
    refine congrArg (· * _ * _) (Finset.sum_congr rfl fun d _ => ?_)
    rw [slice_eq q b h n i d, slice_eq k b h n x d]
  · pointwise [heads]
    rw [hr, slice_eq q b h n i d, mul_comm]

/-- The result at an index. -/
theorem R_apply (a0 a3 : Arg Ideal) (b : Fin 8) (n : Fin 32) (i : Fin 128) (h : Fin 8) (e : Fin 64) :
    Step.R_main_v112 (RefRun.stateAt m c 32) a0 (keys m c) (vals m c) a3
        (ix3 b ⟨n.val * 128 + i.val, by omega⟩ ⟨h.val * 64 + e.val, by omega⟩)
      = Cert.Retention.result (slice a0 b h) (slice (keys m c) b h) (slice (vals m c) b h) (slice a3 b h) h n i e := by
  rw [R_eq]
  have ho := result_apply a0 (keys m c) (vals m c) (RefRun.stateAt m c 32).main_v32_4
    (fun n b h d e => stack_apply m c (le_refl _) n n.isLt b h d e) b n i h
  pointwise [normed, mean]
  pointwise [dev, mean]
  simp only [ho, Cert.Retention.div_64]
  rw [slice_eq a3 b h n i e]
  rfl

end Cert.ReferenceIdeal.Point
-- ==== Proof.Chunk.lean ====
/- The retention kernel's body, chunk by chunk: what its block holds for a pair of heads, as a recursion over the chunks. -/
module

public import proofs.«01_k».proof.Proof.Gen.KernelIdeal
public import Idealize.ShloMosaic.Lib.Pipeline.FrameBody

@[expose] public section

noncomputable section

namespace Cert.KernelIdeal.Chunk

open Idealize.ShloMosaic Cert.KernelIdeal Cert.KernelIdeal.Gen

variable {F : FTy → Type} [FloatOps F]

/-- One chunk's 128 rows of a block, as the body loads them. -/
abbrev Rows (F : FTy → Type) := Vec F S1x128x128 .bf16
/-- A 128 by 128 matrix of 32-bit floats. -/
abbrev Mat (F : FTy → Type) := FVec F S128x128 .f32

/-- The mask of the pair's first head: lanes 0 to 63. -/
def lo : IVec S128x128 1 :=
  cmpi .slt (iota .tc S128x128 32 [1] iota_S128x128_d1_w32) (broadcast S128x128 64#32)

/-- The mask of the two diagonal squares: row and lane in the same half. -/
def diag : IVec S128x128 1 :=
  xori (xori (cmpi .slt (iota .tc S128x128 32 [0] iota_S128x128_d0_w32) (broadcast S128x128 64#32)) lo) (constantI S128x128 1 1#1)

/-- The zero matrix that a product accumulates into. -/
abbrev zeros : Mat F := constant S128x128 .f32 0x00000000#32
/-- The rows of a chunk as a matrix. -/
abbrev flat (t : Rows F) : FVec F S128x128 .bf16 := shapeCast S128x128 t shapeCasts_S1x128x128_S128x128
/-- A table's matrix. -/
abbrev flat32 (t : Vec F S1x128x128 .f32) : Mat F := shapeCast S128x128 t shapeCasts_S1x128x128_S128x128
/-- A matrix of zeros at the width of the operands. -/
abbrev blank : FVec F S128x128 .bf16 := broadcast S128x128 (Scalar.ofBits .bf16 0x0000#16)

/-- The scores of the first head: queries masked to its lanes, times keys. -/
def scoreA (q k : Rows F) : Mat F :=
  matmul dot_S128x128_S128x128_S128x128_1_1_0_0_n_n none (select lo (flat q) blank) (flat k) zeros

/-- The scores of the second head. -/
def scoreB (q k : Rows F) : Mat F :=
  matmul dot_S128x128_S128x128_S128x128_1_1_0_0_n_n none (select lo blank (flat q)) (flat k) zeros

/-- What a chunk adds to the state: keys times their decay to the chunk's end, times values, kept within a head. -/
def kv (k v : Rows F) (zeta : Vec F S1x128x128 .f32) : Mat F :=
  select diag
    (matmul dot_S128x128_S128x128_S128x128_0_0_1_1_n_n none
      (truncf .bf16 (mulf (extf .f32 (flat k) bitsLt_bf16_f32) (flat32 zeta)) bitsLt_bf16_f32) (flat v) zeros)
    (broadcast S128x128 (Scalar.ofBits .f32 0x00000000#32))

/-- The part of a chunk's result that comes from the chunk itself. -/
def inner (q k v : Rows F) (decA decB : Vec F S1x128x128 .f32) : Mat F :=
  select lo
    (matmul dot_S128x128_S128x128_S128x128_1_0_0_1_n_n none
      (truncf .bf16 (mulf (scoreA q k) (flat32 decA)) bitsLt_bf16_f32) (flat v) zeros)
    (matmul dot_S128x128_S128x128_S128x128_1_0_0_1_n_n none
      (truncf .bf16 (mulf (scoreB q k) (flat32 decB)) bitsLt_bf16_f32) (flat v) zeros)

/-- The chunk's decay, one number per lane, on every row. -/
def across (cd : Vec F S1x1x128 .f32) : Mat F :=
  broadcastTo S128x128 (shapeCast S1x128 cd shapeCasts_S1x1x128_S1x128) broadcasts_S1x128_S128x128

/-- The state before the first chunk. -/
def first : Mat F :=
  shapeCast S128x128 (shapeCast S128x128 (broadcast S128x128 (Scalar.ofBits .f32 0x00000000#32)) shapeCasts_S128x128_S128x128)
    shapeCasts_S128x128_S128x128

/-- The state that chunk `n` finds. -/
def state (k v : ℕ → Rows F) (zeta : Vec F S1x128x128 .f32) (cd : Vec F S1x1x128 .f32) : ℕ → Mat F
  | 0 => first
  | n + 1 => addf (mulf (state k v zeta cd n) (across cd)) (kv (k n) (v n) zeta)

/-- A chunk's result before its group norm: the chunk's own part plus the queries times the state found. -/
def out (q k v : Rows F) (decA decB xi : Vec F S1x128x128 .f32) (r : Mat F) : Mat F :=
  addf (inner q k v decA decB)
    (mulf (matmul dot_S128x128_S128x128_S128x128_1_0_0_1_n_n none (flat q) (truncf .bf16 r bitsLt_bf16_f32) zeros) (flat32 xi))

/-- Ones on the two diagonal squares. -/
def ones : FVec F S128x128 .bf16 :=
  truncf .bf16 (select diag (broadcast S128x128 (Scalar.ofBits .f32 0x3F800000#32)) (broadcast S128x128 (Scalar.ofBits .f32 0x00000000#32)))
    bitsLt_bf16_f32

/-- A row's sums over its two heads, one copy per lane: of its rounding plus of what the rounding leaves. -/
def headSums (z : Mat F) : Mat F :=
  addf (matmul dot_S128x128_S128x128_S128x128_1_0_0_1_n_n none (truncf .bf16 z bitsLt_bf16_f32) ones zeros)
    (matmul dot_S128x128_S128x128_S128x128_1_0_0_1_n_n none
      (truncf .bf16 (subf z (extf .f32 (truncf .bf16 z bitsLt_bf16_f32) bitsLt_bf16_f32)) bitsLt_bf16_f32) ones zeros)

/-- One sixty-fourth everywhere. -/
abbrev share : Mat F := broadcast S128x128 (Scalar.ofBits .f32 0x3C800000#32)

/-- A chunk's deviation from its heads' means. -/
def dev (o : Mat F) : Mat F := subf o (mulf (headSums o) share)

/-- The heads' variances. -/
def var (d : Mat F) : Mat F := mulf (headSums (mulf d d)) share

/-- A chunk's rows of the result. -/
def rows (o : Mat F) (g : Rows F) : Rows F :=
  shapeCast S1x128x128
    (truncf .bf16 (mulf (mulf (dev o) (rsqrt (addf (var (dev o)) (broadcast S128x128 (Scalar.ofBits .f32 0x3727C5AC#32)))))
      (extf .f32 (flat g) bitsLt_bf16_f32)) bitsLt_bf16_f32)
    shapeCasts_S128x128_S1x128x128

/-- Chunk `n` lies in the block. -/
theorem chunk_inb (n : Fin 32) : ∀ a, (![0, 128 * n.val, 0] : Fin 3 → ℕ) a + S1x128x128.size a ≤ S1x4096x128.size a := by
  intro a
  have := n.isLt
  fin_cases a
  · show 0 + 1 ≤ 1; omega
  · show 128 * n.val + 128 ≤ 4096; omega
  · show 0 + 128 ≤ 128; omega

/-- The place of chunk `n` in the block. -/
abbrev place (n : Fin 32) : Rect S1x4096x128 := Rect.unit (s := S1x4096x128) ![0, 128 * n.val, 0] S1x128x128.size (chunk_inb n)

/-- Chunk `n` of a block (the first chunk where there is none of that number). -/
def chunk (t : Vec F S1x4096x128 .bf16) (n : ℕ) : Rows F :=
  View.ld t (place (if h : n < 32 then ⟨n, h⟩ else 0))

/-- A matrix of the pair's two decay tables. -/
abbrev tableA (dec : Vec F S2x128x128 .f32) : Vec F S1x128x128 .f32 :=
  View.ld dec (Rect.unit (s := S2x128x128) ![0, 0, 0] S1x128x128.size inb_S2x128x128_S1x128x128_0_0_0)
abbrev tableB (dec : Vec F S2x128x128 .f32) : Vec F S1x128x128 .f32 :=
  View.ld dec (Rect.unit (s := S2x128x128) ![1, 0, 0] S1x128x128.size inb_S2x128x128_S1x128x128_1_0_0)

/-- Chunk `n` of the block's result, of the blocks the body reads. -/
def result (q k v g : Vec F S1x4096x128 .bf16) (dec : Vec F S2x128x128 .f32) (zeta xi : Vec F S1x128x128 .f32)
    (cd : Vec F S1x1x128 .f32) (n : ℕ) : Rows F :=
  rows (out (chunk q n) (chunk k n) (chunk v n) (tableA dec) (tableB dec) xi (state (chunk k) (chunk v) zeta cd n)) (chunk g n)

end Cert.KernelIdeal.Chunk
-- ==== Proof.Block.lean ====
/- What the retention kernel's body leaves in its block: every chunk at `Chunk.result`. -/
module

public import proofs.«01_k».proof.Proof.Chunk
public import proofs.«01_k».proof.Proof.Gen.KernelIdeal.Frame
public import Idealize.ShloMosaic.Lib.Pipeline.ValueKit.Acc

@[expose] public section

set_option maxRecDepth 16384

noncomputable section

namespace Cert.KernelIdeal.Block

open Idealize.ShloMosaic Idealize.ShloMosaic.TcCoe Idealize.SL.Sem Cert.KernelIdeal Cert.KernelIdeal.Gen
open Cert.KernelIdeal.Chunk

variable {F : FTy → Type} [FloatOps F]
variable (m : (ℓ : Loc nD τ sig) → Buf (Elt F) ℓ)

/-- The block's result, of the point's blocks. -/
abbrev res (c : Dev nD) (t : Fin cfg0.N) (n : ℕ) : Rows F :=
  result (iblk m c 0 t) (iblk m c 1 t) (iblk m c 2 t) (iblk m c 3 t) (iblk m c 4 t) (iblk m c 5 t) (iblk m c 6 t) (iblk m c 7 t) n

/-- The block's pieces, last first: chunk `n`'s rows at chunk `n`'s place. -/
def pieces (c : Dev nD) (t : Fin cfg0.N) : List (View.Piece (Elt F) S1x4096x128 .bf16) :=
  (List.finRange 32).reverse.map fun n => ⟨place n, res m c t n.val⟩

/-- The chunks' places cover the block. -/
theorem covered (c : Dev nD) (t : Fin cfg0.N) (y : S1x4096x128.Idx) : ∃ p ∈ pieces m c t, y ∈ p.1.set :=
  View.cover_of_tiledL (s := S1x4096x128) _ S1x128x128.size (by sl_kernel_rfl) y

/-- Pieces that are the chunks' rows leave the contents that every chunk's rows agree with. -/
theorem canon_eq (c : Dev nD) (t : Fin cfg0.N) (L : List (View.Piece (Elt F) S1x4096x128 .bf16)) (hL : L = pieces m c t)
    (G : Vec F S1x4096x128 .bf16) (hG : ∀ (n : Fin 32) (x : (place n).shape.Idx), res m c t n.val x = G ((place n).emb x)) :
    View.canon L = G := by
  subst hL
  funext y
  refine View.canon_apply_of_pieces G _ ?_ y (covered m c t y)
  intro p hp x
  obtain ⟨n, -, rfl⟩ := List.mem_map.mp hp
  exact hG n x

set_option maxHeartbeats 4000000 in
/-- What the body leaves in the block is what every chunk's rows agree with. -/
theorem outsAt_eq (c : Dev nD) (t : Fin cfg0.N) (G : Vec F S1x4096x128 .bf16)
    (hG : ∀ (n : Fin 32) (x : (place n).shape.Idx), res m c t n.val x = G ((place n).emb x)) : outsAt0 m c t = G := by
  unfold outsAt0
  frame_out
  refine canon_eq m c t _ ?_ G hG
  sl_kernel_rfl

end Cert.KernelIdeal.Block
-- ==== Proof.KerPoint.lean ====
/- The retention kernel's block over the extended reals, at an index: its two heads are `Cert.Retention.result`. -/
module

public import proofs.«01_k».proof.Proof.Chunk
public import proofs.«01_k».proof.Proof.Spec

@[expose] public section

set_option maxRecDepth 16384

noncomputable section

namespace Cert.KernelIdeal.Point

open Idealize.ShloMosaic Cert.KernelIdeal Cert.KernelIdeal.Gen Cert.KernelIdeal.Chunk
open Cert.Retention (IsReal Head tok)

/-- Lane `d` of the pair's head `u`. -/
def lane (u : Fin 2) (d : Fin 64) : Fin 128 := ⟨u.val * 64 + d.val, by omega⟩

theorem exists_lane (l : Fin 128) : ∃ u d, l = lane u d :=
  ⟨⟨l.val / 64, by omega⟩, ⟨l.val % 64, by omega⟩, Fin.ext (by show l.val = l.val / 64 * 64 + l.val % 64; omega)⟩

/-- A sum over the lanes is the sum over one head where the other head's terms are nothing. -/
theorem sum_lane (u : Fin 2) (f : Fin 128 → EReal) (hf : ∀ w d, w ≠ u → f (lane w d) = 0) : ∑ x, f x = ∑ d, f (lane u d) := by
  have hs : ∑ x, f x = (∑ d, f (lane 0 d)) + ∑ d, f (lane 1 d) := by
    rw [Fin.sum_univ_two_halves 64 64 rfl f]
    refine congrArg₂ (· + ·) ?_ ?_
    · exact Finset.sum_congr rfl fun d _ => congrArg f (Fin.ext (by show d.val = 0 * 64 + d.val; omega))
    · exact Finset.sum_congr rfl fun d _ => congrArg f (Fin.ext (by show 64 + d.val = 1 * 64 + d.val; omega))
  rw [hs]
  fin_cases u
  · rw [Finset.sum_eq_zero (fun d _ => hf 1 d (by decide)), add_zero]; rfl
  · rw [Finset.sum_eq_zero (f := fun d => f (lane 0 d)) (fun d _ => hf 0 d (by decide)), zero_add]; rfl

theorem slt_eq : ∀ l : Fin 128, IntOp.cmpi .slt (BitVec.ofNat 32 l.val) 64#32 = if l.val < 64 then 1#1 else 0#1 := by
  decide +kernel

/-- A choice by the mask of the first head. -/
theorem select_lo {α : Type} (i : Fin 128) (u : Fin 2) (d : Fin 64) (a b : α) :
    Scalar.select (lo (ix2 i (lane u d))) a b = if u = 0 then a else b := by
  have h : lo (ix2 i (lane u d)) = if u = 0 then 1#1 else 0#1 := by
    pointwise [lo]
    rw [slt_eq]
    exact if_congr (by show u.val * 64 + d.val < 64 ↔ u = 0; omega) rfl rfl
  rw [h]
  split <;> rfl

/-- A choice by the mask of the diagonal squares. -/
theorem select_diag {α : Type} (u w : Fin 2) (d e : Fin 64) (a b : α) :
    Scalar.select (diag (ix2 (lane u d) (lane w e))) a b = if u = w then a else b := by
  have h : diag (ix2 (lane u d) (lane w e)) = if u = w then 1#1 else 0#1 := by
    pointwise [diag, lo]
    have hl (u : Fin 2) (d : Fin 64) : (if (lane u d).val < 64 then 1#1 else 0#1 : BitVec 1) = if u = 0 then 1#1 else 0#1 :=
      if_congr (by show u.val * 64 + d.val < 64 ↔ u = 0; omega) rfl rfl
    rw [slt_eq, slt_eq, hl, hl]
    revert u w
    decide
  rw [h]
  split <;> rfl

theorem scoreA_apply (q k : Rows Ideal) (i j : Fin 128) :
    scoreA q k (ix2 i j) = ∑ d, q (ix3 0 i (lane 0 d)) * k (ix3 0 j (lane 0 d)) := by
  pointwise [scoreA]
  refine (sum_lane 0 _ fun w d hw => ?_).trans (Finset.sum_congr rfl fun d _ => ?_)
  · rw [select_lo, if_neg hw]
  · rw [select_lo, if_pos rfl]

theorem scoreB_apply (q k : Rows Ideal) (i j : Fin 128) :
    scoreB q k (ix2 i j) = ∑ d, q (ix3 0 i (lane 1 d)) * k (ix3 0 j (lane 1 d)) := by
  pointwise [scoreB]
  refine (sum_lane 1 _ fun w d hw => ?_).trans (Finset.sum_congr rfl fun d _ => ?_)
  · rw [select_lo, if_pos (by omega)]
  · rw [select_lo, if_neg (by decide)]

theorem inner_apply (q k v : Rows Ideal) (a b : Vec Ideal S1x128x128 .f32) (i : Fin 128) (u : Fin 2) (e : Fin 64) :
    Chunk.inner q k v a b (ix2 i (lane u e))
      = ∑ x, (∑ d, q (ix3 0 i (lane u d)) * k (ix3 0 x (lane u d))) * (if u = 0 then a (ix3 0 i x) else b (ix3 0 i x)) * v (ix3 0 x (lane u e)) := by
  pointwise [Chunk.inner]
  rw [select_lo]
  obtain rfl | rfl : u = 0 ∨ u = 1 := by omega
  · rw [if_pos rfl]
    exact Finset.sum_congr rfl fun x _ => by rw [scoreA_apply, if_pos rfl]
  · rw [if_neg (by decide)]
    exact Finset.sum_congr rfl fun x _ => by rw [scoreB_apply, if_neg (by decide)]

theorem kv_apply (k v : Rows Ideal) (z : Vec Ideal S1x128x128 .f32) (u w : Fin 2) (d e : Fin 64) :
    kv k v z (ix2 (lane u d) (lane w e))
      = if u = w then ∑ x, k (ix3 0 x (lane u d)) * z (ix3 0 x (lane u d)) * v (ix3 0 x (lane w e)) else 0 := by
  pointwise [kv]
  rw [select_diag]

/-- Head `u` of a block. -/
def half (t : Vec Ideal S1x4096x128 .bf16) (u : Fin 2) : Head := fun s d => t (ix3 0 s (lane u d))

theorem chunk_apply (t : Vec Ideal S1x4096x128 .bf16) {n : ℕ} (hn : n < 32) (i : Fin 128) (u : Fin 2) (d : Fin 64) :
    chunk t n (ix3 0 i (lane u d)) = half t u (tok n i) d := by
  unfold chunk half
  rw [dif_pos hn]
  pointwise
  refine congrArg (fun s => t (ix3 0 s (lane u d))) (Fin.ext ?_)
  show 128 * n + i.val = (n * 128 + i.val) % 4096
  omega

variable (q k v g : Vec Ideal S1x4096x128 .bf16) (dec : Vec Ideal S2x128x128 .f32) (zeta xi : Vec Ideal S1x128x128 .f32)
  (cd : Vec Ideal S1x1x128 .f32) (h : Fin 2 → ℕ)
  (hdec : ∀ u i j, dec (ix3 u i j) = Cert.Retention.decay (h u) i j)
  (hzeta : ∀ u i d, zeta (ix3 0 i (lane u d)) = Cert.Retention.zeta (h u) i)
  (hxi : ∀ u i d, xi (ix3 0 i (lane u d)) = Cert.Retention.xi (h u) i)
  (hcd : ∀ u d, cd (ix3 0 0 (lane u d)) = Cert.Retention.whole (h u))

include hzeta hcd in
theorem state_apply {n : ℕ} (hn : n < 32) (u w : Fin 2) (d e : Fin 64) :
    state (chunk k) (chunk v) zeta cd n (ix2 (lane u d) (lane w e))
      = if u = w then Cert.Retention.state (half k w) (half v w) (h w) n d e else 0 := by
  induction n with
  | zero =>
    show first (ix2 (lane u d) (lane w e)) = _
    pointwise [first]
    exact (ite_self _).symm
  | succ n ih =>
    have ih := ih (by omega)
    show addf (mulf (state (chunk k) (chunk v) zeta cd n) (across cd)) (kv (chunk k n) (chunk v n) zeta) (ix2 (lane u d) (lane w e)) = _
    pointwise [across]
    rw [ih, kv_apply, hcd]
    by_cases huw : u = w
    · subst huw
      simp only [if_true]
      refine congrArg₂ (· + ·) rfl (Finset.sum_congr rfl fun x _ => ?_)
      rw [chunk_apply k (by omega), chunk_apply v (by omega), hzeta]
    · simp only [if_neg huw]
      rw [zero_mul, add_zero]

include hdec hzeta hxi hcd in
theorem out_apply {n : ℕ} (hn : n < 32) (i : Fin 128) (u : Fin 2) (e : Fin 64) :
    out (chunk q n) (chunk k n) (chunk v n) (tableA dec) (tableB dec) xi (state (chunk k) (chunk v) zeta cd n) (ix2 i (lane u e))
      = Cert.Retention.out (half q u) (half k u) (half v u) (h u) n i e := by
  pointwise [out]
  rw [inner_apply, hxi]
  have hA (x : Fin 128) : tableA dec (ix3 0 i x) = dec (ix3 0 i x) := by pointwise [tableA]
  have hB (x : Fin 128) : tableB dec (ix3 0 i x) = dec (ix3 1 i x) := by pointwise [tableB]
  have hT (x : Fin 128) : (if u = 0 then tableA dec (ix3 0 i x) else tableB dec (ix3 0 i x)) = Cert.Retention.decay (h u) i x := by
    obtain rfl | rfl : u = 0 ∨ u = 1 := by omega
    · rw [if_pos rfl, hA, hdec]
    · rw [if_neg (by decide), hB, hdec]
  refine congrArg₂ (· + ·) (Finset.sum_congr rfl fun x _ => ?_) (congrArg (· * _) ?_)
  · rw [hT, chunk_apply v hn]
    refine congrArg (· * _ * _) (Finset.sum_congr rfl fun d _ => ?_)
    rw [chunk_apply q hn, chunk_apply k hn]
  · refine (sum_lane u _ fun w d hw => ?_).trans (Finset.sum_congr rfl fun d _ => ?_)
    · rw [state_apply k v zeta cd h hzeta hcd hn, if_neg hw, mul_zero]
    · rw [state_apply k v zeta cd h hzeta hcd hn, if_pos rfl, chunk_apply q hn]

/-- The sums over the heads of a real matrix. -/
theorem headSums_apply (z : Mat Ideal) (i : Fin 128) (hz : ∀ u d, IsReal (z (ix2 i (lane u d)))) (u : Fin 2) (e : Fin 64) :
    headSums z (ix2 i (lane u e)) = ∑ d, z (ix2 i (lane u d)) := by
  pointwise [headSums, ones]
  refine (congrArg₂ (· + ·) ((sum_lane u _ fun w d hw => by rw [select_diag, if_neg hw]).trans
    (Finset.sum_congr rfl fun d _ => ?_)) (Finset.sum_eq_zero fun x _ => ?_)).trans (add_zero _)
  · rw [select_diag, if_pos rfl]
  · obtain ⟨w, d, rfl⟩ := exists_lane x
    rw [(hz w d).sub_self, select_diag, ite_self]

theorem dev_apply (o : Mat Ideal) (i : Fin 128) (ho : ∀ u d, IsReal (o (ix2 i (lane u d)))) (u : Fin 2) (e : Fin 64) :
    dev o (ix2 i (lane u e)) = Cert.Retention.dev (fun d => o (ix2 i (lane u d))) e := by
  pointwise [dev]
  rw [headSums_apply o i ho]
  rfl

theorem rows_apply (o : Mat Ideal) (g : Rows Ideal) (i : Fin 128) (ho : ∀ u d, IsReal (o (ix2 i (lane u d)))) (u : Fin 2) (e : Fin 64) :
    rows o g (ix3 0 i (lane u e)) = Cert.Retention.normed (fun d => o (ix2 i (lane u d))) e * g (ix3 0 i (lane u e)) := by
  have hd (u : Fin 2) (d : Fin 64) : IsReal (dev o (ix2 i (lane u d))) := by
    rw [dev_apply o i ho]; exact IsReal.dev (ho u) d
  pointwise [rows, var]
  rw [headSums_apply _ i fun u d => by pointwise; exact (hd u d).mul (hd u d)]
  pointwise
  simp only [dev_apply o i ho]
  rfl

include hdec hzeta hxi hcd in
/-- A head of the block's result at a row, for real queries, keys and values. -/
theorem result_apply (hh : ∀ u, h u < 8) (hq : ∀ u s d, IsReal (half q u s d)) (hk : ∀ u s d, IsReal (half k u s d))
    (hv : ∀ u s d, IsReal (half v u s d)) {n : ℕ} (hn : n < 32) (i : Fin 128) (u : Fin 2) (e : Fin 64) :
    result q k v g dec zeta xi cd n (ix3 0 i (lane u e))
      = Cert.Retention.result (half q u) (half k u) (half v u) (half g u) (h u) n i e := by
  have ho := out_apply q k v dec zeta xi cd h hdec hzeta hxi hcd hn i
  unfold result
  rw [rows_apply _ _ i fun u d => by rw [ho]; exact IsReal.out (hq u) (hk u) (hv u) (hh u) n i d, chunk_apply g hn]
  simp only [ho]
  rfl

end Cert.KernelIdeal.Point
-- ==== Proof.Tables.lean ====
/- The decay tables that the host hands the retention kernel. -/
module

public import proofs.«01_k».proof.Proof.Gen.KernelIdeal.Frame
public import Idealize.ShloMosaic.Lib.StableHlo.RunRead

@[expose] public section

noncomputable section

namespace Cert.KernelIdeal.Tables

open Idealize.ShloMosaic Idealize.ShloMosaic.TcCoe Idealize.SL.Sem Cert.KernelIdeal Cert.KernelIdeal.Gen
open Idealize.ShloMosaic.StableHlo

variable {F : FTy → Type} [FloatOps F]
variable (m : (ℓ : Loc nD τ sig) → Buf (Elt F) ℓ)

/-- The logarithms of the heads' decays. -/
def logDecay : FVec F S8 .f32 :=
  Host.log1p (Host.negf (Host.powf (broadcastInDim S8 ![] bcast_S_S8 (constant S_ .f32 0x40000000#32))
    (subf (broadcastInDim S8 ![] bcast_S_S8 (constant S_ .f32 0xC0A00000#32)) (sitofp .f32 (iotaInDim S8 32 0)))))

/-- The positions of a chunk's rows. -/
abbrev pos : FVec F S128 .f32 := sitofp .f32 (iotaInDim S128 32 0)

/-- A row's position less a column's. -/
def diff : FVec F S128x128 .f32 :=
  subf (broadcastInDim S128x128 ![0, 1] bcast_S128x1_S128x128_0_1 (broadcastInDim S128x1 ![0] bcast_S128_S128x1_0 pos))
    (broadcastInDim S128x128 ![0, 1] bcast_S1x128_S128x128_0_1 (broadcastInDim S1x128 ![1] bcast_S128_S1x128_1 pos))

/-- The decay between a chunk's rows, per head. -/
def decay : FVec F S8x128x128 .f32 :=
  select (broadcastInDim S8x128x128 ![0, 1, 2] bcast_S1x128x128_S8x128x128_0_1_2
      (cmpf .oge (broadcastInDim S1x128x128 ![1, 2] bcast_S128x128_S1x128x128_1_2 (diff (F := F)))
        (broadcastInDim S1x128x128 ![] bcast_S_S1x128x128 (constant S_ .f32 0x00000000#32))))
    (Host.exp (mulf (broadcastInDim S8x128x128 ![0, 1, 2] bcast_S1x128x128_S8x128x128_0_1_2 (broadcastInDim S1x128x128 ![1, 2] bcast_S128x128_S1x128x128_1_2
        (maximumf diff (broadcastInDim S128x128 ![] bcast_S_S128x128 (constant S_ .f32 0x00000000#32)))))
      (broadcastInDim S8x128x128 ![0, 1, 2] bcast_S8x1x1_S8x128x128_0_1_2 (broadcastInDim S8x1x1 ![0] bcast_S8_S8x1x1_0 logDecay))))
    (broadcastInDim S8x128x128 ![] bcast_S_S8x128x128 (constant S_ .f32 0x00000000#32))

/-- The decay of a head to the power that a row asks for. -/
def powers (x : FVec F S128 .f32) : FVec F S8x128 .f32 :=
  Host.exp (mulf (broadcastInDim S8x128 ![0, 1] bcast_S1x128_S8x128_0_1 (broadcastInDim S1x128 ![1] bcast_S128_S1x128_1 x))
    (broadcastInDim S8x128 ![0, 1] bcast_S8x1_S8x128_0_1 (broadcastInDim S8x1 ![0] bcast_S8_S8x1_0 logDecay)))

/-- A table of heads and rows, laid out over the lanes of the pairs of heads. -/
def toLanes (t : FVec F S8x128 .f32) : FVec F S4x128x128 .f32 :=
  shapeCast S4x128x128 (broadcastInDim S4x128x2x64 ![0, 1, 2] bcast_S4x128x2_S4x128x2x64_0_1_2
    (transpose S4x128x2 [0, 2, 1] (shapeCast S4x2x128 t shapeCasts_S8x128_S4x2x128) transposes_S4x2x128_S4x128x2_0_2_1)) shapeCasts_S4x128x2x64_S4x128x128

/-- The decay to a chunk's end. -/
def zeta : FVec F S4x128x128 .f32 := toLanes (powers (subf (broadcastInDim S128 ![] bcast_S_S128 (constant S_ .f32 0x42FE0000#32)) pos))

/-- The decay from a chunk's start. -/
def xi : FVec F S4x128x128 .f32 := toLanes (powers (addf pos (broadcastInDim S128 ![] bcast_S_S128 (constant S_ .f32 0x3F800000#32))))

/-- The decay over a chunk, over the lanes of the pairs of heads. -/
def whole : FVec F S4x1x128 .f32 :=
  shapeCast S4x1x128 (broadcastInDim S4x1x2x64 ![0, 1, 2] bcast_S4x1x2_S4x1x2x64_0_1_2
    (shapeCast S4x1x2 (Host.exp (mulf (broadcastInDim S8 ![] bcast_S_S8 (constant S_ .f32 0x43000000#32)) (logDecay (F := F)))) shapeCasts_S8_S4x1x2)) shapeCasts_S4x1x2x64_S4x1x128

set_option maxHeartbeats 4000000 in
theorem V_decay (c : Dev nD) : V m c main_v24 = decay (F := F) := by
  simp only [V, hostOps0, hostOps0_1, hostOps0_2, List.flatten_cons, List.flatten_nil, List.append_nil, List.cons_append, List.nil_append]
  after_reads_simp
  all_goals rfl

set_option maxHeartbeats 4000000 in
theorem V_zeta (c : Dev nD) : V m c main_v50 = zeta (F := F) := by
  simp only [V, hostOps0, hostOps0_1, hostOps0_2, List.flatten_cons, List.flatten_nil, List.append_nil, List.cons_append, List.nil_append]
  after_reads_simp
  all_goals rfl

set_option maxHeartbeats 4000000 in
theorem V_xi (c : Dev nD) : V m c main_v54 = xi (F := F) := by
  simp only [V, hostOps0, hostOps0_1, hostOps0_2, List.flatten_cons, List.flatten_nil, List.append_nil, List.cons_append, List.nil_append]
  after_reads_simp
  all_goals rfl

set_option maxHeartbeats 4000000 in
theorem V_whole (c : Dev nD) : V m c main_v46 = whole (F := F) := by
  simp only [V, hostOps0, hostOps0_1, hostOps0_2, List.flatten_cons, List.flatten_nil, List.append_nil, List.cons_append, List.nil_append]
  after_reads_simp
  all_goals rfl

end Cert.KernelIdeal.Tables
-- ==== Proof.TablesPoint.lean ====
/- The kernel's decay tables at an index. -/
module

public import proofs.«01_k».proof.Proof.Tables
public import proofs.«01_k».proof.Proof.Spec

@[expose] public section

set_option maxRecDepth 16384

noncomputable section

namespace Cert.KernelIdeal.Tables

open Idealize.ShloMosaic Cert.KernelIdeal Cert.KernelIdeal.Gen

theorem logDecay_apply (h : Fin 8) : logDecay (F := Ideal) (ix1 h) = Cert.Retention.logDecay h := by
  pointwise [logDecay]
  rfl

theorem powers_apply (x : FVec Ideal S128 .f32) (h : Fin 8) (i : Fin 128) :
    powers x (ix2 h i) = Ideal.exp (x (ix1 i) * Cert.Retention.logDecay h) := by
  pointwise [powers]
  rw [logDecay_apply]

theorem toLanes_apply (t : FVec Ideal S8x128 .f32) (p : Fin 4) (i l : Fin 128) :
    toLanes t (ix3 p i l) = t (ix2 ⟨p * 2 + l / 64, by omega⟩ i) := by
  pointwise [toLanes]

theorem decay_apply (h : Fin 8) (i j : Fin 128) : decay (F := Ideal) (ix3 h i j) = Cert.Retention.decay h i j := by
  pointwise [decay, diff]
  rw [logDecay_apply]
  exact if_congr (Cert.Retention.num_le i j) rfl rfl

theorem zeta_apply (p : Fin 4) (i l : Fin 128) : zeta (F := Ideal) (ix3 p i l) = Cert.Retention.zeta (p * 2 + l / 64) i := by
  rw [zeta, toLanes_apply, powers_apply]
  pointwise
  rfl

theorem xi_apply (p : Fin 4) (i l : Fin 128) : xi (F := Ideal) (ix3 p i l) = Cert.Retention.xi (p * 2 + l / 64) i := by
  rw [xi, toLanes_apply, powers_apply, Cert.Retention.xi, Cert.Retention.ofBits_one]
  pointwise
  rfl

theorem whole_apply (p : Fin 4) (l : Fin 128) : whole (F := Ideal) (ix3 p 0 l) = Cert.Retention.whole (p * 2 + l / 64) := by
  pointwise [whole]
  rw [logDecay_apply]
  rfl

end Cert.KernelIdeal.Tables
-- ==== Proof.Final.lean ====
/- The retention kernel's result array over the extended reals: at every index `Cert.Retention.result`. -/
module

public import proofs.«01_k».proof.Proof.Block
public import proofs.«01_k».proof.Proof.KerPoint
public import proofs.«01_k».proof.Proof.TablesPoint
public import proofs.«01_k».proof.Proof.Gen.KernelIdeal.Value
public import Idealize.ShloMosaic.Lib.Pipeline.ValueKit

@[expose] public section

set_option maxRecDepth 16384

noncomputable section

namespace Cert.KernelIdeal.Final

open Idealize.ShloMosaic Idealize.ShloMosaic.TcCoe Idealize.SL.Sem Cert.KernelIdeal Cert.KernelIdeal.Gen
open Cert.KernelIdeal.Chunk Cert.KernelIdeal.Point
open Cert.Retention (IsReal Head tok)

variable (m : (ℓ : Loc nD τ sig) → Buf (Elt Ideal) ℓ) (c : Dev nD)

/-- The pair of heads and the batch of a grid point. -/
def pair (t : Fin cfg0.N) : Fin 4 := ⟨t.val % 4, by omega⟩
def batch (t : Fin cfg0.N) : Fin 8 := ⟨t.val / 4, by have : t.val < 32 := t.isLt; omega⟩

theorem index_facts : ∀ t : Fin cfg0.N,
    win0_0.index t = ![t.val / 4, 0, t.val % 4] ∧ win0_1.index t = ![t.val / 4, 0, t.val % 4]
    ∧ win0_2.index t = ![t.val / 4, 0, t.val % 4] ∧ win0_3.index t = ![t.val / 4, 0, t.val % 4]
    ∧ win0_4.index t = ![t.val % 4, 0, 0] ∧ win0_5.index t = ![t.val % 4, 0, 0]
    ∧ win0_6.index t = ![t.val % 4, 0, 0] ∧ win0_7.index t = ![t.val % 4, 0, 0]
    ∧ win0_8.index t = ![t.val / 4, 0, t.val % 4] :=
  (by decide +kernel : ∀ t : Fin grid0.N, _)

theorem blk0 (t : Fin cfg0.N) (s : Fin 4096) (l : Fin 128) :
    iblk m c 0 t (ix3 0 s l) = V m c main_arg0 (ix3 (batch t) s ⟨(pair t).val * 128 + l.val, by omega⟩) := by
  blk_ext [iblk, index_facts t] <;> rfl
theorem blk1 (t : Fin cfg0.N) (s : Fin 4096) (l : Fin 128) :
    iblk m c 1 t (ix3 0 s l) = V m c main_arg1 (ix3 (batch t) s ⟨(pair t).val * 128 + l.val, by omega⟩) := by
  blk_ext [iblk, index_facts t] <;> rfl
theorem blk2 (t : Fin cfg0.N) (s : Fin 4096) (l : Fin 128) :
    iblk m c 2 t (ix3 0 s l) = V m c main_arg2 (ix3 (batch t) s ⟨(pair t).val * 128 + l.val, by omega⟩) := by
  blk_ext [iblk, index_facts t] <;> rfl
theorem blk3 (t : Fin cfg0.N) (s : Fin 4096) (l : Fin 128) :
    iblk m c 3 t (ix3 0 s l) = V m c main_arg3 (ix3 (batch t) s ⟨(pair t).val * 128 + l.val, by omega⟩) := by
  blk_ext [iblk, index_facts t] <;> rfl
theorem blk4 (t : Fin cfg0.N) (u : Fin 2) (i j : Fin 128) :
    iblk m c 4 t (ix3 u i j) = V m c main_v24 (ix3 ⟨(pair t).val * 2 + u.val, by omega⟩ i j) := by
  blk_ext [iblk, index_facts t] <;> rfl
theorem blk5 (t : Fin cfg0.N) (i j : Fin 128) : iblk m c 5 t (ix3 0 i j) = V m c main_v50 (ix3 (pair t) i j) := by
  blk_ext [iblk, index_facts t] <;> rfl
theorem blk6 (t : Fin cfg0.N) (i j : Fin 128) : iblk m c 6 t (ix3 0 i j) = V m c main_v54 (ix3 (pair t) i j) := by
  blk_ext [iblk, index_facts t] <;> rfl
theorem blk7 (t : Fin cfg0.N) (j : Fin 128) : iblk m c 7 t (ix3 0 0 j) = V m c main_v46 (ix3 (pair t) 0 j) := by
  blk_ext [iblk, index_facts t] <;> rfl

/-- Head `h` of an argument's batch `b`. -/
def slice (t : FVec Ideal S8x4096x512 .bf16) (b h : Fin 8) : Head := fun s d => t (ix3 b s ⟨h.val * 64 + d.val, by omega⟩)

/-- The head of the pair's half `u`. -/
def head (t : Fin cfg0.N) (u : Fin 2) : Fin 8 := ⟨(pair t).val * 2 + u.val, by omega⟩

/-- The four arguments as the run starts with them. -/
abbrev args (c : Dev nD) : Fin 4 → FVec Ideal S8x4096x512 .bf16 :=
  ![m ((c.tc : Thread nD τ).loc main_arg0), m ((c.tc : Thread nD τ).loc main_arg1),
    m ((c.tc : Thread nD τ).loc main_arg2), m ((c.tc : Thread nD τ).loc main_arg3)]

theorem lane_eq (t : Fin cfg0.N) (u : Fin 2) (d : Fin 64) (h1 : (pair t).val * 128 + (lane u d).val < 512) (h2 : (head t u).val * 64 + d.val < 512) :
    (⟨(pair t).val * 128 + (lane u d).val, h1⟩ : Fin 512) = ⟨(head t u).val * 64 + d.val, h2⟩ :=
  Fin.ext (by show (pair t).val * 128 + (u.val * 64 + d.val) = ((pair t).val * 2 + u.val) * 64 + d.val; omega)

theorem half0 (t : Fin cfg0.N) (u : Fin 2) : half (iblk m c 0 t) u = slice (args m c 0) (batch t) (head t u) := by
  funext s d
  unfold half
  rw [blk0, V_main_arg0, lane_eq]
  rfl
theorem half1 (t : Fin cfg0.N) (u : Fin 2) : half (iblk m c 1 t) u = slice (args m c 1) (batch t) (head t u) := by
  funext s d
  unfold half
  rw [blk1, V_main_arg1, lane_eq]
  rfl
theorem half2 (t : Fin cfg0.N) (u : Fin 2) : half (iblk m c 2 t) u = slice (args m c 2) (batch t) (head t u) := by
  funext s d
  unfold half
  rw [blk2, V_main_arg2, lane_eq]
  rfl
theorem half3 (t : Fin cfg0.N) (u : Fin 2) : half (iblk m c 3 t) u = slice (args m c 3) (batch t) (head t u) := by
  funext s d
  unfold half
  rw [blk3, V_main_arg3, lane_eq]
  rfl

/-- The result array: at each index, its head's retention. -/
def answer : FVec Ideal S8x4096x512 .bf16 := fun x =>
  Cert.Retention.result (slice (args m c 0) (x 0) ⟨(x 2).val / 64, by have : (x 2).val < 512 := (x 2).isLt; omega⟩)
    (slice (args m c 1) (x 0) ⟨(x 2).val / 64, by have : (x 2).val < 512 := (x 2).isLt; omega⟩)
    (slice (args m c 2) (x 0) ⟨(x 2).val / 64, by have : (x 2).val < 512 := (x 2).isLt; omega⟩)
    (slice (args m c 3) (x 0) ⟨(x 2).val / 64, by have : (x 2).val < 512 := (x 2).isLt; omega⟩)
    ((x 2).val / 64) ((x 1).val / 128) ⟨(x 1).val % 128, by omega⟩ ⟨(x 2).val % 64, by omega⟩

theorem answer_apply (b h : Fin 8) (n : Fin 32) (i : Fin 128) (e : Fin 64) (h1 : n.val * 128 + i.val < 4096) (h2 : h.val * 64 + e.val < 512) :
    answer m c (ix3 b ⟨n.val * 128 + i.val, h1⟩ ⟨h.val * 64 + e.val, h2⟩)
      = Cert.Retention.result (slice (args m c 0) b h) (slice (args m c 1) b h) (slice (args m c 2) b h) (slice (args m c 3) b h) h n i e := by
  have e1 : (h.val * 64 + e.val) / 64 = h.val := by omega
  have e2 : (h.val * 64 + e.val) % 64 = e.val := by omega
  have e3 : (n.val * 128 + i.val) / 128 = n.val := by omega
  have e4 : (n.val * 128 + i.val) % 128 = i.val := by omega
  show Cert.Retention.result (slice (args m c 0) b ⟨(h.val * 64 + e.val) / 64, _⟩) (slice (args m c 1) b ⟨(h.val * 64 + e.val) / 64, _⟩)
    (slice (args m c 2) b ⟨(h.val * 64 + e.val) / 64, _⟩) (slice (args m c 3) b ⟨(h.val * 64 + e.val) / 64, _⟩)
    ((h.val * 64 + e.val) / 64) ((n.val * 128 + i.val) / 128) ⟨(n.val * 128 + i.val) % 128, _⟩ ⟨(h.val * 64 + e.val) % 64, _⟩ = _
  simp only [e1, e2, e3, e4]

/-- Real arguments: the queries, the keys and the values hold real numbers. -/
def RealArgs : Prop := ∀ w : Fin 3, ∀ x, IsReal (args m c w.castSucc x)

variable {m c}

/-- A point's block of the result. -/
theorem res_apply (hr : RealArgs m c) (t : Fin cfg0.N) (n : Fin 32) (i : Fin 128) (u : Fin 2) (e : Fin 64) :
    Block.res m c t n.val (ix3 0 i (lane u e))
      = answer m c (ix3 (batch t) ⟨n.val * 128 + i.val, by omega⟩ ⟨(pair t).val * 128 + (lane u e).val, by omega⟩) := by
  have hlt (u : Fin 2) : (pair t).val * 2 + u.val < 8 := by omega
  rw [lane_eq t u e _ (by have := (head t u).isLt; omega), answer_apply, ← half0, ← half1, ← half2, ← half3]
  refine result_apply _ _ _ _ _ _ _ _ (fun u => (head t u).val) ?_ ?_ ?_ ?_ (fun u => (head t u).isLt) ?_ ?_ ?_ n.isLt i u e
  · intro u i j
    rw [blk4, Tables.V_decay, Tables.decay_apply]
    rfl
  · intro u i d
    rw [blk5, Tables.V_zeta, Tables.zeta_apply]
    exact congrArg (fun h => Cert.Retention.zeta h i) (by show (pair t).val * 2 + (u.val * 64 + d.val) / 64 = (pair t).val * 2 + u.val; omega)
  · intro u i d
    rw [blk6, Tables.V_xi, Tables.xi_apply]
    exact congrArg (fun h => Cert.Retention.xi h i) (by show (pair t).val * 2 + (u.val * 64 + d.val) / 64 = (pair t).val * 2 + u.val; omega)
  · intro u d
    rw [blk7, Tables.V_whole, Tables.whole_apply]
    exact congrArg Cert.Retention.whole (by show (pair t).val * 2 + (u.val * 64 + d.val) / 64 = (pair t).val * 2 + u.val; omega)
  · intro u s d; rw [half0]; exact hr 0 _
  · intro u s d; rw [half1]; exact hr 1 _
  · intro u s d; rw [half2]; exact hr 2 _

/-- What a point leaves in its block. -/
theorem outs_apply (hr : RealArgs m c) (t : Fin cfg0.N) :
    outsAt0 m c t = fun y => answer m c (ix3 (batch t) (y 1) ⟨(pair t).val * 128 + (y 2).val, by have : (y 2).val < 128 := (y 2).isLt; omega⟩) := by
  refine Block.outsAt_eq m c t _ fun n x => ?_
  obtain ⟨z, i, l, rfl⟩ : ∃ (z : Fin 1) (i l : Fin 128), x = ix3 z i l := ⟨x 0, x 1, x 2, eq_ix3 x⟩
  obtain rfl : z = 0 := Subsingleton.elim _ _
  obtain ⟨u, e, rfl⟩ := exists_lane l
  rw [res_apply hr]
  have hs : ((place n).emb (ix3 0 i (lane u e)) 1) = (⟨n.val * 128 + i.val, by omega⟩ : Fin 4096) :=
    Fin.ext (by show 128 * n.val + 1 * i.val = n.val * 128 + i.val; omega)
  have hl : ((place n).emb (ix3 0 i (lane u e)) 2).val = (lane u e).val := by show 0 + 1 * (lane u e).val = _; omega
  simp only [hs, hl]

/-- The result array after the run. -/
theorem final (hr : RealArgs m c) : (dats m 0 c).arrAt 8 cfg0.N = answer m c := by
  refine (dats m 0 c).arrAt_eq_of_covers 8 _ (by decide +kernel) fun t hf y => ?_
  rw [after0_8, outs_apply hr]
  blk_ext [index_facts t] <;> rfl

end Cert.KernelIdeal.Final
-- ==== Proof.Projection.Kernel2IdealFrame.lean ====
/- The frame of the projection's program, `Kernel2Ideal`: what each output holds after a grid point, the body's obligation and the run.
   As generated, with a larger budget for the body's obligation and the docstrings shortened. -/
module

public import proofs.«01_k».proof.Proof.Gen.Kernel2Ideal.Frame.RunA
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 8 tile its block. -/
theorem cover0_A_8 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).1 S1x1024x128.size (by sl_kernel_rfl) y

/-- What the run leaves in output 8's staging buffer: its pieces read back over junk. -/
def out0_A_8 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) : Vec F S1x1024x512 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).1)

/-- The run's pieces for output 9 tile its block. -/
theorem cover0_A_9 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.1 S1x1024x128.size (by sl_kernel_rfl) y

/-- What the run leaves in output 9's staging buffer: its pieces read back over junk. -/
def out0_A_9 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) : Vec F S1x1024x512 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.1)

/-- The run's pieces for output 10 tile its block. -/
theorem cover0_A_10 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.1 S1x1024x128.size (by sl_kernel_rfl) y

/-- What the run leaves in output 10's staging buffer: its pieces read back over junk. -/
def out0_A_10 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) : Vec F S1x1024x512 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.1)

/-- The run's pieces for output 11 tile its block. -/
theorem cover0_A_11 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.1 S1x1024x128.size (by sl_kernel_rfl) y

/-- What the run leaves in output 11's staging buffer: its pieces read back over junk. -/
def out0_A_11 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) : Vec F S1x1024x512 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.1)

/-- The run's pieces for output 12 tile its block. -/
theorem cover0_A_12 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.1 S1x1024x128.size (by sl_kernel_rfl) y

/-- What the run leaves in output 12's staging buffer: its pieces read back over junk. -/
def out0_A_12 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) : Vec F S1x1024x512 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.1)

/-- The run's pieces for output 13 tile its block. -/
theorem cover0_A_13 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.1 S1x1024x128.size (by sl_kernel_rfl) y

/-- What the run leaves in output 13's staging buffer: its pieces read back over junk. -/
def out0_A_13 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) : Vec F S1x1024x512 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.1)

/-- The run's pieces for output 14 tile its block. -/
theorem cover0_A_14 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.1 S1x1024x128.size (by sl_kernel_rfl) y

/-- What the run leaves in output 14's staging buffer: its pieces read back over junk. -/
def out0_A_14 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) : Vec F S1x1024x256 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.1)

/-- The run's pieces for output 15 tile its block. -/
theorem cover0_A_15 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.1 S1x1024x128.size (by sl_kernel_rfl) y

/-- What the run leaves in output 15's staging buffer: its pieces read back over junk. -/
def out0_A_15 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) : Vec F S1x1024x256 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.1)

/-- The run's pieces for output 16 tile its block. -/
theorem cover0_A_16 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.1 S1x1024x128.size (by sl_kernel_rfl) y

/-- What the run leaves in output 16's staging buffer: its pieces read back over junk. -/
def out0_A_16 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) : Vec F S1x1024x256 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.1)

/-- The run's pieces for output 17 tile its block. -/
theorem cover0_A_17 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.2.1 S1x1024x128.size (by sl_kernel_rfl) y

/-- What the run leaves in output 17's staging buffer: its pieces read back over junk. -/
def out0_A_17 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) : Vec F S1x1024x256 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.2.1)

/-- The run's pieces for output 18 tile its block. -/
theorem cover0_A_18 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.2.2.1 S1x1024x128.size (by sl_kernel_rfl) y

/-- What the run leaves in output 18's staging buffer: its pieces read back over junk. -/
def out0_A_18 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) : Vec F S1x1024x512 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.2.2.1)

/-- The run's pieces for output 19 tile its block. -/
theorem cover0_A_19 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) (y : S1x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.2.2.2.1 S1x1024x128.size (by sl_kernel_rfl) y

/-- What the run leaves in output 19's staging buffer: its pieces read back over junk. -/
def out0_A_19 (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x1024x1 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x3968 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x512 .f32) (harg15 : arg15.IsWhole) (arg16 : Memref sig .tc .vmem S1x1024x256 .bf16) (harg16 : arg16.IsWhole) (arg17 : Memref sig .tc .vmem S1x1024x256 .bf16) (harg17 : arg17.IsWhole) (arg18 : Memref sig .tc .vmem S1x1024x256 .bf16) (harg18 : arg18.IsWhole) (arg19 : Memref sig .tc .vmem S1x1024x256 .bf16) (harg19 : arg19.IsWhole) (arg20 : Memref sig .tc .vmem S1x1024x512 .bf16) (harg20 : arg20.IsWhole) (arg21 : Memref sig .tc .vmem S1x1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x768 .f32) (harg26 : arg26.IsWhole) (arg27 : Memref sig .tc .vmem S1024x768 .f32) (harg27 : arg27.IsWhole)
    (x0 : Vec F S1x1024x1024 .f32) (x1 : Vec F S1x1x1024 .f32) (x2 : Vec F S1x1x1024 .f32) (x3 : Vec F S1x1024 .f32) (x4 : Vec F S1x1024x1 .i32) (x5 : Vec F S1x128 .f32) (x6 : Vec F S1x128 .f32) (x7 : Vec F S1024x3968 .bf16) : Vec F S1x1024x128 .f32 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x1024x512 .bf16 × Vec F S1x1024x512 .bf16 × Vec F S1x1024x512 .bf16 × Vec F S1x1024x512 .bf16 × Vec F S1x1024x512 .bf16 × Vec F S1x1024x512 .f32 × Vec F S1x1024x256 .bf16 × Vec F S1x1024x256 .bf16 × Vec F S1x1024x256 .bf16 × Vec F S1x1024x256 .bf16 × Vec F S1x1024x512 .bf16 × Vec F S1x1024x128 .f32 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t).1
    | ⟨9, _⟩ => (outsAt0 m c t).2.1
    | ⟨10, _⟩ => (outsAt0 m c t).2.2.1
    | ⟨11, _⟩ => (outsAt0 m c t).2.2.2.1
    | ⟨12, _⟩ => (outsAt0 m c t).2.2.2.2.1
    | ⟨13, _⟩ => (outsAt0 m c t).2.2.2.2.2.1
    | ⟨14, _⟩ => (outsAt0 m c t).2.2.2.2.2.2.1
    | ⟨15, _⟩ => (outsAt0 m c t).2.2.2.2.2.2.2.1
    | ⟨16, _⟩ => (outsAt0 m c t).2.2.2.2.2.2.2.2.1
    | ⟨17, _⟩ => (outsAt0 m c t).2.2.2.2.2.2.2.2.2.1
    | ⟨18, _⟩ => (outsAt0 m c t).2.2.2.2.2.2.2.2.2.2.1
    | ⟨19, _⟩ => (outsAt0 m c t).2.2.2.2.2.2.2.2.2.2.2
    | ⟨_ + 20, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t).1 := by dsimp only [dats]
theorem after0_9 (c : Dev nD) (t : Fin cfg0.N) : (dats m 0 c).after 9 t = (outsAt0 m c t).2.1 := by dsimp only [dats]
theorem after0_10 (c : Dev nD) (t : Fin cfg0.N) : (dats m 0 c).after 10 t = (outsAt0 m c t).2.2.1 := by dsimp only [dats]
theorem after0_11 (c : Dev nD) (t : Fin cfg0.N) : (dats m 0 c).after 11 t = (outsAt0 m c t).2.2.2.1 := by dsimp only [dats]
theorem after0_12 (c : Dev nD) (t : Fin cfg0.N) : (dats m 0 c).after 12 t = (outsAt0 m c t).2.2.2.2.1 := by dsimp only [dats]
theorem after0_13 (c : Dev nD) (t : Fin cfg0.N) : (dats m 0 c).after 13 t = (outsAt0 m c t).2.2.2.2.2.1 := by dsimp only [dats]
theorem after0_14 (c : Dev nD) (t : Fin cfg0.N) : (dats m 0 c).after 14 t = (outsAt0 m c t).2.2.2.2.2.2.1 := by dsimp only [dats]
theorem after0_15 (c : Dev nD) (t : Fin cfg0.N) : (dats m 0 c).after 15 t = (outsAt0 m c t).2.2.2.2.2.2.2.1 := by dsimp only [dats]
theorem after0_16 (c : Dev nD) (t : Fin cfg0.N) : (dats m 0 c).after 16 t = (outsAt0 m c t).2.2.2.2.2.2.2.2.1 := by dsimp only [dats]
theorem after0_17 (c : Dev nD) (t : Fin cfg0.N) : (dats m 0 c).after 17 t = (outsAt0 m c t).2.2.2.2.2.2.2.2.2.1 := by dsimp only [dats]
theorem after0_18 (c : Dev nD) (t : Fin cfg0.N) : (dats m 0 c).after 18 t = (outsAt0 m c t).2.2.2.2.2.2.2.2.2.2.1 := by dsimp only [dats]
theorem after0_19 (c : Dev nD) (t : Fin cfg0.N) : (dats m 0 c).after 19 t = (outsAt0 m c t).2.2.2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.castSucc = Pipeline.ΦA spec0 c from rfl, PhiA0_eq]
  unfold outsAt0
  unfold out0_A_8 out0_A_9 out0_A_10 out0_A_11 out0_A_12 out0_A_13 out0_A_14 out0_A_15 out0_A_16 out0_A_17 out0_A_18 out0_A_19; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%fT0, HS0⟩, ⟨%fT1, HS1⟩, ⟨%fT2, HS2⟩, ⟨%fT3, HS3⟩, ⟨%fT4, HS4⟩, ⟨%fT5, HS5⟩⟩
  isplitl [HS0 HS1 HS2 HS3 HS4 HS5 Hg]
  · isplitl [HS0 HS1 HS2 HS3 HS4 HS5]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      iexists _; unfold owns; iexists _; isplitr
      swap; · iexact HS5
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H19
  ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel2Ideal.Gen

end
-- ==== Proof.Projection.Spec.lean ====
/- The projection over the extended reals: the twelve arrays that the kernel and the reference are both shown to compute. -/
module

public import Idealize.ShloMosaic.Lib.Pointwise

@[expose] public section

noncomputable section

namespace Cert.Projection

open Idealize.ShloMosaic

/-- The arguments: activations, positions, the modulation's shift, scale and gate in one row, the norm's gains, the weights. -/
structure Args where
  x : Fin 8 → Fin 4096 → Fin 1024 → EReal
  pos : Fin 8 → Fin 4096 → BitVec 32
  mod : Fin 8 → Fin 3072 → EReal
  g : Fin 1024 → EReal
  w : Fin 1024 → Fin 3864 → EReal

/-- A float constant. -/
abbrev lit (b : BitVec 32) : EReal := Ideal.ofBits .f32 b

/-- A whole number as a float. -/
def num (i : ℕ) : EReal := FloatOps.sitofp (F := Ideal) .f32 (BitVec.ofNat 32 i)

/-- A row of activations, divided by its root mean square. -/
def normed (x g : Fin 1024 → EReal) (k : Fin 1024) : EReal :=
  x k * Ideal.rsqrt (Ideal.div (∑ j, x j * x j) (lit 0x44800000#32) + lit 0x358637BD#32) * g k

/-- A row of the projection's input. -/
def hidden (x g scale shift : Fin 1024 → EReal) (k : Fin 1024) : EReal :=
  normed x g k * (1 + scale k) + shift k

variable (A : Args)

/-- A token's row of the projection's input. -/
def row (b : Fin 8) (s : Fin 4096) : Fin 1024 → EReal :=
  hidden (A.x b s) A.g (fun k => A.mod b ⟨1024 + k, by omega⟩) (fun k => A.mod b ⟨k, by omega⟩)

/-- Column `n` of the weights, nothing past the last. -/
def col (n : ℕ) (k : Fin 1024) : EReal := if h : n < 3864 then A.w k ⟨n, h⟩ else 0

theorem col_of_lt {n : ℕ} (h : n < 3864) (k : Fin 1024) : col A n k = A.w k ⟨n, h⟩ := dif_pos h

/-- A token's projection, column `n`. -/
def proj (b : Fin 8) (s : Fin 4096) (n : ℕ) : EReal := ∑ k, row A b s k * col A n k

/-- The rate of a rotation's pair `i`. -/
def rate (base half : EReal) (i : ℕ) : EReal := Ideal.pow base (Ideal.div (-num i) half)

/-- The rates of the retention's rotation, and of the attention's. -/
def retRate : ℕ → EReal := rate (lit 0x461C4000#32) (lit 0x42000000#32)
def nsaRate : ℕ → EReal := rate (lit 0x48F42400#32) (lit 0x41000000#32)

/-- A token's position as a float. -/
def place (b : Fin 8) (s : Fin 4096) : EReal := FloatOps.sitofp (F := Ideal) .f32 (A.pos b s)

/-- A rotation of the first `2 * half` columns in pairs `half` apart, at column `d`. -/
def turn (half : ℕ) (ang z : ℕ → EReal) (d : ℕ) : EReal :=
  if d < half then z d * Ideal.cos (ang d) - z (d + half) * Ideal.sin (ang d)
  else if d < 2 * half then z (d - half) * Ideal.sin (ang (d - half)) + z d * Ideal.cos (ang (d - half))
  else z d

/-- The retention's rotation of the 64 columns from `off`, at column `d`. -/
def retTurn (b : Fin 8) (s : Fin 4096) (off d : ℕ) : EReal :=
  turn 32 (fun i => place A b s * retRate i) (fun i => proj A b s (off + i)) d

/-- The attention's rotation of the 64 columns from `off`, at column `d`. -/
def nsaTurn (b : Fin 8) (s : Fin 4096) (off d : ℕ) : EReal :=
  turn 8 (fun i => place A b s * nsaRate i) (fun i => proj A b s (off + i)) d

/-- A value times its logistic. -/
def silu (z : EReal) : EReal := z * Ideal.logistic z

/-- The retention's queries, keys, values and gate path, at column `c`. -/
def rq (b : Fin 8) (s : Fin 4096) (c : ℕ) : EReal := retTurn A b s (c / 64 * 64) (c % 64) * lit 0x3E000000#32
def rk (b : Fin 8) (s : Fin 4096) (c : ℕ) : EReal := retTurn A b s (512 + c / 64 * 64) (c % 64)
def rv (b : Fin 8) (s : Fin 4096) (c : ℕ) : EReal := proj A b s (1024 + c)
def rg (b : Fin 8) (s : Fin 4096) (c : ℕ) : EReal := silu (proj A b s (1536 + c))

/-- The attention's queries, scaled for exponentials of base two. -/
def nq (b : Fin 8) (s : Fin 4096) (c : ℕ) : EReal :=
  nsaTurn A b s (2048 + c / 64 * 64) (c % 64) * ((8⁻¹ * (Real.log 2)⁻¹ : ℝ) : EReal)

/-- The keys and values to compress: each group's columns twice. -/
def cmp (b : Fin 8) (s : Fin 4096) (c : ℕ) : EReal := proj A b s (2560 + c / 256 * 128 + c % 256 / 128 * 64 + c % 64)

/-- The selected branch's keys, each followed by the marks of its token's block. -/
def ks (b : Fin 8) (s : Fin 4096) (c : ℕ) : EReal :=
  if c % 128 < 64 then nsaTurn A b s (2816 + c / 128 * 64) (c % 64) else if s.val / 64 = c % 64 then 1 else 0

/-- The selected branch's values, each followed by ones. -/
def vs (b : Fin 8) (s : Fin 4096) (c : ℕ) : EReal := if c % 128 < 64 then proj A b s (2944 + c / 128 * 64 + c % 64) else 1

/-- The window branch's keys, each twice. -/
def kw (b : Fin 8) (s : Fin 4096) (c : ℕ) : EReal := nsaTurn A b s (3072 + c / 128 * 64) (c % 64)

/-- The window branch's values, each followed by ones. -/
def vw (b : Fin 8) (s : Fin 4096) (c : ℕ) : EReal := if c % 128 < 64 then proj A b s (3200 + c / 128 * 64 + c % 64) else 1

/-- The gate path of the attention. -/
def ng (b : Fin 8) (s : Fin 4096) (c : ℕ) : EReal := silu (proj A b s (3352 + c))

/-- The gates of the three branches; past the last one the gate of zero. -/
def gl (b : Fin 8) (s : Fin 4096) (c : ℕ) : EReal := Ideal.logistic (if c < 24 then proj A b s (3328 + c) else 0)

/-! ### The constants -/

theorem lit_one : lit 0x3F800000#32 = 1 := by
  rw [← EReal.coe_one]; simp [lit, Ideal.ofBits, Ideal.ieee, -EReal.coe_mul, -EReal.coe_one]; norm_num
theorem lit_zero : lit 0x00000000#32 = 0 := by simp [lit, Ideal.ofBits, Ideal.ieee, -EReal.coe_mul]
theorem lit_two : lit 0x40000000#32 = ((2 : ℝ) : EReal) := by simp [lit, Ideal.ofBits, Ideal.ieee, -EReal.coe_mul]; norm_num
theorem lit_eighth : lit 0x3E000000#32 = ((8⁻¹ : ℝ) : EReal) := by simp [lit, Ideal.ofBits, Ideal.ieee, -EReal.coe_mul]; norm_num

/-- The scaling of the attention's queries: by an eighth, and for base two. -/
theorem scaled (z : EReal) :
    Ideal.div (z * lit 0x3E000000#32) (Ideal.log (lit 0x40000000#32)) = z * ((8⁻¹ * (Real.log 2)⁻¹ : ℝ) : EReal) := by
  have hl : Ideal.log (lit 0x40000000#32) = ((Real.log 2 : ℝ) : EReal) := by
    rw [lit_two]
    show (if (2 : ℝ) ≤ 0 then _ else _) = _
    rw [if_neg (by norm_num)]
  have h2 : Real.log 2 ≠ 0 := (Real.log_pos (by norm_num)).ne'
  rw [hl, Ideal.div_coe h2, lit_eighth, mul_assoc, ← EReal.coe_mul, one_div]

end Cert.Projection
-- ==== Proof.Projection.Tile.lean ====
/- The projection kernel's tiles of 128 columns, read at a row and a column. -/
module

public import proofs.«01_k».proof.Proof.Projection.Spec
public import proofs.«01_k».proof.Proof.Gen.Kernel2Ideal.Skeleton
public import Idealize.ShloMosaic.Lib.Pointwise

@[expose] public section

set_option maxRecDepth 16384

noncomputable section

namespace Cert.Kernel2Ideal.Tile

open Idealize.ShloMosaic Idealize.ShloMosaic.TcCoe Idealize.SL.Sem Cert.Kernel2Ideal Cert.Kernel2Ideal.Gen Cert.Projection

/-- A tile of 128 columns of a block of 1024 tokens. -/
abbrev Tile := Vec Ideal S1024x128 .f32

/-- The lanes of a tile. -/
abbrev lanes : IVec S1024x128 32 := iota .tc S1024x128 32 [1] iota_S1024x128_d1_w32

/-! ### Choices by the lane -/

theorem select_ofBool (p : Prop) [Decidable p] (a b : EReal) :
    Scalar.select (BitVec.ofBool (decide p)) a b = if p then a else b := by
  by_cases h : p <;> simp [h, Scalar.select]

theorem head_slt_32 (l : Fin 128) :
    IntOp.cmpi .slt (IntOp.andi (BitVec.ofNat 32 l) 63#32) 32#32 = BitVec.ofBool (decide (l.val % 64 < 32)) := by
  revert l; decide +kernel
theorem head_slt_16 (l : Fin 128) :
    IntOp.cmpi .slt (IntOp.andi (BitVec.ofNat 32 l) 63#32) 16#32 = BitVec.ofBool (decide (l.val % 64 < 16)) := by
  revert l; decide +kernel
theorem head_slt_8 (l : Fin 128) :
    IntOp.cmpi .slt (IntOp.andi (BitVec.ofNat 32 l) 63#32) 8#32 = BitVec.ofBool (decide (l.val % 64 < 8)) := by
  revert l; decide +kernel
theorem half_slt (l : Fin 128) : IntOp.cmpi .slt (BitVec.ofNat 32 l) 64#32 = BitVec.ofBool (decide (l.val < 64)) := by
  revert l; decide +kernel

/-- The block of 64 that a token is in. -/
theorem block_of (i : Fin 4) (r : Fin 1024) :
    IntOp.shrsi ArithUnit.vector (IntOp.addi (Scalar.muli (BitVec.ofNat 32 i) 1024#32) (BitVec.ofNat 32 r)) 6#32
      = BitVec.ofNat 32 ((i.val * 1024 + r.val) / 64) := by
  revert i r; decide +kernel
theorem mark_eq (l : Fin 128) (q : Fin 64) :
    IntOp.cmpi .eq (IntOp.subi (BitVec.ofNat 32 l) 64#32) (BitVec.ofNat 32 q) = BitVec.ofBool (decide (l.val = q.val + 64)) := by
  revert l q; decide +kernel

/-! ### The rotations by the lane -/

theorem turn_32 (f ang : ℕ → EReal) (l : Fin 128) :
    f l * Ideal.cos (ang (l % 64 % 32))
      + (if l.val % 64 < 32 then f ((l.val + 128 - 96) % 128) else f ((l.val + 128 - 32) % 128))
        * (if l.val % 64 < 32 then 0 - Ideal.sin (ang (l % 64 % 32)) else Ideal.sin (ang (l % 64 % 32)))
      = turn 32 ang (fun i => f (l / 64 * 64 + i)) (l % 64) := by
  unfold turn
  by_cases h : l.val % 64 < 32
  · simp only [h, if_true]
    rw [Nat.mod_eq_of_lt h, zero_sub, mul_neg, ← sub_eq_add_neg, show (l.val + 128 - 96) % 128 = l / 64 * 64 + (l % 64 + 32) by omega,
      show l.val / 64 * 64 + l % 64 = l by omega]
  · simp only [h, if_false]
    rw [if_pos (by omega), show l.val % 64 % 32 = l % 64 - 32 by omega, show (l.val + 128 - 32) % 128 = l / 64 * 64 + (l % 64 - 32) by omega,
      show l.val / 64 * 64 + l % 64 = l by omega, add_comm]

theorem turn_8 (f ang : ℕ → EReal) (l : Fin 128) :
    f l * (if l.val % 64 < 16 then Ideal.cos (ang (l % 64 % 8)) else 1)
      + (if l.val % 64 < 8 then f ((l.val + 128 - 120) % 128) else f ((l.val + 128 - 8) % 128))
        * (if l.val % 64 < 8 then 0 - Ideal.sin (ang (l % 64 % 8)) else if l.val % 64 < 16 then Ideal.sin (ang (l % 64 % 8)) else 0)
      = turn 8 ang (fun i => f (l / 64 * 64 + i)) (l % 64) := by
  unfold turn
  by_cases h : l.val % 64 < 8
  · have h' : l.val % 64 < 16 := by omega
    simp only [h, h', if_true]
    rw [Nat.mod_eq_of_lt h, zero_sub, mul_neg, ← sub_eq_add_neg, show (l.val + 128 - 120) % 128 = l / 64 * 64 + (l % 64 + 8) by omega,
      show l.val / 64 * 64 + l % 64 = l by omega]
  · simp only [h, if_false]
    by_cases h' : l.val % 64 < 16
    · rw [if_pos h', if_pos h', if_pos (by omega), show l.val % 64 % 8 = l % 64 - 8 by omega,
        show (l.val + 128 - 8) % 128 = l / 64 * 64 + (l % 64 - 8) by omega, show l.val / 64 * 64 + l % 64 = l by omega, add_comm]
    · rw [if_neg h', if_neg h', if_neg (by omega), mul_one, mul_zero, add_zero, show l.val / 64 * 64 + l % 64 = l by omega]

/-! ### The tables -/

section Tables
variable (p : Vec Ideal S1x1024x1 .i32) (q : Vec Ideal S1x128 .f32)

/-- The cosines and signed sines of the retention's rotation, and of the attention's. -/
def retCos : Tile := k0_pay9 (F := Ideal) (k0_pay6 p) (k0_pay7 q)
def retSin : Tile := k0_pay10 (F := Ideal) k0_pay5 (k0_pay6 p) (k0_pay7 q)
def nsaCos : Tile := k0_pay13 (F := Ideal) (k0_pay4 p) k0_pay5 q
def nsaSin : Tile := k0_pay14 (F := Ideal) (k0_pay12 (k0_pay4 p) k0_pay5 q)

/-- A token's position times a lane's rate. -/
abbrev angle (r : Fin 1024) (l : Fin 128) : EReal := FloatOps.sitofp (F := Ideal) .f32 (p (ix3 0 r 0)) * q (ix2 0 l)

theorem retCos_apply (r : Fin 1024) (l : Fin 128) : retCos p q (ix2 r l) = Ideal.cos (angle p q r l) := by
  pointwise [retCos, k0_pay9, k0_pay8, k0_pay6, k0_pay4, k0_pay7]
theorem retSin_apply (r : Fin 1024) (l : Fin 128) :
    retSin p q (ix2 r l) = if l.val % 64 < 32 then 0 - Ideal.sin (angle p q r l) else Ideal.sin (angle p q r l) := by
  pointwise [retSin, k0_pay10, k0_pay8, k0_pay6, k0_pay4, k0_pay7, k0_pay5]
  simp only [head_slt_32, select_ofBool]
theorem nsaCos_apply (r : Fin 1024) (l : Fin 128) :
    nsaCos p q (ix2 r l) = if l.val % 64 < 16 then Ideal.cos (angle p q r l) else 1 := by
  pointwise [nsaCos, k0_pay13, k0_pay11, k0_pay4, k0_pay5]
  simp only [head_slt_16, select_ofBool]
theorem nsaSin_apply (r : Fin 1024) (l : Fin 128) :
    nsaSin p q (ix2 r l) = if l.val % 64 < 8 then 0 - Ideal.sin (angle p q r l) else if l.val % 64 < 16 then Ideal.sin (angle p q r l) else 0 := by
  pointwise [nsaSin, k0_pay14, k0_pay12, k0_pay11, k0_pay4, k0_pay5]
  simp only [head_slt_16, head_slt_8, select_ofBool]

end Tables

/-! ### The rows and the product -/

theorem hidden_apply (x0 : Vec Ideal S1x1024x1024 .f32) (x1 x2 : Vec Ideal S1x1x1024 .f32) (x3 : Vec Ideal S1x1024 .f32) (r k : Fin 1024) :
    k0_pay3 (F := Ideal) x0 x3 x2 x1 (ix2 r k)
      = Projection.hidden (fun k => x0 (ix3 0 r k)) (fun k => x3 (ix2 0 k)) (fun k => x2 (ix3 0 0 k)) (fun k => x1 (ix3 0 0 k)) k := by
  pointwise [k0_pay3]
  rfl

theorem product_512 (h : FVec Ideal S1024x1024 .bf16) (w : Vec Ideal S1024x512 .bf16) (r : Fin 1024) (l : Fin 512) :
    k0_pay15 (F := Ideal) h w (ix2 r l) = ∑ k, h (ix2 r k) * w (ix2 k l) := by pointwise [k0_pay15]
theorem product_768 (h : FVec Ideal S1024x1024 .bf16) (w : Vec Ideal S1024x768 .bf16) (r : Fin 1024) (l : Fin 768) :
    k0_pay47 (F := Ideal) h w (ix2 r l) = ∑ k, h (ix2 r k) * w (ix2 k l) := by pointwise [k0_pay47]
theorem product_640 (h : FVec Ideal S1024x1024 .bf16) (w : Vec Ideal S1024x640 .bf16) (r : Fin 1024) (l : Fin 640) :
    k0_pay75 (F := Ideal) h w (ix2 r l) = ∑ k, h (ix2 r k) * w (ix2 k l) := by pointwise [k0_pay75]

/-! ### The tiles written -/

theorem mark_apply (r : Fin 1024) (l : Fin 128) (i : Fin 4) : k0_pay59 (F := Ideal) (BitVec.ofNat 32 i) lanes (ix2 r l) = if l.val = (i.val * 1024 + r.val) / 64 + 64 then 1 else 0 := by
  pointwise [k0_pay59]
  rw [block_of, mark_eq l ⟨(i.val * 1024 + r.val) / 64, by omega⟩, select_ofBool]

section Tiles
variable (z c s : Tile) (r : Fin 1024) (f ang : ℕ → EReal) (hz : ∀ l : Fin 128, z (ix2 r l) = f l) (l : Fin 128)
include hz

theorem plain_apply : k0_pay29 (F := Ideal) z (ix3 0 r l) = f l := by
  pointwise [k0_pay29]
  exact hz l
theorem silu_apply : k0_pay76 (F := Ideal) z (ix3 0 r l) = silu (f l) := by
  pointwise [k0_pay76]
  rw [hz l]; rfl
theorem gate_apply : k0_pay2 (F := Ideal) z (ix3 0 r l) = Ideal.logistic (f l) := by
  pointwise [k0_pay2]
  rw [hz l]
theorem low_apply : k0_pay56 (F := Ideal) lanes z (ix3 0 r l) = f (l % 64) := by
  pointwise [k0_pay56, k0_pay53, k0_pay52]
  simp only [half_slt, select_ofBool, hz]
  split <;> congr 1 <;> omega
theorem high_apply : k0_pay57 (F := Ideal) lanes z (ix3 0 r l) = f (64 + l % 64) := by
  pointwise [k0_pay57, k0_pay53, k0_pay52]
  simp only [half_slt, select_ofBool, hz]
  split <;> congr 1 <;> omega
theorem vlow_apply : k0_pay64 (F := Ideal) (k0_pay58 lanes) k0_pay60 z (ix3 0 r l) = if l.val < 64 then f (l % 64) else 1 := by
  pointwise [k0_pay64, k0_pay58, k0_pay60]
  simp only [half_slt, select_ofBool, hz]
  split
  · congr 1; omega
  · rfl
theorem vhigh_apply : k0_pay66 (F := Ideal) (k0_pay65 (k0_pay58 lanes) k0_pay60 z) (ix3 0 r l) = if l.val < 64 then f (64 + l % 64) else 1 := by
  pointwise [k0_pay66, k0_pay65, k0_pay58, k0_pay60]
  simp only [half_slt, select_ofBool, hz]
  split
  · congr 1; omega
  · rfl

section Ret
variable (hc : ∀ l : Fin 128, c (ix2 r l) = Ideal.cos (ang (l % 64 % 32)))
  (hs : ∀ l : Fin 128, s (ix2 r l) = if l.val % 64 < 32 then 0 - Ideal.sin (ang (l % 64 % 32)) else Ideal.sin (ang (l % 64 % 32)))
include hz hc hs

theorem rq_apply : k0_pay16 (F := Ideal) k0_pay5 z c s (ix3 0 r l)
    = turn 32 ang (fun i => f (l / 64 * 64 + i)) (l % 64) * lit 0x3E000000#32 := by
  pointwise [k0_pay16, k0_pay5]
  simp only [head_slt_32, select_ofBool, hz, hc, hs]
  rw [← turn_32]
theorem rk_apply : k0_pay24 (F := Ideal) k0_pay5 z c s (ix3 0 r l) = turn 32 ang (fun i => f (l / 64 * 64 + i)) (l % 64) := by
  pointwise [k0_pay24, k0_pay5]
  simp only [head_slt_32, select_ofBool, hz, hc, hs]
  rw [← turn_32]

end Ret

section Nsa
variable (hc : ∀ l : Fin 128, c (ix2 r l) = if l.val % 64 < 16 then Ideal.cos (ang (l % 64 % 8)) else 1)
  (hs : ∀ l : Fin 128, s (ix2 r l)
    = if l.val % 64 < 8 then 0 - Ideal.sin (ang (l % 64 % 8)) else if l.val % 64 < 16 then Ideal.sin (ang (l % 64 % 8)) else 0)
include hz hc hs

theorem nq_apply : k0_pay43 (F := Ideal) k0_pay5 z c s (ix3 0 r l)
    = turn 8 ang (fun i => f (l / 64 * 64 + i)) (l % 64) * Named.named (F := Ideal) (φ := .f32) κ "log2e_8" 0x3E38AA3B#32 := by
  pointwise [k0_pay43, k0_pay5]
  simp only [head_slt_8, select_ofBool, hz, hc, hs]
  rw [← turn_8]

theorem key_apply : k0_pay61 (F := Ideal) k0_pay5 z c s (ix2 r l) = turn 8 ang (fun i => f (l / 64 * 64 + i)) (l % 64) := by
  pointwise [k0_pay61, k0_pay5]
  simp only [head_slt_8, select_ofBool, hz, hc, hs]
  rw [← turn_8]

theorem klow_apply : k0_pay70 (F := Ideal) lanes k0_pay5 z c s (ix3 0 r l) = turn 8 ang f (l % 64) := by
  show (k0_pay56 (F := Ideal) lanes (k0_pay61 (F := Ideal) k0_pay5 z c s) (ix3 0 r l) : EReal) = _
  rw [low_apply (k0_pay61 (F := Ideal) k0_pay5 z c s) r (fun l => turn 8 ang (fun i => f (l / 64 * 64 + i)) (l % 64)) (fun l => key_apply z c s r f ang hz l hc hs) l]
  simp only [show l.val % 64 / 64 = 0 by omega, Nat.mod_mod, zero_mul, zero_add]
theorem khigh_apply : k0_pay71 (F := Ideal) lanes k0_pay5 z c s (ix3 0 r l) = turn 8 ang (fun i => f (64 + i)) (l % 64) := by
  show (k0_pay57 (F := Ideal) lanes (k0_pay61 (F := Ideal) k0_pay5 z c s) (ix3 0 r l) : EReal) = _
  rw [high_apply (k0_pay61 (F := Ideal) k0_pay5 z c s) r (fun l => turn 8 ang (fun i => f (l / 64 * 64 + i)) (l % 64)) (fun l => key_apply z c s r f ang hz l hc hs) l]
  simp only [show (64 + l.val % 64) / 64 = 1 by omega, show (64 + l.val % 64) % 64 = l.val % 64 by omega, one_mul]

variable (i : Fin 4)

theorem slow_apply : k0_pay62 (F := Ideal) k0_pay5 (k0_pay58 lanes) (k0_pay59 (BitVec.ofNat 32 i) lanes) z c s (ix3 0 r l)
    = if l.val < 64 then turn 8 ang f (l % 64) else if (i.val * 1024 + r.val) / 64 = l.val % 64 then 1 else 0 := by
  pointwise [k0_pay62, k0_pay58]
  rw [half_slt, select_ofBool, key_apply z c s r f ang hz _ hc hs, mark_apply]
  split
  · simp only [show l.val / 64 = 0 by omega, zero_mul, zero_add]
  · congr 1; apply propext; omega
theorem shigh_apply : k0_pay63 (F := Ideal) k0_pay5 (k0_pay58 lanes) (k0_pay59 (BitVec.ofNat 32 i) lanes) z c s (ix3 0 r l)
    = if l.val < 64 then turn 8 ang (fun i => f (64 + i)) (l % 64) else if (i.val * 1024 + r.val) / 64 = l.val % 64 then 1 else 0 := by
  pointwise [k0_pay63, k0_pay58]
  rw [half_slt, select_ofBool, key_apply z c s r f ang hz _ hc hs, mark_apply]
  split
  · simp only [show (l.val + 128 - 64) % 128 / 64 = 1 by omega, show (l.val + 128 - 64) % 128 % 64 = l.val % 64 by omega, one_mul]
  · congr 1; apply propext; omega

end Nsa
end Tiles

end Cert.Kernel2Ideal.Tile
-- ==== Proof.Projection.Body.lean ====
/- What the projection kernel's body leaves in its twelve blocks, as the tiles written. -/
module

public import proofs.«01_k».proof.Proof.Projection.Tile
public import proofs.«01_k».proof.Proof.Gen.Kernel2Ideal.Frame.RunA
public import Idealize.ShloMosaic.Lib.Pipeline.ValueKit.Acc
public import Idealize.ShloMosaic.Lib.Pipeline.ValueKit.Geometry
public import Idealize.ShloMosaic.Lib.WholeRead

@[expose] public section

set_option maxRecDepth 16384

noncomputable section

namespace Cert.Kernel2Ideal.Body

open Idealize.ShloMosaic Idealize.ShloMosaic.TcCoe Idealize.SL.Sem Cert.Kernel2Ideal Cert.Kernel2Ideal.Gen Cert.Kernel2Ideal.Tile

/-! ### Reads -/

theorem whole2 {a b : ℕ} {e : EltTy} {m : Memref sig .tc .vmem ⟨2, ![a, b]⟩ e} (h : m.IsWhole) (x : Vec Ideal ⟨2, ![a, b]⟩ e) (inb) :
    View.readAt (Elt Ideal) m.view (Rect.unit (s := ⟨2, ![a, b]⟩) ![0, 0] ![a, b] inb).toLoadRect (h.unread x) = x := by
  funext y
  rw [Memref.IsWhole.readAt_unread]
  refine congrArg x (funext fun k => Fin.ext ?_)
  refine (ValueKit.rect_emb_unit_val _ _ inb y k).trans ?_
  match k with
  | ⟨0, _⟩ => exact Nat.zero_add _
  | ⟨1, _⟩ => exact Nat.zero_add _

theorem whole3 {a b d : ℕ} {e : EltTy} {m : Memref sig .tc .vmem ⟨3, ![a, b, d]⟩ e} (h : m.IsWhole) (x : Vec Ideal ⟨3, ![a, b, d]⟩ e) (inb) :
    View.readAt (Elt Ideal) m.view (Rect.unit (s := ⟨3, ![a, b, d]⟩) ![0, 0, 0] ![a, b, d] inb).toLoadRect (h.unread x) = x := by
  funext y
  rw [Memref.IsWhole.readAt_unread]
  refine congrArg x (funext fun k => Fin.ext ?_)
  refine (ValueKit.rect_emb_unit_val _ _ inb y k).trans ?_
  match k with
  | ⟨0, _⟩ => exact Nat.zero_add _
  | ⟨1, _⟩ => exact Nat.zero_add _
  | ⟨2, _⟩ => exact Nat.zero_add _

/-- Column `n` of the weights' block, nothing past the last. -/
def wcol (x7 : Vec Ideal S1024x3968 .bf16) (n : ℕ) (k : Fin 1024) : EReal := if h : n < 3968 then x7 (ix2 k ⟨n, h⟩) else 0

/-- The tile of the product's 128 columns from `n`. -/
def prod (h : FVec Ideal S1024x1024 .bf16) (x7 : Vec Ideal S1024x3968 .bf16) (n : ℕ) : Tile :=
  fun y => ∑ k, h (ix2 (y 0) k) * wcol x7 (n + (y 1).val) k

theorem staged (v : View sig .tc .vmem S1024x768 .f32) (w : ℕ) (inb) (z : (⟨2, ![1024, w]⟩ : Shape).Idx → Elt Ideal .f32) (L) (c : ℕ) (inb')
    (hc : c + 128 ≤ w) :
    v.readCov ((⟨Rect.unit (s := S1024x768) ![0, 0] ![1024, w] inb, z⟩ : View.Piece (Elt Ideal) S1024x768 .f32) :: L)
        (Rect.unit (s := S1024x768) ![0, c] ![1024, 128] inb').toLoadRect
      = fun y => z (ix2 (y 0) ⟨c + (y 1).val, lt_of_lt_of_le (Nat.add_lt_add_left (y 1).isLt c) hc⟩) := by
  rw [View.readCov_eq_canon']
  funext y
  rw [show (Rect.unit (s := S1024x768) ![0, c] ![1024, 128] inb').toLoadRect.idx y
      = (Rect.unit (s := S1024x768) ![0, 0] ![1024, w] inb).emb (ix2 (y 0) ⟨c + (y 1).val, lt_of_lt_of_le (Nat.add_lt_add_left (y 1).isLt c) hc⟩) from ?_]
  · exact View.canon_cons_emb _ _ _ _
  · funext k
    apply Fin.ext
    refine (ValueKit.rect_emb_unit_val _ _ inb' y k).trans (Eq.trans ?_ (ValueKit.rect_emb_unit_val _ _ inb _ k).symm)
    match k with
    | ⟨0, _⟩ => rfl
    | ⟨1, _⟩ => exact (Nat.zero_add _).symm

theorem weights {m : Memref sig .tc .vmem S1024x3968 .bf16} (h : m.IsWhole) (x7 : Vec Ideal S1024x3968 .bf16) (off w : ℕ) (inb) (k : Fin 1024)
    (l : Fin w) : View.readAt (Elt Ideal) m.view (Rect.unit (s := S1024x3968) ![0, off] ![1024, w] inb).toLoadRect (h.unread x7) (ix2 k l)
      = wcol x7 (off + l.val) k := by
  have hlt : off + l.val < 3968 := lt_of_lt_of_le (Nat.add_lt_add_left l.isLt off) (inb 1)
  rw [Memref.IsWhole.readAt_unread, wcol, dif_pos hlt]
  refine congrArg x7 (funext fun a => Fin.ext ?_)
  refine (ValueKit.rect_emb_unit_val _ _ inb _ a).trans ?_
  match a with
  | ⟨0, _⟩ => exact Nat.zero_add _
  | ⟨1, _⟩ => rfl

theorem read_512 (v : View sig .tc .vmem S1024x768 .f32) {m : Memref sig .tc .vmem S1024x3968 .bf16} (hm : m.IsWhole)
    (x7 : Vec Ideal S1024x3968 .bf16) (h : FVec Ideal S1024x1024 .bf16) (off c : ℕ) (inbW inb inb') (L) (hc : c + 128 ≤ 512) :
    v.readCov ((⟨Rect.unit (s := S1024x768) ![0, 0] ![1024, 512] inb, k0_pay15 (F := Ideal) h
          (View.readAt (Elt Ideal) m.view (Rect.unit (s := S1024x3968) ![0, off] ![1024, 512] inbW).toLoadRect (hm.unread x7))⟩ :
          View.Piece (Elt Ideal) S1024x768 .f32) :: L)
        (Rect.unit (s := S1024x768) ![0, c] ![1024, 128] inb').toLoadRect = prod h x7 (off + c) := by
  rw [staged _ _ _ _ _ _ _ hc]
  funext y
  refine (product_512 _ _ (y 0) ⟨c + (y 1).val, lt_of_lt_of_le (Nat.add_lt_add_left (y 1).isLt c) hc⟩).trans ?_
  refine Finset.sum_congr rfl fun k _ => ?_
  rw [weights hm x7 off 512 inbW, Nat.add_assoc]

theorem read_768 (v : View sig .tc .vmem S1024x768 .f32) {m : Memref sig .tc .vmem S1024x3968 .bf16} (hm : m.IsWhole)
    (x7 : Vec Ideal S1024x3968 .bf16) (h : FVec Ideal S1024x1024 .bf16) (off c : ℕ) (inbW inb inb') (L) (hc : c + 128 ≤ 768) :
    v.readCov ((⟨Rect.unit (s := S1024x768) ![0, 0] ![1024, 768] inb, k0_pay47 (F := Ideal) h
          (View.readAt (Elt Ideal) m.view (Rect.unit (s := S1024x3968) ![0, off] ![1024, 768] inbW).toLoadRect (hm.unread x7))⟩ :
          View.Piece (Elt Ideal) S1024x768 .f32) :: L)
        (Rect.unit (s := S1024x768) ![0, c] ![1024, 128] inb').toLoadRect = prod h x7 (off + c) := by
  rw [staged _ _ _ _ _ _ _ hc]
  funext y
  refine (product_768 _ _ (y 0) ⟨c + (y 1).val, lt_of_lt_of_le (Nat.add_lt_add_left (y 1).isLt c) hc⟩).trans ?_
  refine Finset.sum_congr rfl fun k _ => ?_
  rw [weights hm x7 off 768 inbW, Nat.add_assoc]

theorem read_640 (v : View sig .tc .vmem S1024x768 .f32) {m : Memref sig .tc .vmem S1024x3968 .bf16} (hm : m.IsWhole)
    (x7 : Vec Ideal S1024x3968 .bf16) (h : FVec Ideal S1024x1024 .bf16) (off c : ℕ) (inbW inb inb') (L) (hc : c + 128 ≤ 640) :
    v.readCov ((⟨Rect.unit (s := S1024x768) ![0, 0] ![1024, 640] inb, k0_pay75 (F := Ideal) h
          (View.readAt (Elt Ideal) m.view (Rect.unit (s := S1024x3968) ![0, off] ![1024, 640] inbW).toLoadRect (hm.unread x7))⟩ :
          View.Piece (Elt Ideal) S1024x768 .f32) :: L)
        (Rect.unit (s := S1024x768) ![0, c] ![1024, 128] inb').toLoadRect = prod h x7 (off + c) := by
  rw [staged _ _ _ _ _ _ _ hc]
  funext y
  refine (product_640 _ _ (y 0) ⟨c + (y 1).val, lt_of_lt_of_le (Nat.add_lt_add_left (y 1).isLt c) hc⟩).trans ?_
  refine Finset.sum_congr rfl fun k _ => ?_
  rw [weights hm x7 off 640 inbW, Nat.add_assoc]

/-! ### The run's reads -/

section Run
variable (c : Dev nD) (i : grid0.Coords)
variable (arg2 : Memref sig .tc .vmem S1x1024x1024 .f32) (harg2 : arg2.IsWhole)
variable (arg3 : Memref sig .tc .vmem S1x1x1024 .f32) (harg3 : arg3.IsWhole)
variable (arg4 : Memref sig .tc .vmem S1x1x1024 .f32) (harg4 : arg4.IsWhole)
variable (arg5 : Memref sig .tc .vmem S1x1024 .f32) (harg5 : arg5.IsWhole)
variable (arg6 : Memref sig .tc .vmem S1x1024x1 .i32) (harg6 : arg6.IsWhole)
variable (arg7 : Memref sig .tc .vmem S1x128 .f32) (harg7 : arg7.IsWhole)
variable (arg8 : Memref sig .tc .vmem S1x128 .f32) (harg8 : arg8.IsWhole)
variable (arg9 : Memref sig .tc .vmem S1024x3968 .bf16) (harg9 : arg9.IsWhole)
variable (arg10 : Memref sig .tc .vmem S1x1024x512 .bf16) (harg10 : arg10.IsWhole)
variable (arg11 : Memref sig .tc .vmem S1x1024x512 .bf16) (harg11 : arg11.IsWhole)
variable (arg12 : Memref sig .tc .vmem S1x1024x512 .bf16) (harg12 : arg12.IsWhole)
variable (arg13 : Memref sig .tc .vmem S1x1024x512 .bf16) (harg13 : arg13.IsWhole)
variable (arg14 : Memref sig .tc .vmem S1x1024x512 .bf16) (harg14 : arg14.IsWhole)
variable (arg15 : Memref sig .tc .vmem S1x1024x512 .f32) (harg15 : arg15.IsWhole)
variable (arg16 : Memref sig .tc .vmem S1x1024x256 .bf16) (harg16 : arg16.IsWhole)
variable (arg17 : Memref sig .tc .vmem S1x1024x256 .bf16) (harg17 : arg17.IsWhole)
variable (arg18 : Memref sig .tc .vmem S1x1024x256 .bf16) (harg18 : arg18.IsWhole)
variable (arg19 : Memref sig .tc .vmem S1x1024x256 .bf16) (harg19 : arg19.IsWhole)
variable (arg20 : Memref sig .tc .vmem S1x1024x512 .bf16) (harg20 : arg20.IsWhole)
variable (arg21 : Memref sig .tc .vmem S1x1024x128 .f32) (harg21 : arg21.IsWhole)
variable (arg22 : Memref sig .tc .vmem S1024x128 .f32) (harg22 : arg22.IsWhole)
variable (arg23 : Memref sig .tc .vmem S1024x128 .f32) (harg23 : arg23.IsWhole)
variable (arg24 : Memref sig .tc .vmem S1024x128 .f32) (harg24 : arg24.IsWhole)
variable (arg25 : Memref sig .tc .vmem S1024x128 .f32) (harg25 : arg25.IsWhole)
variable (arg26 : Memref sig .tc .vmem S1024x768 .f32) (harg26 : arg26.IsWhole)
variable (arg27 : Memref sig .tc .vmem S1024x768 .f32) (harg27 : arg27.IsWhole)
variable (x0 : Vec Ideal S1x1024x1024 .f32) (x1 x2 : Vec Ideal S1x1x1024 .f32) (x3 : Vec Ideal S1x1024 .f32) (x4 : Vec Ideal S1x1024x1 .i32)
variable (x5 x6 : Vec Ideal S1x128 .f32) (x7 : Vec Ideal S1024x3968 .bf16)

/-- The product's 128 columns from `n`, of the point's blocks. -/
def zt (n : ℕ) : Tile := prod (k0_pay3 (F := Ideal) x0 x3 x2 x1) x7 n

theorem r_eq : kernelRun0_A.sl.r (F := Ideal) c arg2 harg2 arg3 harg3 arg4 harg4 arg5 harg5 x0 x1 x2 x3 = k0_pay3 x0 x3 x2 x1 := by
  unfold kernelRun0_A.sl.r
  congr 1
  exacts [whole3 harg2 x0 _, whole2 harg5 x3 _, whole3 harg4 x2 _, whole3 harg3 x1 _]

theorem v83_eq : kernelRun0_A.sl.v83 (F := Ideal) c arg2 harg2 arg3 harg3 arg4 harg4 arg5 harg5 arg9 harg9 arg26 x0 x1 x2 x3 x7 = zt x0 x1 x2 x3 x7 0 := by
  rw [zt, ← r_eq c arg2 harg2 arg3 harg3 arg4 harg4 arg5 harg5]
  exact read_512 arg26.view harg9 x7 _ 0 0 _ _ _ _ (by decide)
theorem v100_eq : kernelRun0_A.sl.v100 (F := Ideal) c arg2 harg2 arg3 harg3 arg4 harg4 arg5 harg5 arg9 harg9 arg26 x0 x1 x2 x3 x7 = zt x0 x1 x2 x3 x7 128 := by
  rw [zt, ← r_eq c arg2 harg2 arg3 harg3 arg4 harg4 arg5 harg5]
  exact read_512 arg26.view harg9 x7 _ 0 128 _ _ _ _ (by decide)
theorem v117_eq : kernelRun0_A.sl.v117 (F := Ideal) c arg2 harg2 arg3 harg3 arg4 harg4 arg5 harg5 arg9 harg9 arg26 x0 x1 x2 x3 x7 = zt x0 x1 x2 x3 x7 256 := by
  rw [zt, ← r_eq c arg2 harg2 arg3 harg3 arg4 harg4 arg5 harg5]
  exact read_512 arg26.view harg9 x7 _ 0 256 _ _ _ _ (by decide)
theorem v134_eq : kernelRun0_A.sl.v134 (F := Ideal) c arg2 harg2 arg3 harg3 arg4 harg4 arg5 harg5 arg9 harg9 arg26 x0 x1 x2 x3 x7 = zt x0 x1 x2 x3 x7 384 := by
  rw [zt, ← r_eq c arg2 harg2 arg3 harg3 arg4 harg4 arg5 harg5]
  exact read_512 arg26.view harg9 x7 _ 0 384 _ _ _ _ (by decide)
theorem v157_eq : kernelRun0_A.sl.v157 (F := Ideal) c arg2 harg2 arg3 harg3 arg4 harg4 arg5 harg5 arg9 harg9 arg27 x0 x1 x2 x3 x7 = zt x0 x1 x2 x3 x7 512 := by
  rw [zt, ← r_eq c arg2 harg2 arg3 harg3 arg4 harg4 arg5 harg5]
  exact read_512 arg27.view harg9 x7 _ 512 0 _ _ _ _ (by decide)
theorem v172_eq : kernelRun0_A.sl.v172 (F := Ideal) c arg2 harg2 arg3 harg3 arg4 harg4 arg5 harg5 arg9 harg9 arg27 x0 x1 x2 x3 x7 = zt x0 x1 x2 x3 x7 640 := by
  rw [zt, ← r_eq c arg2 harg2 arg3 harg3 arg4 harg4 arg5 harg5]
  exact read_512 arg27.view harg9 x7 _ 512 128 _ _ _ _ (by decide)
theorem v187_eq : kernelRun0_A.sl.v187 (F := Ideal) c arg2 harg2 arg3 harg3 arg4 harg4 arg5 harg5 arg9 harg9 arg27 x0 x1 x2 x3 x7 = zt x0 x1 x2 x3 x7 768 := by
  rw [zt, ← r_eq c arg2 harg2 arg3 harg3 arg4 harg4 arg5 harg5]
  exact read_512 arg27.view harg9 x7 _ 512 256 _ _ _ _ (by decide)
theorem v202_eq : kernelRun0_A.sl.v202 (F := Ideal) c arg2 harg2 arg3 harg3 arg4 harg4 arg5 harg5 arg9 harg9 arg27 x0 x1 x2 x3 x7 = zt x0 x1 x2 x3 x7 896 := by
  rw [zt, ← r_eq c arg2 harg2 arg3 harg3 arg4 harg4 arg5 harg5]
  exact read_512 arg27.view harg9 x7 _ 512 384 _ _ _ _ (by decide)
theorem v223_eq : kernelRun0_A.sl.v223 (F := Ideal) c arg2 harg2 arg3 harg3 arg4 harg4 arg5 harg5 arg9 harg9 arg26 x0 x1 x2 x3 x7 = zt x0 x1 x2 x3 x7 1024 := by
  rw [zt, ← r_eq c arg2 harg2 arg3 harg3 arg4 harg4 arg5 harg5]
  exact read_512 arg26.view harg9 x7 _ 1024 0 _ _ _ _ (by decide)
theorem v228_eq : kernelRun0_A.sl.v228 (F := Ideal) c arg2 harg2 arg3 harg3 arg4 harg4 arg5 harg5 arg9 harg9 arg26 x0 x1 x2 x3 x7 = zt x0 x1 x2 x3 x7 1152 := by
  rw [zt, ← r_eq c arg2 harg2 arg3 harg3 arg4 harg4 arg5 harg5]
  exact read_512 arg26.view harg9 x7 _ 1024 128 _ _ _ _ (by decide)
theorem v233_eq : kernelRun0_A.sl.v233 (F := Ideal) c arg2 harg2 arg3 harg3 arg4 harg4 arg5 harg5 arg9 harg9 arg26 x0 x1 x2 x3 x7 = zt x0 x1 x2 x3 x7 1280 := by
  rw [zt, ← r_eq c arg2 harg2 arg3 harg3 arg4 harg4 arg5 harg5]
  exact read_512 arg26.view harg9 x7 _ 1024 256 _ _ _ _ (by decide)
theorem v238_eq : kernelRun0_A.sl.v238 (F := Ideal) c arg2 harg2 arg3 harg3 arg4 harg4 arg5 harg5 arg9 harg9 arg26 x0 x1 x2 x3 x7 = zt x0 x1 x2 x3 x7 1408 := by
  rw [zt, ← r_eq c arg2 harg2 arg3 harg3 arg4 harg4 arg5 harg5]
  exact read_512 arg26.view harg9 x7 _ 1024 384 _ _ _ _ (by decide)
theorem v249_eq : kernelRun0_A.sl.v249 (F := Ideal) c arg2 harg2 arg3 harg3 arg4 harg4 arg5 harg5 arg9 harg9 arg27 x0 x1 x2 x3 x7 = zt x0 x1 x2 x3 x7 1536 := by
  rw [zt, ← r_eq c arg2 harg2 arg3 harg3 arg4 harg4 arg5 harg5]
  exact read_512 arg27.view harg9 x7 _ 1536 0 _ _ _ _ (by decide)
theorem v256_eq : kernelRun0_A.sl.v256 (F := Ideal) c arg2 harg2 arg3 harg3 arg4 harg4 arg5 harg5 arg9 harg9 arg27 x0 x1 x2 x3 x7 = zt x0 x1 x2 x3 x7 1664 := by
  rw [zt, ← r_eq c arg2 harg2 arg3 harg3 arg4 harg4 arg5 harg5]
  exact read_512 arg27.view harg9 x7 _ 1536 128 _ _ _ _ (by decide)
theorem v263_eq : kernelRun0_A.sl.v263 (F := Ideal) c arg2 harg2 arg3 harg3 arg4 harg4 arg5 harg5 arg9 harg9 arg27 x0 x1 x2 x3 x7 = zt x0 x1 x2 x3 x7 1792 := by
  rw [zt, ← r_eq c arg2 harg2 arg3 harg3 arg4 harg4 arg5 harg5]
  exact read_512 arg27.view harg9 x7 _ 1536 256 _ _ _ _ (by decide)
theorem v270_eq : kernelRun0_A.sl.v270 (F := Ideal) c arg2 harg2 arg3 harg3 arg4 harg4 arg5 harg5 arg9 harg9 arg27 x0 x1 x2 x3 x7 = zt x0 x1 x2 x3 x7 1920 := by
  rw [zt, ← r_eq c arg2 harg2 arg3 harg3 arg4 harg4 arg5 harg5]
  exact read_512 arg27.view harg9 x7 _ 1536 384 _ _ _ _ (by decide)
theorem v283_eq : kernelRun0_A.sl.v283 (F := Ideal) c arg2 harg2 arg3 harg3 arg4 harg4 arg5 harg5 arg9 harg9 arg26 x0 x1 x2 x3 x7 = zt x0 x1 x2 x3 x7 2048 := by
  rw [zt, ← r_eq c arg2 harg2 arg3 harg3 arg4 harg4 arg5 harg5]
  exact read_512 arg26.view harg9 x7 _ 2048 0 _ _ _ _ (by decide)
theorem v300_eq : kernelRun0_A.sl.v300 (F := Ideal) c arg2 harg2 arg3 harg3 arg4 harg4 arg5 harg5 arg9 harg9 arg26 x0 x1 x2 x3 x7 = zt x0 x1 x2 x3 x7 2176 := by
  rw [zt, ← r_eq c arg2 harg2 arg3 harg3 arg4 harg4 arg5 harg5]
  exact read_512 arg26.view harg9 x7 _ 2048 128 _ _ _ _ (by decide)
theorem v317_eq : kernelRun0_A.sl.v317 (F := Ideal) c arg2 harg2 arg3 harg3 arg4 harg4 arg5 harg5 arg9 harg9 arg26 x0 x1 x2 x3 x7 = zt x0 x1 x2 x3 x7 2304 := by
  rw [zt, ← r_eq c arg2 harg2 arg3 harg3 arg4 harg4 arg5 harg5]
  exact read_512 arg26.view harg9 x7 _ 2048 256 _ _ _ _ (by decide)
theorem v334_eq : kernelRun0_A.sl.v334 (F := Ideal) c arg2 harg2 arg3 harg3 arg4 harg4 arg5 harg5 arg9 harg9 arg26 x0 x1 x2 x3 x7 = zt x0 x1 x2 x3 x7 2432 := by
  rw [zt, ← r_eq c arg2 harg2 arg3 harg3 arg4 harg4 arg5 harg5]
  exact read_512 arg26.view harg9 x7 _ 2048 384 _ _ _ _ (by decide)
theorem v357_eq : kernelRun0_A.sl.v357 (F := Ideal) c arg2 harg2 arg3 harg3 arg4 harg4 arg5 harg5 arg9 harg9 arg27 x0 x1 x2 x3 x7 = zt x0 x1 x2 x3 x7 2560 := by
  rw [zt, ← r_eq c arg2 harg2 arg3 harg3 arg4 harg4 arg5 harg5]
  exact read_768 arg27.view harg9 x7 _ 2560 0 _ _ _ _ (by decide)
theorem v363_eq : kernelRun0_A.sl.v363 (F := Ideal) c arg2 harg2 arg3 harg3 arg4 harg4 arg5 harg5 arg9 harg9 arg27 x0 x1 x2 x3 x7 = zt x0 x1 x2 x3 x7 2688 := by
  rw [zt, ← r_eq c arg2 harg2 arg3 harg3 arg4 harg4 arg5 harg5]
  exact read_768 arg27.view harg9 x7 _ 2560 128 _ _ _ _ (by decide)
theorem v396_eq : kernelRun0_A.sl.v396 (F := Ideal) c arg2 harg2 arg3 harg3 arg4 harg4 arg5 harg5 arg9 harg9 arg27 x0 x1 x2 x3 x7 = zt x0 x1 x2 x3 x7 2816 := by
  rw [zt, ← r_eq c arg2 harg2 arg3 harg3 arg4 harg4 arg5 harg5]
  exact read_768 arg27.view harg9 x7 _ 2560 256 _ _ _ _ (by decide)
theorem v418_eq : kernelRun0_A.sl.v418 (F := Ideal) c arg2 harg2 arg3 harg3 arg4 harg4 arg5 harg5 arg9 harg9 arg27 x0 x1 x2 x3 x7 = zt x0 x1 x2 x3 x7 2944 := by
  rw [zt, ← r_eq c arg2 harg2 arg3 harg3 arg4 harg4 arg5 harg5]
  exact read_768 arg27.view harg9 x7 _ 2560 384 _ _ _ _ (by decide)
theorem v430_eq : kernelRun0_A.sl.v430 (F := Ideal) c arg2 harg2 arg3 harg3 arg4 harg4 arg5 harg5 arg9 harg9 arg27 x0 x1 x2 x3 x7 = zt x0 x1 x2 x3 x7 3072 := by
  rw [zt, ← r_eq c arg2 harg2 arg3 harg3 arg4 harg4 arg5 harg5]
  exact read_768 arg27.view harg9 x7 _ 2560 512 _ _ _ _ (by decide)
theorem v454_eq : kernelRun0_A.sl.v454 (F := Ideal) c arg2 harg2 arg3 harg3 arg4 harg4 arg5 harg5 arg9 harg9 arg27 x0 x1 x2 x3 x7 = zt x0 x1 x2 x3 x7 3200 := by
  rw [zt, ← r_eq c arg2 harg2 arg3 harg3 arg4 harg4 arg5 harg5]
  exact read_768 arg27.view harg9 x7 _ 2560 640 _ _ _ _ (by decide)
theorem v472_eq : kernelRun0_A.sl.v472 (F := Ideal) c arg2 harg2 arg3 harg3 arg4 harg4 arg5 harg5 arg9 harg9 arg26 x0 x1 x2 x3 x7 = zt x0 x1 x2 x3 x7 3328 := by
  rw [zt, ← r_eq c arg2 harg2 arg3 harg3 arg4 harg4 arg5 harg5]
  exact read_640 arg26.view harg9 x7 _ 3328 0 _ _ _ _ (by decide)
theorem v479_eq : kernelRun0_A.sl.v479 (F := Ideal) c arg2 harg2 arg3 harg3 arg4 harg4 arg5 harg5 arg9 harg9 arg26 x0 x1 x2 x3 x7 = zt x0 x1 x2 x3 x7 3456 := by
  rw [zt, ← r_eq c arg2 harg2 arg3 harg3 arg4 harg4 arg5 harg5]
  exact read_640 arg26.view harg9 x7 _ 3328 128 _ _ _ _ (by decide)
theorem v486_eq : kernelRun0_A.sl.v486 (F := Ideal) c arg2 harg2 arg3 harg3 arg4 harg4 arg5 harg5 arg9 harg9 arg26 x0 x1 x2 x3 x7 = zt x0 x1 x2 x3 x7 3584 := by
  rw [zt, ← r_eq c arg2 harg2 arg3 harg3 arg4 harg4 arg5 harg5]
  exact read_640 arg26.view harg9 x7 _ 3328 256 _ _ _ _ (by decide)
theorem v493_eq : kernelRun0_A.sl.v493 (F := Ideal) c arg2 harg2 arg3 harg3 arg4 harg4 arg5 harg5 arg9 harg9 arg26 x0 x1 x2 x3 x7 = zt x0 x1 x2 x3 x7 3712 := by
  rw [zt, ← r_eq c arg2 harg2 arg3 harg3 arg4 harg4 arg5 harg5]
  exact read_640 arg26.view harg9 x7 _ 3328 384 _ _ _ _ (by decide)
theorem v500_eq : kernelRun0_A.sl.v500 (F := Ideal) c arg2 harg2 arg3 harg3 arg4 harg4 arg5 harg5 arg9 harg9 arg26 x0 x1 x2 x3 x7 = zt x0 x1 x2 x3 x7 3840 := by
  rw [zt, ← r_eq c arg2 harg2 arg3 harg3 arg4 harg4 arg5 harg5]
  exact read_640 arg26.view harg9 x7 _ 3328 512 _ _ _ _ (by decide)
theorem v84_eq : kernelRun0_A.sl.v84 (F := Ideal) c arg6 harg6 arg7 harg7 arg22 x4 x5 = retCos x4 x5 := by
  refine (View.readCov_cons_toLoadRect arg22.view _ _ _).trans ?_
  unfold kernelRun0_A.sl.r_2 kernelRun0_A.sl.r_3
  rw [whole3 harg6 x4, whole2 harg7 x5]
  rfl
theorem v85_eq : kernelRun0_A.sl.v85 (F := Ideal) c arg6 harg6 arg7 harg7 arg23 x4 x5 = retSin x4 x5 := by
  refine (View.readCov_cons_toLoadRect arg23.view _ _ _).trans ?_
  unfold kernelRun0_A.sl.r_2 kernelRun0_A.sl.r_3
  rw [whole3 harg6 x4, whole2 harg7 x5]
  rfl
theorem v284_eq : kernelRun0_A.sl.v284 (F := Ideal) c arg6 harg6 arg8 harg8 arg24 x4 x6 = nsaCos x4 x6 := by
  refine (View.readCov_cons_toLoadRect arg24.view _ _ _).trans ?_
  unfold kernelRun0_A.sl.r_1
  rw [whole3 harg6 x4, whole2 harg8 x6]
  rfl
theorem v285_eq : kernelRun0_A.sl.v285 (F := Ideal) c arg6 harg6 arg8 harg8 arg25 x4 x6 = nsaSin x4 x6 := by
  refine (View.readCov_cons_toLoadRect arg25.view _ _ _).trans ?_
  unfold kernelRun0_A.sl.r_4 kernelRun0_A.sl.r_1
  rw [whole3 harg6 x4, whole2 harg8 x6]
  rfl

/-! ### The tiles written -/

theorem rq_tiles : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).1
    = ([⟨Rect.unit (s := S1x1024x512) ![0, 0, 384] ![1, 1024, 128] (by decide), k0_pay16 k0_pay5 (zt x0 x1 x2 x3 x7 384) (retCos x4 x5) (retSin x4 x5)⟩,
      ⟨Rect.unit (s := S1x1024x512) ![0, 0, 256] ![1, 1024, 128] (by decide), k0_pay16 k0_pay5 (zt x0 x1 x2 x3 x7 256) (retCos x4 x5) (retSin x4 x5)⟩,
      ⟨Rect.unit (s := S1x1024x512) ![0, 0, 128] ![1, 1024, 128] (by decide), k0_pay16 k0_pay5 (zt x0 x1 x2 x3 x7 128) (retCos x4 x5) (retSin x4 x5)⟩,
      ⟨Rect.unit (s := S1x1024x512) ![0, 0, 0] ![1, 1024, 128] (by decide), k0_pay16 k0_pay5 (zt x0 x1 x2 x3 x7 0) (retCos x4 x5) (retSin x4 x5)⟩] : List (View.Piece (Elt Ideal) S1x1024x512 .bf16)) := by
  unfold kernelRun0_A
  dsimp only
  simp only [kernelRun0_A.sl.r_5, v83_eq, v100_eq, v117_eq, v134_eq, v84_eq, v85_eq]
  all_goals rfl

theorem rk_tiles : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.1
    = ([⟨Rect.unit (s := S1x1024x512) ![0, 0, 384] ![1, 1024, 128] (by decide), k0_pay24 k0_pay5 (zt x0 x1 x2 x3 x7 896) (retCos x4 x5) (retSin x4 x5)⟩,
      ⟨Rect.unit (s := S1x1024x512) ![0, 0, 256] ![1, 1024, 128] (by decide), k0_pay24 k0_pay5 (zt x0 x1 x2 x3 x7 768) (retCos x4 x5) (retSin x4 x5)⟩,
      ⟨Rect.unit (s := S1x1024x512) ![0, 0, 128] ![1, 1024, 128] (by decide), k0_pay24 k0_pay5 (zt x0 x1 x2 x3 x7 640) (retCos x4 x5) (retSin x4 x5)⟩,
      ⟨Rect.unit (s := S1x1024x512) ![0, 0, 0] ![1, 1024, 128] (by decide), k0_pay24 k0_pay5 (zt x0 x1 x2 x3 x7 512) (retCos x4 x5) (retSin x4 x5)⟩] : List (View.Piece (Elt Ideal) S1x1024x512 .bf16)) := by
  unfold kernelRun0_A
  dsimp only
  simp only [v157_eq, v172_eq, v187_eq, v202_eq, v84_eq, v85_eq]
  all_goals rfl

theorem rv_tiles : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.1
    = ([⟨Rect.unit (s := S1x1024x512) ![0, 0, 384] ![1, 1024, 128] (by decide), k0_pay29 (zt x0 x1 x2 x3 x7 1408)⟩,
      ⟨Rect.unit (s := S1x1024x512) ![0, 0, 256] ![1, 1024, 128] (by decide), k0_pay29 (zt x0 x1 x2 x3 x7 1280)⟩,
      ⟨Rect.unit (s := S1x1024x512) ![0, 0, 128] ![1, 1024, 128] (by decide), k0_pay29 (zt x0 x1 x2 x3 x7 1152)⟩,
      ⟨Rect.unit (s := S1x1024x512) ![0, 0, 0] ![1, 1024, 128] (by decide), k0_pay29 (zt x0 x1 x2 x3 x7 1024)⟩] : List (View.Piece (Elt Ideal) S1x1024x512 .bf16)) := by
  unfold kernelRun0_A
  dsimp only
  simp only [kernelRun0_A.sl.r_6, v223_eq, v228_eq, v233_eq, v238_eq]
  all_goals rfl

theorem rg_tiles : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.1
    = ([⟨Rect.unit (s := S1x1024x512) ![0, 0, 384] ![1, 1024, 128] (by decide), k0_pay76 (zt x0 x1 x2 x3 x7 1920)⟩,
      ⟨Rect.unit (s := S1x1024x512) ![0, 0, 256] ![1, 1024, 128] (by decide), k0_pay76 (zt x0 x1 x2 x3 x7 1792)⟩,
      ⟨Rect.unit (s := S1x1024x512) ![0, 0, 128] ![1, 1024, 128] (by decide), k0_pay76 (zt x0 x1 x2 x3 x7 1664)⟩,
      ⟨Rect.unit (s := S1x1024x512) ![0, 0, 0] ![1, 1024, 128] (by decide), k0_pay76 (zt x0 x1 x2 x3 x7 1536)⟩] : List (View.Piece (Elt Ideal) S1x1024x512 .bf16)) := by
  unfold kernelRun0_A
  dsimp only
  simp only [kernelRun0_A.sl.r_7, v249_eq, v256_eq, v263_eq, v270_eq]
  all_goals rfl

theorem nq_tiles : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.1
    = ([⟨Rect.unit (s := S1x1024x512) ![0, 0, 384] ![1, 1024, 128] (by decide), k0_pay43 k0_pay5 (zt x0 x1 x2 x3 x7 2432) (nsaCos x4 x6) (nsaSin x4 x6)⟩,
      ⟨Rect.unit (s := S1x1024x512) ![0, 0, 256] ![1, 1024, 128] (by decide), k0_pay43 k0_pay5 (zt x0 x1 x2 x3 x7 2304) (nsaCos x4 x6) (nsaSin x4 x6)⟩,
      ⟨Rect.unit (s := S1x1024x512) ![0, 0, 128] ![1, 1024, 128] (by decide), k0_pay43 k0_pay5 (zt x0 x1 x2 x3 x7 2176) (nsaCos x4 x6) (nsaSin x4 x6)⟩,
      ⟨Rect.unit (s := S1x1024x512) ![0, 0, 0] ![1, 1024, 128] (by decide), k0_pay43 k0_pay5 (zt x0 x1 x2 x3 x7 2048) (nsaCos x4 x6) (nsaSin x4 x6)⟩] : List (View.Piece (Elt Ideal) S1x1024x512 .bf16)) := by
  unfold kernelRun0_A
  dsimp only
  simp only [kernelRun0_A.sl.r_8, kernelRun0_A.sl.r_9, v283_eq, v300_eq, v317_eq, v334_eq, v284_eq, v285_eq]
  all_goals rfl

theorem cmp_tiles : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.1
    = ([⟨Rect.unit (s := S1x1024x512) ![0, 0, 384] ![1, 1024, 128] (by decide), k0_pay57 lanes (zt x0 x1 x2 x3 x7 2688)⟩,
      ⟨Rect.unit (s := S1x1024x512) ![0, 0, 256] ![1, 1024, 128] (by decide), k0_pay56 lanes (zt x0 x1 x2 x3 x7 2688)⟩,
      ⟨Rect.unit (s := S1x1024x512) ![0, 0, 128] ![1, 1024, 128] (by decide), k0_pay57 lanes (zt x0 x1 x2 x3 x7 2560)⟩,
      ⟨Rect.unit (s := S1x1024x512) ![0, 0, 0] ![1, 1024, 128] (by decide), k0_pay56 lanes (zt x0 x1 x2 x3 x7 2560)⟩] : List (View.Piece (Elt Ideal) S1x1024x512 .f32)) := by
  unfold kernelRun0_A
  dsimp only
  simp only [kernelRun0_A.sl.r_10, kernelRun0_A.sl.r_11, kernelRun0_A.sl.v30, v357_eq, v363_eq]
  all_goals rfl

theorem ks_tiles : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.1
    = ([⟨Rect.unit (s := S1x1024x256) ![0, 0, 128] ![1, 1024, 128] (by decide), k0_pay63 k0_pay5 (k0_pay58 lanes) (k0_pay59 (BitVec.ofNat 32 (i 1).val) lanes) (zt x0 x1 x2 x3 x7 2816) (nsaCos x4 x6) (nsaSin x4 x6)⟩,
      ⟨Rect.unit (s := S1x1024x256) ![0, 0, 0] ![1, 1024, 128] (by decide), k0_pay62 k0_pay5 (k0_pay58 lanes) (k0_pay59 (BitVec.ofNat 32 (i 1).val) lanes) (zt x0 x1 x2 x3 x7 2816) (nsaCos x4 x6) (nsaSin x4 x6)⟩] : List (View.Piece (Elt Ideal) S1x1024x256 .bf16)) := by
  unfold kernelRun0_A
  dsimp only
  simp only [kernelRun0_A.sl.r_12, kernelRun0_A.sl.v30, v396_eq, v284_eq, v285_eq]
  all_goals rfl

theorem vs_tiles : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.1
    = ([⟨Rect.unit (s := S1x1024x256) ![0, 0, 128] ![1, 1024, 128] (by decide), k0_pay66 (k0_pay65 (k0_pay58 lanes) k0_pay60 (zt x0 x1 x2 x3 x7 2944))⟩,
      ⟨Rect.unit (s := S1x1024x256) ![0, 0, 0] ![1, 1024, 128] (by decide), k0_pay64 (k0_pay58 lanes) k0_pay60 (zt x0 x1 x2 x3 x7 2944)⟩] : List (View.Piece (Elt Ideal) S1x1024x256 .bf16)) := by
  unfold kernelRun0_A
  dsimp only
  simp only [kernelRun0_A.sl.r_13, kernelRun0_A.sl.v30, v418_eq]
  all_goals rfl

theorem kw_tiles : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.1
    = ([⟨Rect.unit (s := S1x1024x256) ![0, 0, 128] ![1, 1024, 128] (by decide), k0_pay71 lanes k0_pay5 (zt x0 x1 x2 x3 x7 3072) (nsaCos x4 x6) (nsaSin x4 x6)⟩,
      ⟨Rect.unit (s := S1x1024x256) ![0, 0, 0] ![1, 1024, 128] (by decide), k0_pay70 lanes k0_pay5 (zt x0 x1 x2 x3 x7 3072) (nsaCos x4 x6) (nsaSin x4 x6)⟩] : List (View.Piece (Elt Ideal) S1x1024x256 .bf16)) := by
  unfold kernelRun0_A
  dsimp only
  simp only [kernelRun0_A.sl.v30, v430_eq, v284_eq, v285_eq]
  all_goals rfl

theorem vw_tiles : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.2.1
    = ([⟨Rect.unit (s := S1x1024x256) ![0, 0, 128] ![1, 1024, 128] (by decide), k0_pay66 (k0_pay65 (k0_pay58 lanes) k0_pay60 (zt x0 x1 x2 x3 x7 3200))⟩,
      ⟨Rect.unit (s := S1x1024x256) ![0, 0, 0] ![1, 1024, 128] (by decide), k0_pay64 (k0_pay58 lanes) k0_pay60 (zt x0 x1 x2 x3 x7 3200)⟩] : List (View.Piece (Elt Ideal) S1x1024x256 .bf16)) := by
  unfold kernelRun0_A
  dsimp only
  simp only [kernelRun0_A.sl.r_14, kernelRun0_A.sl.r_15, kernelRun0_A.sl.v30, v454_eq]
  all_goals rfl

theorem ng_tiles : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.2.2.1
    = ([⟨Rect.unit (s := S1x1024x512) ![0, 0, 384] ![1, 1024, 128] (by decide), k0_pay76 (zt x0 x1 x2 x3 x7 3712)⟩,
      ⟨Rect.unit (s := S1x1024x512) ![0, 0, 256] ![1, 1024, 128] (by decide), k0_pay76 (zt x0 x1 x2 x3 x7 3584)⟩,
      ⟨Rect.unit (s := S1x1024x512) ![0, 0, 128] ![1, 1024, 128] (by decide), k0_pay76 (zt x0 x1 x2 x3 x7 3456)⟩,
      ⟨Rect.unit (s := S1x1024x512) ![0, 0, 0] ![1, 1024, 128] (by decide), k0_pay76 (zt x0 x1 x2 x3 x7 3328)⟩] : List (View.Piece (Elt Ideal) S1x1024x512 .bf16)) := by
  unfold kernelRun0_A
  dsimp only
  simp only [v472_eq, v479_eq, v486_eq, v493_eq]
  all_goals rfl

theorem gl_tiles : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7).2.2.2.2.2.2.2.2.2.2.2.1
    = ([⟨Rect.unit (s := S1x1024x128) ![0, 0, 0] ![1, 1024, 128] (by decide), k0_pay2 (zt x0 x1 x2 x3 x7 3840)⟩] : List (View.Piece (Elt Ideal) S1x1024x128 .f32)) := by
  unfold kernelRun0_A
  dsimp only
  simp only [v500_eq]
  all_goals rfl

end Run

end Cert.Kernel2Ideal.Body
-- ==== Proof.Projection.Point.lean ====
/- The projection kernel's twelve blocks over the extended reals, at an index. -/
module

public import proofs.«01_k».proof.Proof.Projection.Body
public import proofs.«01_k».proof.Proof.Projection.Kernel2IdealFrame

@[expose] public section

set_option maxRecDepth 16384

noncomputable section

namespace Cert.Kernel2Ideal.Body

open Idealize.ShloMosaic Idealize.ShloMosaic.TcCoe Idealize.SL.Sem Cert.Kernel2Ideal Cert.Kernel2Ideal.Gen Cert.Kernel2Ideal.Tile
open Cert.Projection

/-! ### Blocks written in tiles of 128 columns -/

section Canon
variable {e : EltTy}

theorem ix_eta3 (x : (⟨3, ![1, 1024, 128]⟩ : Shape).Idx) : x = ix3 (n0 := 1) (n1 := 1024) (n2 := 128) 0 (x 1) (x 2) := by
  funext a
  match a with
  | ⟨0, _⟩ => exact Fin.ext (Nat.lt_one_iff.mp (x 0).isLt)
  | ⟨1, _⟩ => rfl
  | ⟨2, _⟩ => rfl

/-- A tile's element at its columns of the block. -/
theorem canon_512 (T0 : (⟨3, ![1, 1024, 128]⟩ : Shape).Idx → Elt Ideal e) (T1 : (⟨3, ![1, 1024, 128]⟩ : Shape).Idx → Elt Ideal e) (T2 : (⟨3, ![1, 1024, 128]⟩ : Shape).Idx → Elt Ideal e) (T3 : (⟨3, ![1, 1024, 128]⟩ : Shape).Idx → Elt Ideal e) (i0 i1 i2 i3) (G : S1x1024x512.Idx → Elt Ideal e)
    (h0 : ∀ (r : Fin 1024) (l : Fin 128), T0 (ix3 0 r l) = G (ix3 0 r ⟨0 + l.val, by omega⟩))
    (h1 : ∀ (r : Fin 1024) (l : Fin 128), T1 (ix3 0 r l) = G (ix3 0 r ⟨128 + l.val, by omega⟩))
    (h2 : ∀ (r : Fin 1024) (l : Fin 128), T2 (ix3 0 r l) = G (ix3 0 r ⟨256 + l.val, by omega⟩))
    (h3 : ∀ (r : Fin 1024) (l : Fin 128), T3 (ix3 0 r l) = G (ix3 0 r ⟨384 + l.val, by omega⟩))
    : View.canon ([⟨Rect.unit (s := S1x1024x512) ![0, 0, 384] ![1, 1024, 128] i3, T3⟩, ⟨Rect.unit (s := S1x1024x512) ![0, 0, 256] ![1, 1024, 128] i2, T2⟩, ⟨Rect.unit (s := S1x1024x512) ![0, 0, 128] ![1, 1024, 128] i1, T1⟩, ⟨Rect.unit (s := S1x1024x512) ![0, 0, 0] ![1, 1024, 128] i0, T0⟩] : List (View.Piece (Elt Ideal) S1x1024x512 e)) = G := by
  funext y
  refine View.canon_apply_of_pieces G _ ?_ y ?_
  · intro p hp x
    simp only [List.mem_cons, List.not_mem_nil, or_false] at hp
    rcases hp with rfl | rfl | rfl | rfl
    · have hx : (ix3 0 (x 1) ⟨384 + (x 2).val, by have := (x 2).isLt; have : ((x 2).val : ℕ) < 128 := this; omega⟩ : S1x1024x512.Idx)
          = (Rect.unit (s := S1x1024x512) ![0, 0, 384] ![1, 1024, 128] i3).emb x := by
        funext a
        apply Fin.ext
        refine Eq.trans ?_ (ValueKit.rect_emb_unit_val (s := S1x1024x512) ![0, 0, 384] ![1, 1024, 128] i3 x a).symm
        match a with
        | ⟨0, _⟩ => exact (Nat.lt_one_iff.mp (x 0).isLt).symm.trans (Nat.zero_add _).symm
        | ⟨1, _⟩ => exact (Nat.zero_add _).symm
        | ⟨2, _⟩ => rfl
      exact (congrArg T3 (ix_eta3 x)).trans ((h3 (x 1) (x 2)).trans (congrArg G hx))
    · have hx : (ix3 0 (x 1) ⟨256 + (x 2).val, by have := (x 2).isLt; have : ((x 2).val : ℕ) < 128 := this; omega⟩ : S1x1024x512.Idx)
          = (Rect.unit (s := S1x1024x512) ![0, 0, 256] ![1, 1024, 128] i2).emb x := by
        funext a
        apply Fin.ext
        refine Eq.trans ?_ (ValueKit.rect_emb_unit_val (s := S1x1024x512) ![0, 0, 256] ![1, 1024, 128] i2 x a).symm
        match a with
        | ⟨0, _⟩ => exact (Nat.lt_one_iff.mp (x 0).isLt).symm.trans (Nat.zero_add _).symm
        | ⟨1, _⟩ => exact (Nat.zero_add _).symm
        | ⟨2, _⟩ => rfl
      exact (congrArg T2 (ix_eta3 x)).trans ((h2 (x 1) (x 2)).trans (congrArg G hx))
    · have hx : (ix3 0 (x 1) ⟨128 + (x 2).val, by have := (x 2).isLt; have : ((x 2).val : ℕ) < 128 := this; omega⟩ : S1x1024x512.Idx)
          = (Rect.unit (s := S1x1024x512) ![0, 0, 128] ![1, 1024, 128] i1).emb x := by
        funext a
        apply Fin.ext
        refine Eq.trans ?_ (ValueKit.rect_emb_unit_val (s := S1x1024x512) ![0, 0, 128] ![1, 1024, 128] i1 x a).symm
        match a with
        | ⟨0, _⟩ => exact (Nat.lt_one_iff.mp (x 0).isLt).symm.trans (Nat.zero_add _).symm
        | ⟨1, _⟩ => exact (Nat.zero_add _).symm
        | ⟨2, _⟩ => rfl
      exact (congrArg T1 (ix_eta3 x)).trans ((h1 (x 1) (x 2)).trans (congrArg G hx))
    · have hx : (ix3 0 (x 1) ⟨0 + (x 2).val, by have := (x 2).isLt; have : ((x 2).val : ℕ) < 128 := this; omega⟩ : S1x1024x512.Idx)
          = (Rect.unit (s := S1x1024x512) ![0, 0, 0] ![1, 1024, 128] i0).emb x := by
        funext a
        apply Fin.ext
        refine Eq.trans ?_ (ValueKit.rect_emb_unit_val (s := S1x1024x512) ![0, 0, 0] ![1, 1024, 128] i0 x a).symm
        match a with
        | ⟨0, _⟩ => exact (Nat.lt_one_iff.mp (x 0).isLt).symm.trans (Nat.zero_add _).symm
        | ⟨1, _⟩ => exact (Nat.zero_add _).symm
        | ⟨2, _⟩ => rfl
      exact (congrArg T0 (ix_eta3 x)).trans ((h0 (x 1) (x 2)).trans (congrArg G hx))
  · exact View.cover_of_tiledL _ ![1, 1024, 128] (by sl_kernel_rfl) y

/-- A tile's element at its columns of the block. -/
theorem canon_256 (T0 : (⟨3, ![1, 1024, 128]⟩ : Shape).Idx → Elt Ideal e) (T1 : (⟨3, ![1, 1024, 128]⟩ : Shape).Idx → Elt Ideal e) (i0 i1) (G : S1x1024x256.Idx → Elt Ideal e)
    (h0 : ∀ (r : Fin 1024) (l : Fin 128), T0 (ix3 0 r l) = G (ix3 0 r ⟨0 + l.val, by omega⟩))
    (h1 : ∀ (r : Fin 1024) (l : Fin 128), T1 (ix3 0 r l) = G (ix3 0 r ⟨128 + l.val, by omega⟩))
    : View.canon ([⟨Rect.unit (s := S1x1024x256) ![0, 0, 128] ![1, 1024, 128] i1, T1⟩, ⟨Rect.unit (s := S1x1024x256) ![0, 0, 0] ![1, 1024, 128] i0, T0⟩] : List (View.Piece (Elt Ideal) S1x1024x256 e)) = G := by
  funext y
  refine View.canon_apply_of_pieces G _ ?_ y ?_
  · intro p hp x
    simp only [List.mem_cons, List.not_mem_nil, or_false] at hp
    rcases hp with rfl | rfl
    · have hx : (ix3 0 (x 1) ⟨128 + (x 2).val, by have := (x 2).isLt; have : ((x 2).val : ℕ) < 128 := this; omega⟩ : S1x1024x256.Idx)
          = (Rect.unit (s := S1x1024x256) ![0, 0, 128] ![1, 1024, 128] i1).emb x := by
        funext a
        apply Fin.ext
        refine Eq.trans ?_ (ValueKit.rect_emb_unit_val (s := S1x1024x256) ![0, 0, 128] ![1, 1024, 128] i1 x a).symm
        match a with
        | ⟨0, _⟩ => exact (Nat.lt_one_iff.mp (x 0).isLt).symm.trans (Nat.zero_add _).symm
        | ⟨1, _⟩ => exact (Nat.zero_add _).symm
        | ⟨2, _⟩ => rfl
      exact (congrArg T1 (ix_eta3 x)).trans ((h1 (x 1) (x 2)).trans (congrArg G hx))
    · have hx : (ix3 0 (x 1) ⟨0 + (x 2).val, by have := (x 2).isLt; have : ((x 2).val : ℕ) < 128 := this; omega⟩ : S1x1024x256.Idx)
          = (Rect.unit (s := S1x1024x256) ![0, 0, 0] ![1, 1024, 128] i0).emb x := by
        funext a
        apply Fin.ext
        refine Eq.trans ?_ (ValueKit.rect_emb_unit_val (s := S1x1024x256) ![0, 0, 0] ![1, 1024, 128] i0 x a).symm
        match a with
        | ⟨0, _⟩ => exact (Nat.lt_one_iff.mp (x 0).isLt).symm.trans (Nat.zero_add _).symm
        | ⟨1, _⟩ => exact (Nat.zero_add _).symm
        | ⟨2, _⟩ => rfl
      exact (congrArg T0 (ix_eta3 x)).trans ((h0 (x 1) (x 2)).trans (congrArg G hx))
  · exact View.cover_of_tiledL _ ![1, 1024, 128] (by sl_kernel_rfl) y

end Canon

/-! ### The blocks -/

/-- Where the kernel's weights have column `n` of the layer's: the gates' columns come last. -/
def perm (n : ℕ) : ℕ := if n < 3328 then n else if n < 3840 then n + 24 else if n < 3864 then n - 512 else 3864

/-- A point's blocks, of the arguments: batch `b`, tokens from `1024 * j`. -/
structure Holds (A : Args) (b : Fin 8) (j : Fin 4) (x0 : Vec Ideal S1x1024x1024 .f32) (x1 x2 : Vec Ideal S1x1x1024 .f32) (x3 : Vec Ideal S1x1024 .f32)
    (x4 : Vec Ideal S1x1024x1 .i32) (x5 x6 : Vec Ideal S1x128 .f32) (x7 : Vec Ideal S1024x3968 .bf16) : Prop where
  x : ∀ r k, x0 (ix3 0 r k) = A.x b ⟨j.val * 1024 + r.val, by omega⟩ k
  shift : ∀ k, x1 (ix3 0 0 k) = A.mod b ⟨k.val, by omega⟩
  scale : ∀ k, x2 (ix3 0 0 k) = A.mod b ⟨1024 + k.val, by omega⟩
  gain : ∀ k, x3 (ix2 0 k) = A.g k
  pos : ∀ r, x4 (ix3 0 r 0) = A.pos b ⟨j.val * 1024 + r.val, by omega⟩
  ret : ∀ l : Fin 128, x5 (ix2 0 l) = retRate (l.val % 64 % 32)
  nsa : ∀ l : Fin 128, x6 (ix2 0 l) = nsaRate (l.val % 64 % 8)
  w : ∀ (k : Fin 1024) (n : Fin 3968), x7 (ix2 k n) = col A (perm n) k

/-- The constant that scales the attention's queries. -/
theorem named_eq : Named.named (F := Ideal) (φ := .f32) κ "log2e_8" 0x3E38AA3B#32 = ((8⁻¹ * (Real.log 2)⁻¹ : ℝ) : EReal) := rfl

section Blocks
variable {A : Args} {b : Fin 8} {j : Fin 4} {x0 : Vec Ideal S1x1024x1024 .f32} {x1 x2 : Vec Ideal S1x1x1024 .f32} {x3 : Vec Ideal S1x1024 .f32}
variable {x4 : Vec Ideal S1x1024x1 .i32} {x5 x6 : Vec Ideal S1x128 .f32} {x7 : Vec Ideal S1024x3968 .bf16}

/-- A token of the point's block. -/
def tok (j : Fin 4) (r : Fin 1024) : Fin 4096 := ⟨j.val * 1024 + r.val, by omega⟩

variable (H : Holds A b j x0 x1 x2 x3 x4 x5 x6 x7)
include H

theorem zt_apply (n : ℕ) (hn : n + 128 ≤ 3968) (r : Fin 1024) (l : Fin 128) :
    zt x0 x1 x2 x3 x7 n (ix2 r l) = proj A b (tok j r) (perm (n + l.val)) := by
  show (∑ k, k0_pay3 (F := Ideal) x0 x3 x2 x1 (ix2 r k) * wcol x7 (n + l.val) k : EReal) = _
  unfold proj
  refine Finset.sum_congr rfl fun k _ => ?_
  rw [hidden_apply, wcol, dif_pos (by omega), H.w]
  refine congrArg (· * col A (perm (n + l.val)) k) ?_
  unfold row
  simp only [H.x, H.shift, H.scale, H.gain]
  rfl

/-- The tiles' columns before the gates'. -/
theorem zt_low (n : ℕ) (hn : n + 128 ≤ 3328) (r : Fin 1024) (l : Fin 128) :
    zt x0 x1 x2 x3 x7 n (ix2 r l) = (fun i => proj A b (tok j r) (n + i)) l.val := by
  rw [zt_apply H n (by omega), perm, if_pos (by omega)]

theorem zt_mid (n : ℕ) (h1 : 3328 ≤ n) (hn : n + 128 ≤ 3840) (r : Fin 1024) (l : Fin 128) :
    zt x0 x1 x2 x3 x7 n (ix2 r l) = (fun i => proj A b (tok j r) (n + 24 + i)) l.val := by
  rw [zt_apply H n (by omega), perm, if_neg (by omega), if_pos (by omega)]
  exact congrArg _ (by omega)

theorem zt_last (r : Fin 1024) (l : Fin 128) :
    zt x0 x1 x2 x3 x7 3840 (ix2 r l) = (fun i => if i < 24 then proj A b (tok j r) (3328 + i) else 0) l.val := by
  rw [zt_apply H 3840 (by omega), perm, if_neg (by omega), if_neg (by omega)]
  by_cases h : l.val < 24
  · rw [if_pos (by omega), show (3840 + l.val - 512) = 3328 + l.val by omega]
    exact (if_pos h).symm
  · rw [if_neg (by omega)]
    refine Eq.trans ?_ (if_neg h).symm
    unfold proj
    refine Finset.sum_eq_zero fun k _ => ?_
    rw [col, dif_neg (by omega), mul_zero]

/-- The angles of a token's rotations. -/
abbrev retAng (A : Args) (b : Fin 8) (s : Fin 4096) (i : ℕ) : EReal := place A b s * retRate i
abbrev nsaAng (A : Args) (b : Fin 8) (s : Fin 4096) (i : ℕ) : EReal := place A b s * nsaRate i

theorem angle_ret (r : Fin 1024) (l : Fin 128) : angle x4 x5 r l = retAng A b (tok j r) (l.val % 64 % 32) := by
  unfold angle
  rw [H.pos, H.ret]
  rfl
theorem angle_nsa (r : Fin 1024) (l : Fin 128) : angle x4 x6 r l = nsaAng A b (tok j r) (l.val % 64 % 8) := by
  unfold angle
  rw [H.pos, H.nsa]
  rfl

theorem retCos_eq (r : Fin 1024) (l : Fin 128) : retCos x4 x5 (ix2 r l) = Ideal.cos (retAng A b (tok j r) (l.val % 64 % 32)) := by
  rw [retCos_apply, angle_ret H]
theorem retSin_eq (r : Fin 1024) (l : Fin 128) : retSin x4 x5 (ix2 r l)
    = if l.val % 64 < 32 then 0 - Ideal.sin (retAng A b (tok j r) (l.val % 64 % 32)) else Ideal.sin (retAng A b (tok j r) (l.val % 64 % 32)) := by
  rw [retSin_apply, angle_ret H]
theorem nsaCos_eq (r : Fin 1024) (l : Fin 128) : nsaCos x4 x6 (ix2 r l)
    = if l.val % 64 < 16 then Ideal.cos (nsaAng A b (tok j r) (l.val % 64 % 8)) else 1 := by
  rw [nsaCos_apply, angle_nsa H]
theorem nsaSin_eq (r : Fin 1024) (l : Fin 128) : nsaSin x4 x6 (ix2 r l)
    = if l.val % 64 < 8 then 0 - Ideal.sin (nsaAng A b (tok j r) (l.val % 64 % 8))
      else if l.val % 64 < 16 then Ideal.sin (nsaAng A b (tok j r) (l.val % 64 % 8)) else 0 := by
  rw [nsaSin_apply, angle_nsa H]

end Blocks

section Run
variable (c : Dev nD) (i : grid0.Coords)
variable (arg2 : Memref sig .tc .vmem S1x1024x1024 .f32) (harg2 : arg2.IsWhole)
variable (arg3 : Memref sig .tc .vmem S1x1x1024 .f32) (harg3 : arg3.IsWhole)
variable (arg4 : Memref sig .tc .vmem S1x1x1024 .f32) (harg4 : arg4.IsWhole)
variable (arg5 : Memref sig .tc .vmem S1x1024 .f32) (harg5 : arg5.IsWhole)
variable (arg6 : Memref sig .tc .vmem S1x1024x1 .i32) (harg6 : arg6.IsWhole)
variable (arg7 : Memref sig .tc .vmem S1x128 .f32) (harg7 : arg7.IsWhole)
variable (arg8 : Memref sig .tc .vmem S1x128 .f32) (harg8 : arg8.IsWhole)
variable (arg9 : Memref sig .tc .vmem S1024x3968 .bf16) (harg9 : arg9.IsWhole)
variable (arg10 : Memref sig .tc .vmem S1x1024x512 .bf16) (harg10 : arg10.IsWhole)
variable (arg11 : Memref sig .tc .vmem S1x1024x512 .bf16) (harg11 : arg11.IsWhole)
variable (arg12 : Memref sig .tc .vmem S1x1024x512 .bf16) (harg12 : arg12.IsWhole)
variable (arg13 : Memref sig .tc .vmem S1x1024x512 .bf16) (harg13 : arg13.IsWhole)
variable (arg14 : Memref sig .tc .vmem S1x1024x512 .bf16) (harg14 : arg14.IsWhole)
variable (arg15 : Memref sig .tc .vmem S1x1024x512 .f32) (harg15 : arg15.IsWhole)
variable (arg16 : Memref sig .tc .vmem S1x1024x256 .bf16) (harg16 : arg16.IsWhole)
variable (arg17 : Memref sig .tc .vmem S1x1024x256 .bf16) (harg17 : arg17.IsWhole)
variable (arg18 : Memref sig .tc .vmem S1x1024x256 .bf16) (harg18 : arg18.IsWhole)
variable (arg19 : Memref sig .tc .vmem S1x1024x256 .bf16) (harg19 : arg19.IsWhole)
variable (arg20 : Memref sig .tc .vmem S1x1024x512 .bf16) (harg20 : arg20.IsWhole)
variable (arg21 : Memref sig .tc .vmem S1x1024x128 .f32) (harg21 : arg21.IsWhole)
variable (arg22 : Memref sig .tc .vmem S1024x128 .f32) (harg22 : arg22.IsWhole)
variable (arg23 : Memref sig .tc .vmem S1024x128 .f32) (harg23 : arg23.IsWhole)
variable (arg24 : Memref sig .tc .vmem S1024x128 .f32) (harg24 : arg24.IsWhole)
variable (arg25 : Memref sig .tc .vmem S1024x128 .f32) (harg25 : arg25.IsWhole)
variable (arg26 : Memref sig .tc .vmem S1024x768 .f32) (harg26 : arg26.IsWhole)
variable (arg27 : Memref sig .tc .vmem S1024x768 .f32) (harg27 : arg27.IsWhole)
variable (x0 : Vec Ideal S1x1024x1024 .f32) (x1 x2 : Vec Ideal S1x1x1024 .f32) (x3 : Vec Ideal S1x1024 .f32) (x4 : Vec Ideal S1x1024x1 .i32)
variable (x5 x6 : Vec Ideal S1x128 .f32) (x7 : Vec Ideal S1024x3968 .bf16)
variable {A : Args} {b : Fin 8} {j : Fin 4} (hj : (i 1).val = j.val) (H : Holds A b j x0 x1 x2 x3 x4 x5 x6 x7)
include hj H

theorem rq_block : out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 = (fun y => rq A b (tok j (y 1)) (y 2).val : Vec Ideal S1x1024x512 .bf16) := by
  unfold out0_A_8
  rw [View.read_writes_junk_eq_canon, rq_tiles]
  refine canon_512 (e := .bf16) _ _ _ _ _ _ _ _ (fun y => rq A b (tok j (y 1)) (y 2).val) ?_ ?_ ?_ ?_
  · intro r l
    refine (rq_apply (zt x0 x1 x2 x3 x7 0) (retCos x4 x5) (retSin x4 x5) r (fun i => proj A b (tok j r) (0 + i)) (retAng A b (tok j r)) (fun l => zt_low H 0 (by omega) r l) l (fun l => retCos_eq H r l) (fun l => retSin_eq H r l)).trans ?_
    show _ = rq A b (tok j r) (0 + l.val)
    rw [rq, retTurn, show (0 + l.val) % 64 = l.val % 64 by omega]
    simp only [show (0 + l.val) / 64 * 64 = 0 + l.val / 64 * 64 by omega]
    simp only [Nat.add_assoc, Nat.reduceAdd, zero_add]
    try simp only [← Nat.add_assoc, Nat.reduceAdd, zero_add]
  · intro r l
    refine (rq_apply (zt x0 x1 x2 x3 x7 128) (retCos x4 x5) (retSin x4 x5) r (fun i => proj A b (tok j r) (128 + i)) (retAng A b (tok j r)) (fun l => zt_low H 128 (by omega) r l) l (fun l => retCos_eq H r l) (fun l => retSin_eq H r l)).trans ?_
    show _ = rq A b (tok j r) (128 + l.val)
    rw [rq, retTurn, show (128 + l.val) % 64 = l.val % 64 by omega]
    simp only [show (128 + l.val) / 64 * 64 = 128 + l.val / 64 * 64 by omega]
    simp only [Nat.add_assoc, Nat.reduceAdd, zero_add]
    try simp only [← Nat.add_assoc, Nat.reduceAdd, zero_add]
  · intro r l
    refine (rq_apply (zt x0 x1 x2 x3 x7 256) (retCos x4 x5) (retSin x4 x5) r (fun i => proj A b (tok j r) (256 + i)) (retAng A b (tok j r)) (fun l => zt_low H 256 (by omega) r l) l (fun l => retCos_eq H r l) (fun l => retSin_eq H r l)).trans ?_
    show _ = rq A b (tok j r) (256 + l.val)
    rw [rq, retTurn, show (256 + l.val) % 64 = l.val % 64 by omega]
    simp only [show (256 + l.val) / 64 * 64 = 256 + l.val / 64 * 64 by omega]
    simp only [Nat.add_assoc, Nat.reduceAdd, zero_add]
    try simp only [← Nat.add_assoc, Nat.reduceAdd, zero_add]
  · intro r l
    refine (rq_apply (zt x0 x1 x2 x3 x7 384) (retCos x4 x5) (retSin x4 x5) r (fun i => proj A b (tok j r) (384 + i)) (retAng A b (tok j r)) (fun l => zt_low H 384 (by omega) r l) l (fun l => retCos_eq H r l) (fun l => retSin_eq H r l)).trans ?_
    show _ = rq A b (tok j r) (384 + l.val)
    rw [rq, retTurn, show (384 + l.val) % 64 = l.val % 64 by omega]
    simp only [show (384 + l.val) / 64 * 64 = 384 + l.val / 64 * 64 by omega]
    simp only [Nat.add_assoc, Nat.reduceAdd, zero_add]
    try simp only [← Nat.add_assoc, Nat.reduceAdd, zero_add]

theorem rk_block : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 = (fun y => rk A b (tok j (y 1)) (y 2).val : Vec Ideal S1x1024x512 .bf16) := by
  unfold out0_A_9
  rw [View.read_writes_junk_eq_canon, rk_tiles]
  refine canon_512 (e := .bf16) _ _ _ _ _ _ _ _ (fun y => rk A b (tok j (y 1)) (y 2).val) ?_ ?_ ?_ ?_
  · intro r l
    refine (rk_apply (zt x0 x1 x2 x3 x7 512) (retCos x4 x5) (retSin x4 x5) r (fun i => proj A b (tok j r) (512 + i)) (retAng A b (tok j r)) (fun l => zt_low H 512 (by omega) r l) l (fun l => retCos_eq H r l) (fun l => retSin_eq H r l)).trans ?_
    show _ = rk A b (tok j r) (0 + l.val)
    rw [rk, retTurn, show (0 + l.val) % 64 = l.val % 64 by omega]
    simp only [show (0 + l.val) / 64 * 64 = 0 + l.val / 64 * 64 by omega]
    simp only [Nat.add_assoc, Nat.reduceAdd, zero_add]
    try simp only [← Nat.add_assoc, Nat.reduceAdd, zero_add]
  · intro r l
    refine (rk_apply (zt x0 x1 x2 x3 x7 640) (retCos x4 x5) (retSin x4 x5) r (fun i => proj A b (tok j r) (640 + i)) (retAng A b (tok j r)) (fun l => zt_low H 640 (by omega) r l) l (fun l => retCos_eq H r l) (fun l => retSin_eq H r l)).trans ?_
    show _ = rk A b (tok j r) (128 + l.val)
    rw [rk, retTurn, show (128 + l.val) % 64 = l.val % 64 by omega]
    simp only [show (128 + l.val) / 64 * 64 = 128 + l.val / 64 * 64 by omega]
    simp only [Nat.add_assoc, Nat.reduceAdd, zero_add]
    try simp only [← Nat.add_assoc, Nat.reduceAdd, zero_add]
  · intro r l
    refine (rk_apply (zt x0 x1 x2 x3 x7 768) (retCos x4 x5) (retSin x4 x5) r (fun i => proj A b (tok j r) (768 + i)) (retAng A b (tok j r)) (fun l => zt_low H 768 (by omega) r l) l (fun l => retCos_eq H r l) (fun l => retSin_eq H r l)).trans ?_
    show _ = rk A b (tok j r) (256 + l.val)
    rw [rk, retTurn, show (256 + l.val) % 64 = l.val % 64 by omega]
    simp only [show (256 + l.val) / 64 * 64 = 256 + l.val / 64 * 64 by omega]
    simp only [Nat.add_assoc, Nat.reduceAdd, zero_add]
    try simp only [← Nat.add_assoc, Nat.reduceAdd, zero_add]
  · intro r l
    refine (rk_apply (zt x0 x1 x2 x3 x7 896) (retCos x4 x5) (retSin x4 x5) r (fun i => proj A b (tok j r) (896 + i)) (retAng A b (tok j r)) (fun l => zt_low H 896 (by omega) r l) l (fun l => retCos_eq H r l) (fun l => retSin_eq H r l)).trans ?_
    show _ = rk A b (tok j r) (384 + l.val)
    rw [rk, retTurn, show (384 + l.val) % 64 = l.val % 64 by omega]
    simp only [show (384 + l.val) / 64 * 64 = 384 + l.val / 64 * 64 by omega]
    simp only [Nat.add_assoc, Nat.reduceAdd, zero_add]
    try simp only [← Nat.add_assoc, Nat.reduceAdd, zero_add]

theorem rv_block : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 = (fun y => rv A b (tok j (y 1)) (y 2).val : Vec Ideal S1x1024x512 .bf16) := by
  unfold out0_A_10
  rw [View.read_writes_junk_eq_canon, rv_tiles]
  refine canon_512 (e := .bf16) _ _ _ _ _ _ _ _ (fun y => rv A b (tok j (y 1)) (y 2).val) ?_ ?_ ?_ ?_
  · intro r l
    refine (plain_apply (zt x0 x1 x2 x3 x7 1024) r (fun i => proj A b (tok j r) (1024 + i)) (fun l => zt_low H 1024 (by omega) r l) l).trans ?_
    exact congrArg (proj A b (tok j r)) (show _ = 1024 + (0 + l.val) by omega)
  · intro r l
    refine (plain_apply (zt x0 x1 x2 x3 x7 1152) r (fun i => proj A b (tok j r) (1152 + i)) (fun l => zt_low H 1152 (by omega) r l) l).trans ?_
    exact congrArg (proj A b (tok j r)) (show _ = 1024 + (128 + l.val) by omega)
  · intro r l
    refine (plain_apply (zt x0 x1 x2 x3 x7 1280) r (fun i => proj A b (tok j r) (1280 + i)) (fun l => zt_low H 1280 (by omega) r l) l).trans ?_
    exact congrArg (proj A b (tok j r)) (show _ = 1024 + (256 + l.val) by omega)
  · intro r l
    refine (plain_apply (zt x0 x1 x2 x3 x7 1408) r (fun i => proj A b (tok j r) (1408 + i)) (fun l => zt_low H 1408 (by omega) r l) l).trans ?_
    exact congrArg (proj A b (tok j r)) (show _ = 1024 + (384 + l.val) by omega)

theorem rg_block : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 = (fun y => rg A b (tok j (y 1)) (y 2).val : Vec Ideal S1x1024x512 .bf16) := by
  unfold out0_A_11
  rw [View.read_writes_junk_eq_canon, rg_tiles]
  refine canon_512 (e := .bf16) _ _ _ _ _ _ _ _ (fun y => rg A b (tok j (y 1)) (y 2).val) ?_ ?_ ?_ ?_
  · intro r l
    refine (silu_apply (zt x0 x1 x2 x3 x7 1536) r (fun i => proj A b (tok j r) (1536 + i)) (fun l => zt_low H 1536 (by omega) r l) l).trans ?_
    exact congrArg (fun n => silu (proj A b (tok j r) n)) (show _ = 1536 + (0 + l.val) by omega)
  · intro r l
    refine (silu_apply (zt x0 x1 x2 x3 x7 1664) r (fun i => proj A b (tok j r) (1664 + i)) (fun l => zt_low H 1664 (by omega) r l) l).trans ?_
    exact congrArg (fun n => silu (proj A b (tok j r) n)) (show _ = 1536 + (128 + l.val) by omega)
  · intro r l
    refine (silu_apply (zt x0 x1 x2 x3 x7 1792) r (fun i => proj A b (tok j r) (1792 + i)) (fun l => zt_low H 1792 (by omega) r l) l).trans ?_
    exact congrArg (fun n => silu (proj A b (tok j r) n)) (show _ = 1536 + (256 + l.val) by omega)
  · intro r l
    refine (silu_apply (zt x0 x1 x2 x3 x7 1920) r (fun i => proj A b (tok j r) (1920 + i)) (fun l => zt_low H 1920 (by omega) r l) l).trans ?_
    exact congrArg (fun n => silu (proj A b (tok j r) n)) (show _ = 1536 + (384 + l.val) by omega)

theorem nq_block : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 = (fun y => nq A b (tok j (y 1)) (y 2).val : Vec Ideal S1x1024x512 .bf16) := by
  unfold out0_A_12
  rw [View.read_writes_junk_eq_canon, nq_tiles]
  refine canon_512 (e := .bf16) _ _ _ _ _ _ _ _ (fun y => nq A b (tok j (y 1)) (y 2).val) ?_ ?_ ?_ ?_
  · intro r l
    refine (nq_apply (zt x0 x1 x2 x3 x7 2048) (nsaCos x4 x6) (nsaSin x4 x6) r (fun i => proj A b (tok j r) (2048 + i)) (nsaAng A b (tok j r)) (fun l => zt_low H 2048 (by omega) r l) l (fun l => nsaCos_eq H r l) (fun l => nsaSin_eq H r l)).trans ?_
    show _ = nq A b (tok j r) (0 + l.val)
    rw [nq, nsaTurn, show (0 + l.val) % 64 = l.val % 64 by omega]
    simp only [show (0 + l.val) / 64 * 64 = 0 + l.val / 64 * 64 by omega]
    rw [named_eq]
    simp only [Nat.add_assoc, Nat.reduceAdd, zero_add]
    try simp only [← Nat.add_assoc, Nat.reduceAdd, zero_add]
  · intro r l
    refine (nq_apply (zt x0 x1 x2 x3 x7 2176) (nsaCos x4 x6) (nsaSin x4 x6) r (fun i => proj A b (tok j r) (2176 + i)) (nsaAng A b (tok j r)) (fun l => zt_low H 2176 (by omega) r l) l (fun l => nsaCos_eq H r l) (fun l => nsaSin_eq H r l)).trans ?_
    show _ = nq A b (tok j r) (128 + l.val)
    rw [nq, nsaTurn, show (128 + l.val) % 64 = l.val % 64 by omega]
    simp only [show (128 + l.val) / 64 * 64 = 128 + l.val / 64 * 64 by omega]
    rw [named_eq]
    simp only [Nat.add_assoc, Nat.reduceAdd, zero_add]
    try simp only [← Nat.add_assoc, Nat.reduceAdd, zero_add]
  · intro r l
    refine (nq_apply (zt x0 x1 x2 x3 x7 2304) (nsaCos x4 x6) (nsaSin x4 x6) r (fun i => proj A b (tok j r) (2304 + i)) (nsaAng A b (tok j r)) (fun l => zt_low H 2304 (by omega) r l) l (fun l => nsaCos_eq H r l) (fun l => nsaSin_eq H r l)).trans ?_
    show _ = nq A b (tok j r) (256 + l.val)
    rw [nq, nsaTurn, show (256 + l.val) % 64 = l.val % 64 by omega]
    simp only [show (256 + l.val) / 64 * 64 = 256 + l.val / 64 * 64 by omega]
    rw [named_eq]
    simp only [Nat.add_assoc, Nat.reduceAdd, zero_add]
    try simp only [← Nat.add_assoc, Nat.reduceAdd, zero_add]
  · intro r l
    refine (nq_apply (zt x0 x1 x2 x3 x7 2432) (nsaCos x4 x6) (nsaSin x4 x6) r (fun i => proj A b (tok j r) (2432 + i)) (nsaAng A b (tok j r)) (fun l => zt_low H 2432 (by omega) r l) l (fun l => nsaCos_eq H r l) (fun l => nsaSin_eq H r l)).trans ?_
    show _ = nq A b (tok j r) (384 + l.val)
    rw [nq, nsaTurn, show (384 + l.val) % 64 = l.val % 64 by omega]
    simp only [show (384 + l.val) / 64 * 64 = 384 + l.val / 64 * 64 by omega]
    rw [named_eq]
    simp only [Nat.add_assoc, Nat.reduceAdd, zero_add]
    try simp only [← Nat.add_assoc, Nat.reduceAdd, zero_add]

theorem cmp_block : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 = (fun y => Projection.cmp A b (tok j (y 1)) (y 2).val : Vec Ideal S1x1024x512 .f32) := by
  unfold out0_A_13
  rw [View.read_writes_junk_eq_canon, cmp_tiles]
  refine canon_512 (e := .f32) _ _ _ _ _ _ _ _ (fun y => Projection.cmp A b (tok j (y 1)) (y 2).val) ?_ ?_ ?_ ?_
  · intro r l
    refine (low_apply (zt x0 x1 x2 x3 x7 2560) r (fun i => proj A b (tok j r) (2560 + i)) (fun l => zt_low H 2560 (by omega) r l) l).trans ?_
    exact congrArg (proj A b (tok j r)) (show _ = 2560 + (0 + l.val) / 256 * 128 + (0 + l.val) % 256 / 128 * 64 + (0 + l.val) % 64 by omega)
  · intro r l
    refine (high_apply (zt x0 x1 x2 x3 x7 2560) r (fun i => proj A b (tok j r) (2560 + i)) (fun l => zt_low H 2560 (by omega) r l) l).trans ?_
    exact congrArg (proj A b (tok j r)) (show _ = 2560 + (128 + l.val) / 256 * 128 + (128 + l.val) % 256 / 128 * 64 + (128 + l.val) % 64 by omega)
  · intro r l
    refine (low_apply (zt x0 x1 x2 x3 x7 2688) r (fun i => proj A b (tok j r) (2688 + i)) (fun l => zt_low H 2688 (by omega) r l) l).trans ?_
    exact congrArg (proj A b (tok j r)) (show _ = 2560 + (256 + l.val) / 256 * 128 + (256 + l.val) % 256 / 128 * 64 + (256 + l.val) % 64 by omega)
  · intro r l
    refine (high_apply (zt x0 x1 x2 x3 x7 2688) r (fun i => proj A b (tok j r) (2688 + i)) (fun l => zt_low H 2688 (by omega) r l) l).trans ?_
    exact congrArg (proj A b (tok j r)) (show _ = 2560 + (384 + l.val) / 256 * 128 + (384 + l.val) % 256 / 128 * 64 + (384 + l.val) % 64 by omega)

theorem ks_block : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 = (fun y => ks A b (tok j (y 1)) (y 2).val : Vec Ideal S1x1024x256 .bf16) := by
  unfold out0_A_14
  rw [View.read_writes_junk_eq_canon, ks_tiles]
  refine canon_256 (e := .bf16) _ _ _ _ (fun y => ks A b (tok j (y 1)) (y 2).val) ?_ ?_
  · intro r l
    rw [hj]
    refine (slow_apply (zt x0 x1 x2 x3 x7 2816) (nsaCos x4 x6) (nsaSin x4 x6) r (fun i => proj A b (tok j r) (2816 + i)) (nsaAng A b (tok j r)) (fun l => zt_low H 2816 (by omega) r l) l (fun l => nsaCos_eq H r l) (fun l => nsaSin_eq H r l) j).trans ?_
    show _ = ks A b (tok j r) (0 + l.val)
    rw [ks, nsaTurn, show (0 + l.val) % 64 = l.val % 64 by omega, show (0 + l.val) % 128 = l.val by omega]
    simp only [show (0 + l.val) / 128 * 64 = 0 by omega, Nat.add_zero, Nat.add_assoc, tok]
    try simp only [← Nat.add_assoc, Nat.reduceAdd]
    rfl
  · intro r l
    rw [hj]
    refine (shigh_apply (zt x0 x1 x2 x3 x7 2816) (nsaCos x4 x6) (nsaSin x4 x6) r (fun i => proj A b (tok j r) (2816 + i)) (nsaAng A b (tok j r)) (fun l => zt_low H 2816 (by omega) r l) l (fun l => nsaCos_eq H r l) (fun l => nsaSin_eq H r l) j).trans ?_
    show _ = ks A b (tok j r) (128 + l.val)
    rw [ks, nsaTurn, show (128 + l.val) % 64 = l.val % 64 by omega, show (128 + l.val) % 128 = l.val by omega]
    simp only [show (128 + l.val) / 128 * 64 = 64 by omega, Nat.add_zero, Nat.add_assoc, tok]
    try simp only [← Nat.add_assoc, Nat.reduceAdd]
    rfl

theorem vs_block : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 = (fun y => vs A b (tok j (y 1)) (y 2).val : Vec Ideal S1x1024x256 .bf16) := by
  unfold out0_A_15
  rw [View.read_writes_junk_eq_canon, vs_tiles]
  refine canon_256 (e := .bf16) _ _ _ _ (fun y => vs A b (tok j (y 1)) (y 2).val) ?_ ?_
  · intro r l
    refine (vlow_apply (zt x0 x1 x2 x3 x7 2944) r (fun i => proj A b (tok j r) (2944 + i)) (fun l => zt_low H 2944 (by omega) r l) l).trans ?_
    show _ = vs A b (tok j r) (0 + l.val)
    rw [vs, show (0 + l.val) % 128 = l.val by omega, show (0 + l.val) % 64 = l.val % 64 by omega,
      show 2944 + (0 + l.val) / 128 * 64 + l.val % 64 = 2944 + l.val % 64 by omega]
  · intro r l
    refine (vhigh_apply (zt x0 x1 x2 x3 x7 2944) r (fun i => proj A b (tok j r) (2944 + i)) (fun l => zt_low H 2944 (by omega) r l) l).trans ?_
    show _ = vs A b (tok j r) (128 + l.val)
    rw [vs, show (128 + l.val) % 128 = l.val by omega, show (128 + l.val) % 64 = l.val % 64 by omega,
      show 2944 + (128 + l.val) / 128 * 64 + l.val % 64 = 2944 + (64 + l.val % 64) by omega]

theorem kw_block : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 = (fun y => kw A b (tok j (y 1)) (y 2).val : Vec Ideal S1x1024x256 .bf16) := by
  unfold out0_A_16
  rw [View.read_writes_junk_eq_canon, kw_tiles]
  refine canon_256 (e := .bf16) _ _ _ _ (fun y => kw A b (tok j (y 1)) (y 2).val) ?_ ?_
  · intro r l
    refine (klow_apply (zt x0 x1 x2 x3 x7 3072) (nsaCos x4 x6) (nsaSin x4 x6) r (fun i => proj A b (tok j r) (3072 + i)) (nsaAng A b (tok j r)) (fun l => zt_low H 3072 (by omega) r l) l (fun l => nsaCos_eq H r l) (fun l => nsaSin_eq H r l)).trans ?_
    show _ = kw A b (tok j r) (0 + l.val)
    rw [kw, nsaTurn, show (0 + l.val) % 64 = l.val % 64 by omega]
    simp only [show (0 + l.val) / 128 * 64 = 0 by omega, Nat.add_zero, Nat.add_assoc]
    try simp only [← Nat.add_assoc, Nat.reduceAdd]
  · intro r l
    refine (khigh_apply (zt x0 x1 x2 x3 x7 3072) (nsaCos x4 x6) (nsaSin x4 x6) r (fun i => proj A b (tok j r) (3072 + i)) (nsaAng A b (tok j r)) (fun l => zt_low H 3072 (by omega) r l) l (fun l => nsaCos_eq H r l) (fun l => nsaSin_eq H r l)).trans ?_
    show _ = kw A b (tok j r) (128 + l.val)
    rw [kw, nsaTurn, show (128 + l.val) % 64 = l.val % 64 by omega]
    simp only [show (128 + l.val) / 128 * 64 = 64 by omega, Nat.add_zero, Nat.add_assoc]
    try simp only [← Nat.add_assoc, Nat.reduceAdd]

theorem vw_block : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 = (fun y => vw A b (tok j (y 1)) (y 2).val : Vec Ideal S1x1024x256 .bf16) := by
  unfold out0_A_17
  rw [View.read_writes_junk_eq_canon, vw_tiles]
  refine canon_256 (e := .bf16) _ _ _ _ (fun y => vw A b (tok j (y 1)) (y 2).val) ?_ ?_
  · intro r l
    refine (vlow_apply (zt x0 x1 x2 x3 x7 3200) r (fun i => proj A b (tok j r) (3200 + i)) (fun l => zt_low H 3200 (by omega) r l) l).trans ?_
    show _ = vw A b (tok j r) (0 + l.val)
    rw [vw, show (0 + l.val) % 128 = l.val by omega, show (0 + l.val) % 64 = l.val % 64 by omega,
      show 3200 + (0 + l.val) / 128 * 64 + l.val % 64 = 3200 + l.val % 64 by omega]
  · intro r l
    refine (vhigh_apply (zt x0 x1 x2 x3 x7 3200) r (fun i => proj A b (tok j r) (3200 + i)) (fun l => zt_low H 3200 (by omega) r l) l).trans ?_
    show _ = vw A b (tok j r) (128 + l.val)
    rw [vw, show (128 + l.val) % 128 = l.val by omega, show (128 + l.val) % 64 = l.val % 64 by omega,
      show 3200 + (128 + l.val) / 128 * 64 + l.val % 64 = 3200 + (64 + l.val % 64) by omega]

theorem ng_block : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 = (fun y => ng A b (tok j (y 1)) (y 2).val : Vec Ideal S1x1024x512 .bf16) := by
  unfold out0_A_18
  rw [View.read_writes_junk_eq_canon, ng_tiles]
  refine canon_512 (e := .bf16) _ _ _ _ _ _ _ _ (fun y => ng A b (tok j (y 1)) (y 2).val) ?_ ?_ ?_ ?_
  · intro r l
    refine (silu_apply (zt x0 x1 x2 x3 x7 3328) r (fun i => proj A b (tok j r) (3328 + 24 + i)) (fun l => zt_mid H 3328 (by omega) (by omega) r l) l).trans ?_
    exact congrArg (fun n => silu (proj A b (tok j r) n)) (show _ = 3352 + (0 + l.val) by omega)
  · intro r l
    refine (silu_apply (zt x0 x1 x2 x3 x7 3456) r (fun i => proj A b (tok j r) (3456 + 24 + i)) (fun l => zt_mid H 3456 (by omega) (by omega) r l) l).trans ?_
    exact congrArg (fun n => silu (proj A b (tok j r) n)) (show _ = 3352 + (128 + l.val) by omega)
  · intro r l
    refine (silu_apply (zt x0 x1 x2 x3 x7 3584) r (fun i => proj A b (tok j r) (3584 + 24 + i)) (fun l => zt_mid H 3584 (by omega) (by omega) r l) l).trans ?_
    exact congrArg (fun n => silu (proj A b (tok j r) n)) (show _ = 3352 + (256 + l.val) by omega)
  · intro r l
    refine (silu_apply (zt x0 x1 x2 x3 x7 3712) r (fun i => proj A b (tok j r) (3712 + 24 + i)) (fun l => zt_mid H 3712 (by omega) (by omega) r l) l).trans ?_
    exact congrArg (fun n => silu (proj A b (tok j r) n)) (show _ = 3352 + (384 + l.val) by omega)

theorem gl_block : out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 = (fun y => gl A b (tok j (y 1)) (y 2).val : Vec Ideal S1x1024x128 .f32) := by
  unfold out0_A_19
  rw [View.read_writes_junk_eq_canon, gl_tiles]
  funext y
  refine View.canon_apply_of_pieces (Val := Elt Ideal) (e := .f32) (fun y => gl A b (tok j (y 1)) (y 2).val : S1x1024x128.Idx → Elt Ideal .f32) _ ?_ y (View.cover_of_tiledL _ ![1, 1024, 128] (by sl_kernel_rfl) y)
  intro p hp x
  simp only [List.mem_cons, List.not_mem_nil, or_false] at hp
  subst hp
  have hx : x = (Rect.unit (s := S1x1024x128) ![0, 0, 0] ![1, 1024, 128] (by decide)).emb x := by
    funext a
    apply Fin.ext
    exact ((ValueKit.rect_emb_unit_val (s := S1x1024x128) ![0, 0, 0] ![1, 1024, 128] (by decide) x a).trans (by
      match a with
      | ⟨0, _⟩ => exact Nat.zero_add _
      | ⟨1, _⟩ => exact Nat.zero_add _
      | ⟨2, _⟩ => exact Nat.zero_add _)).symm
  refine Eq.trans ?_ (congrArg (fun y => gl A b (tok j (y 1)) (y 2).val : S1x1024x128.Idx → Elt Ideal .f32) hx)
  refine (congrArg (k0_pay2 (zt x0 x1 x2 x3 x7 3840)) (ix_eta3 x)).trans ?_
  exact gate_apply (zt x0 x1 x2 x3 x7 3840) (x 1) (fun i => if i < 24 then proj A b (tok j (x 1)) (3328 + i) else 0) (fun l => zt_last H (x 1) l) (x 2)

end Run

end Cert.Kernel2Ideal.Body
-- ==== Proof.Projection.Tables.lean ====
/- What the host hands the projection kernel: the arguments' parts, the rates over the lanes, and the weights with the gates' columns last. -/
module

public import proofs.«01_k».proof.Proof.Projection.Point
public import Idealize.ShloMosaic.Lib.StableHlo.RunRead
public import Idealize.ShloMosaic.Lib.StableHlo.Predicate

@[expose] public section

set_option maxRecDepth 16384

noncomputable section

namespace Cert.Kernel2Ideal.Tables

open Idealize.ShloMosaic Idealize.ShloMosaic.TcCoe Idealize.SL.Sem Cert.Kernel2Ideal Cert.Kernel2Ideal.Gen
open Idealize.ShloMosaic.StableHlo Cert.Projection

variable (m : (ℓ : Loc nD τ sig) → Buf (Elt Ideal) ℓ) (c : Dev nD)

/-- The remainder of the lanes' numbers, as the host computes it, wrapped into the table. -/
def remain (n : BitVec 32) (x : IVec S128 32) : IVec S128 32 :=
  let d : IVec S_ 32 := select (cmpi .eq (constantI S_ 32 n) (constantI S_ 32 0#32)) (constantI S_ 32 1#32) (constantI S_ 32 n)
  let r : IVec S128 32 := Host.remsi x (broadcastInDim S128 ![] bcast_S_S128 d)
  select (andi (cmpi .ne (cmpi .slt r (broadcastInDim S128 ![] bcast_S_S128 (constantI S_ 32 0#32)))
        (broadcastInDim S128 ![] bcast_S_S128 (cmpi .slt d (constantI S_ 32 0#32))))
      (cmpi .ne r (broadcastInDim S128 ![] bcast_S_S128 (constantI S_ 32 0#32))))
    (addi r (broadcastInDim S128 ![] bcast_S_S128 d)) r

def wrapped (n : BitVec 32) (x : IVec S128 32) : IVec S128x1 32 :=
  broadcastInDim S128x1 ![0] bcast_S128_S128x1_0 (select (cmpi .slt x (broadcastInDim S128 ![] bcast_S_S128 (constantI S_ 32 0#32)))
    (addi x (broadcastInDim S128 ![] bcast_S_S128 (constantI S_ 32 n))) x)

def retRow : FVec Ideal S1x128 .f32 := shapeCast S1x128 (Host.gather gather_S32_S128x1_S128_n_0_n_n_0_1_1
  (Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32))))
  (wrapped 32#32 (remain 32#32 (iotaInDim S128 32 0)))) shapeCasts_S128_S1x128

def nsaRow : FVec Ideal S1x128 .f32 := shapeCast S1x128 (Host.gather gather_S8_S128x1_S128_n_0_n_n_0_1_1
  (Host.powf (broadcastInDim S8 ![] bcast_S_S8 (constant S_ .f32 0x48F42400#32))
    (Host.divf (Host.negf (sitofp .f32 (iotaInDim S8 32 0))) (broadcastInDim S8 ![] bcast_S_S8 (constant S_ .f32 0x41000000#32))))
  (wrapped 8#32 (remain 8#32 (iotaInDim S128 32 0)))) shapeCasts_S128_S1x128

/-- The weights' columns: those before the gates, those after them, the gates, zeros. -/
def weights (w : FVec Ideal S1024x3864 .f32) : FVec Ideal S1024x3968 .bf16 :=
  truncf .bf16 (concatenate S1024x3968 1 [⟨S1024x3328, extractStridedSlice S1024x3328 ![0, 0] w slices_S1024x3864_S1024x3328_0_0⟩,
    ⟨S1024x512, extractStridedSlice S1024x512 ![0, 3352] w slices_S1024x3864_S1024x512_0_3352⟩,
    ⟨S1024x24, extractStridedSlice S1024x24 ![0, 3328] w slices_S1024x3864_S1024x24_0_3328⟩,
    ⟨S1024x104, broadcastInDim S1024x104 ![] bcast_S_S1024x104 (constant S_ .f32 0x00000000#32)⟩]
    concatenates_S1024x3328_S1024x512_S1024x24_S1024x104_S1024x3968_d1) bitsLt_bf16_f32

set_option maxHeartbeats 4000000 in
theorem V_ret : V m c main_v33 = retRow := by
  simp only [V, hostOps0, hostOps0_1, hostOps0_2, hostOps0_3, hostOps0_4, List.flatten_cons, List.flatten_nil, List.append_nil, List.cons_append, List.nil_append]
  after_reads_simp
  all_goals rfl

set_option maxHeartbeats 4000000 in
theorem V_nsa : V m c main_v42 = nsaRow := by
  simp only [V, hostOps0, hostOps0_1, hostOps0_2, hostOps0_3, hostOps0_4, List.flatten_cons, List.flatten_nil, List.append_nil, List.cons_append, List.nil_append]
  after_reads_simp
  all_goals rfl

set_option maxHeartbeats 4000000 in
theorem V_weights : V m c main_v11 = weights (m ((c.tc : Thread nD τ).loc main_arg4)) := by
  simp only [V, hostOps0, hostOps0_1, hostOps0_2, hostOps0_3, hostOps0_4, List.flatten_cons, List.flatten_nil, List.append_nil, List.cons_append, List.nil_append]
  after_reads_simp
  all_goals rfl

set_option maxHeartbeats 4000000 in
theorem V_shift : V m c main_v3 = shapeCast S8x1x1024 (extractStridedSlice S8x1024 ![0, 0] (m ((c.tc : Thread nD τ).loc main_arg2) : FVec Ideal S8x3072 .f32)
    slices_S8x3072_S8x1024_0_0) shapeCasts_S8x1024_S8x1x1024 := by
  simp only [V, hostOps0, hostOps0_1, hostOps0_2, hostOps0_3, hostOps0_4, List.flatten_cons, List.flatten_nil, List.append_nil, List.cons_append, List.nil_append]
  after_reads_simp
  all_goals rfl

set_option maxHeartbeats 4000000 in
theorem V_scale : V m c main_v4 = shapeCast S8x1x1024 (extractStridedSlice S8x1024 ![0, 1024] (m ((c.tc : Thread nD τ).loc main_arg2) : FVec Ideal S8x3072 .f32)
    slices_S8x3072_S8x1024_0_1024) shapeCasts_S8x1024_S8x1x1024 := by
  simp only [V, hostOps0, hostOps0_1, hostOps0_2, hostOps0_3, hostOps0_4, List.flatten_cons, List.flatten_nil, List.append_nil, List.cons_append, List.nil_append]
  after_reads_simp
  all_goals rfl

set_option maxHeartbeats 4000000 in
theorem V_pos : V m c main_v43 = shapeCast S8x4096x1 (m ((c.tc : Thread nD τ).loc main_arg1) : IVec S8x4096 32) shapeCasts_S8x4096_S8x4096x1 := by
  simp only [V, hostOps0, hostOps0_1, hostOps0_2, hostOps0_3, hostOps0_4, List.flatten_cons, List.flatten_nil, List.append_nil, List.cons_append, List.nil_append]
  after_reads_simp
  all_goals rfl

set_option maxHeartbeats 4000000 in
theorem V_gain : V m c main_v44 = shapeCast S1x1024 (m ((c.tc : Thread nD τ).loc main_arg3) : FVec Ideal S1024 .f32) shapeCasts_S1024_S1x1024 := by
  simp only [V, hostOps0, hostOps0_1, hostOps0_2, hostOps0_3, hostOps0_4, List.flatten_cons, List.flatten_nil, List.append_nil, List.cons_append, List.nil_append]
  after_reads_simp
  all_goals rfl

/-! ### At an index -/

theorem wrapped_32 (l : Fin 128) : wrapped 32#32 (remain 32#32 (iotaInDim S128 32 0)) (ix2 l 0) = BitVec.ofNat 32 (l.val % 32) := by
  revert l; decide +kernel
theorem wrapped_8 (l : Fin 128) : wrapped 8#32 (remain 8#32 (iotaInDim S128 32 0)) (ix2 l 0) = BitVec.ofNat 32 (l.val % 8) := by
  revert l; decide +kernel
theorem signed (q : Fin 32) : (BitVec.ofNat 32 q.val).toInt.toNat = q.val := by
  revert q; decide +kernel

theorem ofFin_eq {n : ℕ} (p : Fin n) : Shape.Idx.ofFin p = ix1 p := by
  funext a
  obtain rfl : a = 0 := Subsingleton.elim _ _
  rfl
theorem ixP_eq {n : ℕ} (p : Fin n) : Predicate.ixP p = ix2 p 0 := by
  funext a
  match a with
  | ⟨0, _⟩ => rfl
  | ⟨1, _⟩ => rfl

theorem retRow_apply (l : Fin 128) : retRow (ix2 0 l) = retRate (l.val % 32) := by
  pointwise [retRow]
  rw [← ofFin_eq, Predicate.gather_take _ rfl rfl rfl rfl _ _ _ (by decide)]
  simp only [ofFin_eq, ixP_eq, wrapped_32]
  rw [show (⟨min (BitVec.ofNat 32 (l.val % 32)).toInt.toNat (32 - 1), by omega⟩ : Fin 32) = ⟨l.val % 32, by omega⟩ from
    Fin.ext (by
      show min (BitVec.ofNat 32 (l.val % 32)).toInt.toNat (32 - 1) = l.val % 32
      rw [signed ⟨l.val % 32, by omega⟩]
      show min (l.val % 32) (32 - 1) = l.val % 32
      omega)]
  pointwise []
  rfl
theorem nsaRow_apply (l : Fin 128) : nsaRow (ix2 0 l) = nsaRate (l.val % 8) := by
  pointwise [nsaRow]
  rw [← ofFin_eq, Predicate.gather_take _ rfl rfl rfl rfl _ _ _ (by decide)]
  simp only [ofFin_eq, ixP_eq, wrapped_8]
  rw [show (⟨min (BitVec.ofNat 32 (l.val % 8)).toInt.toNat (8 - 1), by omega⟩ : Fin 8) = ⟨l.val % 8, by omega⟩ from
    Fin.ext (by
      show min (BitVec.ofNat 32 (l.val % 8)).toInt.toNat (8 - 1) = l.val % 8
      rw [signed ⟨l.val % 8, by omega⟩]
      show min (l.val % 8) (8 - 1) = l.val % 8
      omega)]
  pointwise []
  rfl

theorem weights_apply (w : FVec Ideal S1024x3864 .f32) (k : Fin 1024) (n : Fin 3968) :
    weights w (ix2 k n) = if h : Body.perm n.val < 3864 then w (ix2 k ⟨Body.perm n.val, h⟩) else 0 := by
  pointwise [weights]
  unfold Body.perm
  by_cases h1 : n.val < 3328
  · have e : n.val < 3864 := by omega
    simp only [h1, e, if_true, dif_pos]
  · by_cases h2 : n.val < 3840
    · have e : n.val - 3328 < 512 := by omega
      have e' : n.val + 24 < 3864 := by omega
      simp only [h1, h2, e, e', if_true, if_false, dif_pos, dif_neg, not_false_eq_true]
      exact congrArg (fun q => w (ix2 k q)) (Fin.ext (by show 3352 + (n.val - 3328) = n.val + 24; omega))
    · have e : ¬ n.val - 3328 < 512 := by omega
      by_cases h3 : n.val < 3864
      · have e2 : n.val - 3328 - 512 < 24 := by omega
        have e3 : n.val - 512 < 3864 := by omega
        simp only [h1, h2, h3, e, e2, e3, if_true, if_false, dif_pos, dif_neg, not_false_eq_true]
        exact congrArg (fun q => w (ix2 k q)) (Fin.ext (by show 3328 + (n.val - 3328 - 512) = n.val - 512; omega))
      · have e2 : ¬ n.val - 3328 - 512 < 24 := by omega
        simp only [h1, h2, h3, e, e2, if_false, dif_neg, not_false_eq_true, Nat.lt_irrefl]

theorem shift_apply (w : FVec Ideal S8x3072 .f32) (b : Fin 8) (k : Fin 1024) :
    shapeCast S8x1x1024 (extractStridedSlice S8x1024 ![0, 0] w slices_S8x3072_S8x1024_0_0) shapeCasts_S8x1024_S8x1x1024 (ix3 b 0 k)
      = w (ix2 b ⟨k.val, by omega⟩) := by
  pointwise []
theorem scale_apply (w : FVec Ideal S8x3072 .f32) (b : Fin 8) (k : Fin 1024) :
    shapeCast S8x1x1024 (extractStridedSlice S8x1024 ![0, 1024] w slices_S8x3072_S8x1024_0_1024) shapeCasts_S8x1024_S8x1x1024 (ix3 b 0 k)
      = w (ix2 b ⟨1024 + k.val, by omega⟩) := by
  pointwise []
theorem pos_apply (w : IVec S8x4096 32) (b : Fin 8) (s : Fin 4096) :
    shapeCast S8x4096x1 w shapeCasts_S8x4096_S8x4096x1 (ix3 b s 0) = w (ix2 b s) := by
  pointwise []
theorem gain_apply (w : FVec Ideal S1024 .f32) (k : Fin 1024) :
    shapeCast S1x1024 w shapeCasts_S1024_S1x1024 (ix2 0 k) = w (ix1 k) := by
  pointwise []

end Cert.Kernel2Ideal.Tables
-- ==== Proof.Projection.Kernel2IdealRun.lean ====
/- The projection kernel's run: its twelve arrays after it, the arguments unchanged. -/
module

public import proofs.«01_k».proof.Proof.Projection.Kernel2IdealFrame
public import Idealize.ShloMosaic.Lib.Pipeline.Value

@[expose] public section

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v45_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v45_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v45_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v45_3) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v45_4) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v45_5) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v45_6) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v45_7) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v45_8) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v45_9) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v45_10) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v45_11) = (dats m 0 c).arrAt 19 cfg0.N :=
  (h c).1 19

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

set_option maxHeartbeats 408180 in
/-- The frame run with each output array after the run NAMED — `(dats m 0 c).arrAt w N` —, the arguments unchanged. -/
theorem run_blocks : θ_run defs (onTc (τ := τ) (main (F := F))) ⟨m, fun _ => 0, ρ⟩ fun r => ∀ c : Dev nD,
      r.2.mem ((c : Thread nD τ).loc main_v45_0) = (dats m 0 c).arrAt 8 cfg0.N
      ∧ r.2.mem ((c : Thread nD τ).loc main_v45_1) = (dats m 0 c).arrAt 9 cfg0.N
      ∧ r.2.mem ((c : Thread nD τ).loc main_v45_2) = (dats m 0 c).arrAt 10 cfg0.N
      ∧ r.2.mem ((c : Thread nD τ).loc main_v45_3) = (dats m 0 c).arrAt 11 cfg0.N
      ∧ r.2.mem ((c : Thread nD τ).loc main_v45_4) = (dats m 0 c).arrAt 12 cfg0.N
      ∧ r.2.mem ((c : Thread nD τ).loc main_v45_5) = (dats m 0 c).arrAt 13 cfg0.N
      ∧ r.2.mem ((c : Thread nD τ).loc main_v45_6) = (dats m 0 c).arrAt 14 cfg0.N
      ∧ r.2.mem ((c : Thread nD τ).loc main_v45_7) = (dats m 0 c).arrAt 15 cfg0.N
      ∧ r.2.mem ((c : Thread nD τ).loc main_v45_8) = (dats m 0 c).arrAt 16 cfg0.N
      ∧ r.2.mem ((c : Thread nD τ).loc main_v45_9) = (dats m 0 c).arrAt 17 cfg0.N
      ∧ r.2.mem ((c : Thread nD τ).loc main_v45_10) = (dats m 0 c).arrAt 18 cfg0.N
      ∧ r.2.mem ((c : Thread nD τ).loc main_v45_11) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post8 m r h c,
      post9 m r h c,
      post10 m r h c,
      post11 m r h c,
      post12 m r h c,
      post13 m r h c,
      post14 m r h c,
      post15 m r h c,
      post16 m r h c,
      post17 m r h c,
      post18 m r h c,
      post19 m r h c,
      kept_main_arg0 m r h c,
      kept_main_arg1 m r h c,
      kept_main_arg2 m r h c,
      kept_main_arg3 m r h c,
      kept_main_arg4 m r h c⟩)
    (run_main m ρ)

end Cert.Kernel2Ideal.Value

end
-- ==== Proof.Projection.Final.lean ====
/- The projection kernel's twelve result arrays over the extended reals: at every index the specification. -/
module

public import proofs.«01_k».proof.Proof.Projection.Tables
public import proofs.«01_k».proof.Proof.Projection.Kernel2IdealRun
public import Idealize.ShloMosaic.Lib.Pipeline.ValueKit

@[expose] public section

set_option maxRecDepth 16384

noncomputable section

namespace Cert.Kernel2Ideal.Final

open Idealize.ShloMosaic Idealize.ShloMosaic.TcCoe Idealize.SL.Sem Cert.Kernel2Ideal Cert.Kernel2Ideal.Gen
open Cert.Kernel2Ideal.Body Cert.Projection

variable (m : (ℓ : Loc nD τ sig) → Buf (Elt Ideal) ℓ) (c : Dev nD)

/-- The batch and the block of tokens of a grid point. -/
def batch (t : Fin cfg0.N) : Fin 8 := ⟨t.val / 4, by have : t.val < 32 := t.isLt; omega⟩
def blk (t : Fin cfg0.N) : Fin 4 := ⟨t.val % 4, by omega⟩

theorem coords : ∀ t : Fin cfg0.N, ((grid0.coords t) 1).val = (blk t).val :=
  (by decide +kernel : ∀ t : Fin grid0.N, ((grid0.coords t) 1).val = t.val % 4)

theorem index_facts : ∀ t : Fin cfg0.N,
    win0_0.index t = ![t.val / 4, t.val % 4, 0] ∧ win0_1.index t = ![t.val / 4, 0, 0]
    ∧ win0_2.index t = ![t.val / 4, 0, 0] ∧ win0_3.index t = ![0, 0]
    ∧ win0_4.index t = ![t.val / 4, t.val % 4, 0] ∧ win0_5.index t = ![0, 0]
    ∧ win0_6.index t = ![0, 0] ∧ win0_7.index t = ![0, 0]
    ∧ win0_8.index t = ![t.val / 4, t.val % 4, 0] ∧ win0_9.index t = ![t.val / 4, t.val % 4, 0]
    ∧ win0_10.index t = ![t.val / 4, t.val % 4, 0] ∧ win0_11.index t = ![t.val / 4, t.val % 4, 0]
    ∧ win0_12.index t = ![t.val / 4, t.val % 4, 0] ∧ win0_13.index t = ![t.val / 4, t.val % 4, 0]
    ∧ win0_14.index t = ![t.val / 4, t.val % 4, 0] ∧ win0_15.index t = ![t.val / 4, t.val % 4, 0]
    ∧ win0_16.index t = ![t.val / 4, t.val % 4, 0] ∧ win0_17.index t = ![t.val / 4, t.val % 4, 0]
    ∧ win0_18.index t = ![t.val / 4, t.val % 4, 0] ∧ win0_19.index t = ![t.val / 4, t.val % 4, 0] :=
  (by decide +kernel : ∀ t : Fin grid0.N, _)

theorem blk0 (t : Fin cfg0.N) (r k : Fin 1024) :
    iblk m c 0 t (ix3 0 r k) = V m c main_arg0 (ix3 (batch t) ⟨(blk t).val * 1024 + r.val, by omega⟩ k) := by
  blk_ext [iblk, index_facts t] <;> rfl
theorem blk1 (t : Fin cfg0.N) (k : Fin 1024) : iblk m c 1 t (ix3 0 0 k) = V m c main_v3 (ix3 (batch t) 0 k) := by
  blk_ext [iblk, index_facts t] <;> rfl
theorem blk2 (t : Fin cfg0.N) (k : Fin 1024) : iblk m c 2 t (ix3 0 0 k) = V m c main_v4 (ix3 (batch t) 0 k) := by
  blk_ext [iblk, index_facts t] <;> rfl
theorem blk3 (t : Fin cfg0.N) (k : Fin 1024) : iblk m c 3 t (ix2 0 k) = V m c main_v44 (ix2 0 k) := by
  blk_ext [iblk, index_facts t] <;> rfl
theorem blk4 (t : Fin cfg0.N) (r : Fin 1024) :
    iblk m c 4 t (ix3 0 r 0) = V m c main_v43 (ix3 (batch t) ⟨(blk t).val * 1024 + r.val, by omega⟩ 0) := by
  blk_ext [iblk, index_facts t] <;> rfl
theorem blk5 (t : Fin cfg0.N) (l : Fin 128) : iblk m c 5 t (ix2 0 l) = V m c main_v33 (ix2 0 l) := by
  blk_ext [iblk, index_facts t] <;> rfl
theorem blk6 (t : Fin cfg0.N) (l : Fin 128) : iblk m c 6 t (ix2 0 l) = V m c main_v42 (ix2 0 l) := by
  blk_ext [iblk, index_facts t] <;> rfl
theorem blk7 (t : Fin cfg0.N) (k : Fin 1024) (n : Fin 3968) : iblk m c 7 t (ix2 k n) = V m c main_v11 (ix2 k n) := by
  blk_ext [iblk, index_facts t] <;> rfl

/-- The five arguments as the run starts with them. -/
def args : Args where
  x b s k := (m ((c.tc : Thread nD τ).loc main_arg0) : FVec Ideal S8x4096x1024 .f32) (ix3 b s k)
  pos b s := (m ((c.tc : Thread nD τ).loc main_arg1) : IVec S8x4096 32) (ix2 b s)
  mod b k := (m ((c.tc : Thread nD τ).loc main_arg2) : FVec Ideal S8x3072 .f32) (ix2 b k)
  g k := (m ((c.tc : Thread nD τ).loc main_arg3) : FVec Ideal S1024 .f32) (ix1 k)
  w k n := (m ((c.tc : Thread nD τ).loc main_arg4) : FVec Ideal S1024x3864 .f32) (ix2 k n)

/-- What a grid point finds in its blocks. -/
theorem holds (t : Fin cfg0.N) : Holds (args m c) (batch t) (blk t) (iblk m c 0 t) (iblk m c 1 t) (iblk m c 2 t) (iblk m c 3 t) (iblk m c 4 t) (iblk m c 5 t) (iblk m c 6 t) (iblk m c 7 t) where
  x r k := by rw [blk0, V_main_arg0]; rfl
  shift k := by rw [blk1, Tables.V_shift, Tables.shift_apply]; rfl
  scale k := by rw [blk2, Tables.V_scale, Tables.scale_apply]; rfl
  gain k := by rw [blk3, Tables.V_gain, Tables.gain_apply]; rfl
  pos r := by rw [blk4, Tables.V_pos, Tables.pos_apply]; rfl
  ret l := by rw [blk5, Tables.V_ret, Tables.retRow_apply, show l.val % 64 % 32 = l.val % 32 by omega]
  nsa l := by rw [blk6, Tables.V_nsa, Tables.nsaRow_apply, show l.val % 64 % 8 = l.val % 8 by omega]
  w k n := by rw [blk7, Tables.V_weights, Tables.weights_apply]; rfl

/-! ### The twelve arrays -/

def rqArray : FVec Ideal S8x4096x512 .bf16 := fun x => rq (args m c) (x 0) (x 1) (x 2).val

theorem rq_outs (t : Fin cfg0.N) : (outsAt0 m c t).1
    = (fun y => rqArray m c (ix3 (batch t) (tok (blk t) (y 1)) (y 2)) : Vec Ideal S1x1024x512 .bf16) := by
  dsimp only [outsAt0]
  exact rq_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (coords t) (holds m c t)

theorem rq_final : (dats m 0 c).arrAt 8 cfg0.N = rqArray m c := by
  refine (dats m 0 c).arrAt_eq_of_covers 8 _ (by decide +kernel) fun t hf y => ?_
  rw [after0_8, rq_outs]
  blk_ext [index_facts t] <;> rfl

def rkArray : FVec Ideal S8x4096x512 .bf16 := fun x => rk (args m c) (x 0) (x 1) (x 2).val

theorem rk_outs (t : Fin cfg0.N) : (outsAt0 m c t).2.1
    = (fun y => rkArray m c (ix3 (batch t) (tok (blk t) (y 1)) (y 2)) : Vec Ideal S1x1024x512 .bf16) := by
  dsimp only [outsAt0]
  exact rk_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (coords t) (holds m c t)

theorem rk_final : (dats m 0 c).arrAt 9 cfg0.N = rkArray m c := by
  refine (dats m 0 c).arrAt_eq_of_covers 9 _ (by decide +kernel) fun t hf y => ?_
  rw [after0_9, rk_outs]
  blk_ext [index_facts t] <;> rfl

def rvArray : FVec Ideal S8x4096x512 .bf16 := fun x => rv (args m c) (x 0) (x 1) (x 2).val

theorem rv_outs (t : Fin cfg0.N) : (outsAt0 m c t).2.2.1
    = (fun y => rvArray m c (ix3 (batch t) (tok (blk t) (y 1)) (y 2)) : Vec Ideal S1x1024x512 .bf16) := by
  dsimp only [outsAt0]
  exact rv_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (coords t) (holds m c t)

theorem rv_final : (dats m 0 c).arrAt 10 cfg0.N = rvArray m c := by
  refine (dats m 0 c).arrAt_eq_of_covers 10 _ (by decide +kernel) fun t hf y => ?_
  rw [after0_10, rv_outs]
  blk_ext [index_facts t] <;> rfl

def rgArray : FVec Ideal S8x4096x512 .bf16 := fun x => rg (args m c) (x 0) (x 1) (x 2).val

theorem rg_outs (t : Fin cfg0.N) : (outsAt0 m c t).2.2.2.1
    = (fun y => rgArray m c (ix3 (batch t) (tok (blk t) (y 1)) (y 2)) : Vec Ideal S1x1024x512 .bf16) := by
  dsimp only [outsAt0]
  exact rg_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (coords t) (holds m c t)

theorem rg_final : (dats m 0 c).arrAt 11 cfg0.N = rgArray m c := by
  refine (dats m 0 c).arrAt_eq_of_covers 11 _ (by decide +kernel) fun t hf y => ?_
  rw [after0_11, rg_outs]
  blk_ext [index_facts t] <;> rfl

def nqArray : FVec Ideal S8x4096x512 .bf16 := fun x => nq (args m c) (x 0) (x 1) (x 2).val

theorem nq_outs (t : Fin cfg0.N) : (outsAt0 m c t).2.2.2.2.1
    = (fun y => nqArray m c (ix3 (batch t) (tok (blk t) (y 1)) (y 2)) : Vec Ideal S1x1024x512 .bf16) := by
  dsimp only [outsAt0]
  exact nq_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (coords t) (holds m c t)

theorem nq_final : (dats m 0 c).arrAt 12 cfg0.N = nqArray m c := by
  refine (dats m 0 c).arrAt_eq_of_covers 12 _ (by decide +kernel) fun t hf y => ?_
  rw [after0_12, nq_outs]
  blk_ext [index_facts t] <;> rfl

def cmpArray : FVec Ideal S8x4096x512 .f32 := fun x => Projection.cmp (args m c) (x 0) (x 1) (x 2).val

theorem cmp_outs (t : Fin cfg0.N) : (outsAt0 m c t).2.2.2.2.2.1
    = (fun y => cmpArray m c (ix3 (batch t) (tok (blk t) (y 1)) (y 2)) : Vec Ideal S1x1024x512 .f32) := by
  dsimp only [outsAt0]
  exact cmp_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (coords t) (holds m c t)

theorem cmp_final : (dats m 0 c).arrAt 13 cfg0.N = cmpArray m c := by
  refine (dats m 0 c).arrAt_eq_of_covers 13 _ (by decide +kernel) fun t hf y => ?_
  rw [after0_13, cmp_outs]
  blk_ext [index_facts t] <;> rfl

def ksArray : FVec Ideal S8x4096x256 .bf16 := fun x => ks (args m c) (x 0) (x 1) (x 2).val

theorem ks_outs (t : Fin cfg0.N) : (outsAt0 m c t).2.2.2.2.2.2.1
    = (fun y => ksArray m c (ix3 (batch t) (tok (blk t) (y 1)) (y 2)) : Vec Ideal S1x1024x256 .bf16) := by
  dsimp only [outsAt0]
  exact ks_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (coords t) (holds m c t)

theorem ks_final : (dats m 0 c).arrAt 14 cfg0.N = ksArray m c := by
  refine (dats m 0 c).arrAt_eq_of_covers 14 _ (by decide +kernel) fun t hf y => ?_
  rw [after0_14, ks_outs]
  blk_ext [index_facts t] <;> rfl

def vsArray : FVec Ideal S8x4096x256 .bf16 := fun x => vs (args m c) (x 0) (x 1) (x 2).val

theorem vs_outs (t : Fin cfg0.N) : (outsAt0 m c t).2.2.2.2.2.2.2.1
    = (fun y => vsArray m c (ix3 (batch t) (tok (blk t) (y 1)) (y 2)) : Vec Ideal S1x1024x256 .bf16) := by
  dsimp only [outsAt0]
  exact vs_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (coords t) (holds m c t)

theorem vs_final : (dats m 0 c).arrAt 15 cfg0.N = vsArray m c := by
  refine (dats m 0 c).arrAt_eq_of_covers 15 _ (by decide +kernel) fun t hf y => ?_
  rw [after0_15, vs_outs]
  blk_ext [index_facts t] <;> rfl

def kwArray : FVec Ideal S8x4096x256 .bf16 := fun x => kw (args m c) (x 0) (x 1) (x 2).val

theorem kw_outs (t : Fin cfg0.N) : (outsAt0 m c t).2.2.2.2.2.2.2.2.1
    = (fun y => kwArray m c (ix3 (batch t) (tok (blk t) (y 1)) (y 2)) : Vec Ideal S1x1024x256 .bf16) := by
  dsimp only [outsAt0]
  exact kw_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (coords t) (holds m c t)

theorem kw_final : (dats m 0 c).arrAt 16 cfg0.N = kwArray m c := by
  refine (dats m 0 c).arrAt_eq_of_covers 16 _ (by decide +kernel) fun t hf y => ?_
  rw [after0_16, kw_outs]
  blk_ext [index_facts t] <;> rfl

def vwArray : FVec Ideal S8x4096x256 .bf16 := fun x => vw (args m c) (x 0) (x 1) (x 2).val

theorem vw_outs (t : Fin cfg0.N) : (outsAt0 m c t).2.2.2.2.2.2.2.2.2.1
    = (fun y => vwArray m c (ix3 (batch t) (tok (blk t) (y 1)) (y 2)) : Vec Ideal S1x1024x256 .bf16) := by
  dsimp only [outsAt0]
  exact vw_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (coords t) (holds m c t)

theorem vw_final : (dats m 0 c).arrAt 17 cfg0.N = vwArray m c := by
  refine (dats m 0 c).arrAt_eq_of_covers 17 _ (by decide +kernel) fun t hf y => ?_
  rw [after0_17, vw_outs]
  blk_ext [index_facts t] <;> rfl

def ngArray : FVec Ideal S8x4096x512 .bf16 := fun x => ng (args m c) (x 0) (x 1) (x 2).val

theorem ng_outs (t : Fin cfg0.N) : (outsAt0 m c t).2.2.2.2.2.2.2.2.2.2.1
    = (fun y => ngArray m c (ix3 (batch t) (tok (blk t) (y 1)) (y 2)) : Vec Ideal S1x1024x512 .bf16) := by
  dsimp only [outsAt0]
  exact ng_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (coords t) (holds m c t)

theorem ng_final : (dats m 0 c).arrAt 18 cfg0.N = ngArray m c := by
  refine (dats m 0 c).arrAt_eq_of_covers 18 _ (by decide +kernel) fun t hf y => ?_
  rw [after0_18, ng_outs]
  blk_ext [index_facts t] <;> rfl

def glArray : FVec Ideal S8x4096x128 .f32 := fun x => gl (args m c) (x 0) (x 1) (x 2).val

theorem gl_outs (t : Fin cfg0.N) : (outsAt0 m c t).2.2.2.2.2.2.2.2.2.2.2
    = (fun y => glArray m c (ix3 (batch t) (tok (blk t) (y 1)) (y 2)) : Vec Ideal S1x1024x128 .f32) := by
  dsimp only [outsAt0]
  exact gl_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (coords t) (holds m c t)

theorem gl_final : (dats m 0 c).arrAt 19 cfg0.N = glArray m c := by
  refine (dats m 0 c).arrAt_eq_of_covers 19 _ (by decide +kernel) fun t hf y => ?_
  rw [after0_19, gl_outs]
  blk_ext [index_facts t] <;> rfl

end Cert.Kernel2Ideal.Final

end
-- ==== Proof.Projection.RefTerm.lean ====
/- The reference's twelve arrays, as terms of its arguments. -/
module

public import proofs.«01_k».proof.Proof.Projection.Spec
public import proofs.«01_k».proof.Proof.Gen.Reference2Ideal.Run

@[expose] public section

set_option maxRecDepth 16384

noncomputable section

namespace Cert.Reference2Ideal.Point

open Idealize.ShloMosaic Idealize.ShloMosaic.TcCoe Idealize.SL.Sem Cert.Reference2Ideal Cert.Reference2Ideal.Gen Cert.Reference2Ideal.Value
open Idealize.ShloMosaic.StableHlo
open Cert.Projection

/-- The arguments as the run starts with them. -/
def args (V : Valuation τ sig (Elt Ideal)) : Args where
  x b s k := V (Proc.devRef .tc main_arg0) (ix3 b s k)
  pos b s := V (Proc.devRef .tc main_arg1) (ix2 b s)
  mod b k := V (Proc.devRef .tc main_arg2) (ix2 b k)
  g k := V (Proc.devRef .tc main_arg3) (ix1 k)
  w k n := V (Proc.devRef .tc main_arg4) (ix2 k n)

variable (V : Valuation τ sig (Elt Ideal))

/-- The projection. -/
def P : FVec Ideal S8x4096x3864 .f32 := res_main_v24 V

theorem P_apply (b : Fin 8) (s : Fin 4096) (n : Fin 3864) : P V (ix3 b s n) = proj (args V) b s n := by
  pointwise [P, res_main_v24]
  unfold proj
  refine Finset.sum_congr rfl fun k _ => ?_
  rw [col_of_lt _ n.isLt]
  rfl

/-- The angles of the retention's rotation, and of the attention's. -/
def retAngle : FVec Ideal S8x4096x32 .f32 := res_main_v45 V
def nsaAngle : FVec Ideal S8x4096x8 .f32 := res_main_v116 V

theorem retAngle_apply (b : Fin 8) (s : Fin 4096) (i : Fin 32) : retAngle V (ix3 b s i) = place (args V) b s * retRate i := by
  pointwise [retAngle, res_main_v45]
  rfl

theorem nsaAngle_apply (b : Fin 8) (s : Fin 4096) (i : Fin 8) : nsaAngle V (ix3 b s i) = place (args V) b s * nsaRate i := by
  pointwise [nsaAngle, res_main_v116]
  rfl

/-- The retention's rotation of heads. -/
def retTurned (a : FVec Ideal S8x4096x32 .f32) (z : FVec Ideal S8x4096x8x64 .f32) : FVec Ideal S8x4096x8x64 .f32 :=
  let z1 := extractStridedSlice S8x4096x8x32 ![0, 0, 0, 0] z slices_S8x4096x8x64_S8x4096x8x32_0_0_0_0
  let z2 := extractStridedSlice S8x4096x8x32 ![0, 0, 0, 32] z slices_S8x4096x8x64_S8x4096x8x32_0_0_0_32
  let co := broadcastInDim S8x4096x8x32 ![0, 1, 2, 3] bcast_S8x4096x1x32_S8x4096x8x32_0_1_2_3
    (broadcastInDim S8x4096x1x32 ![0, 1, 3] bcast_S8x4096x32_S8x4096x1x32_0_1_3 (Host.cos a))
  let si := broadcastInDim S8x4096x8x32 ![0, 1, 2, 3] bcast_S8x4096x1x32_S8x4096x8x32_0_1_2_3
    (broadcastInDim S8x4096x1x32 ![0, 1, 3] bcast_S8x4096x32_S8x4096x1x32_0_1_3 (Host.sin a))
  concatenate S8x4096x8x64 3 [⟨S8x4096x8x32, subf (mulf z1 co) (mulf z2 si)⟩, ⟨S8x4096x8x32, addf (mulf z1 si) (mulf z2 co)⟩,
    ⟨S8x4096x8x0, extractStridedSlice S8x4096x8x0 ![0, 0, 0, 64] z slices_S8x4096x8x64_S8x4096x8x0_0_0_0_64⟩]
    concatenates_S8x4096x8x32_S8x4096x8x32_S8x4096x8x0_S8x4096x8x64_d3

/-- The attention's rotation of its queries' heads. -/
def nsaTurned (a : FVec Ideal S8x4096x8 .f32) (z : FVec Ideal S8x4096x8x64 .f32) : FVec Ideal S8x4096x8x64 .f32 :=
  let z1 := extractStridedSlice S8x4096x8x8 ![0, 0, 0, 0] z slices_S8x4096x8x64_S8x4096x8x8_0_0_0_0
  let z2 := extractStridedSlice S8x4096x8x8 ![0, 0, 0, 8] z slices_S8x4096x8x64_S8x4096x8x8_0_0_0_8
  let co := broadcastInDim S8x4096x8x8 ![0, 1, 2, 3] bcast_S8x4096x1x8_S8x4096x8x8_0_1_2_3
    (broadcastInDim S8x4096x1x8 ![0, 1, 3] bcast_S8x4096x8_S8x4096x1x8_0_1_3 (Host.cos a))
  let si := broadcastInDim S8x4096x8x8 ![0, 1, 2, 3] bcast_S8x4096x1x8_S8x4096x8x8_0_1_2_3
    (broadcastInDim S8x4096x1x8 ![0, 1, 3] bcast_S8x4096x8_S8x4096x1x8_0_1_3 (Host.sin a))
  concatenate S8x4096x8x64 3 [⟨S8x4096x8x8, subf (mulf z1 co) (mulf z2 si)⟩, ⟨S8x4096x8x8, addf (mulf z1 si) (mulf z2 co)⟩,
    ⟨S8x4096x8x48, extractStridedSlice S8x4096x8x48 ![0, 0, 0, 16] z slices_S8x4096x8x64_S8x4096x8x48_0_0_0_16⟩]
    concatenates_S8x4096x8x8_S8x4096x8x8_S8x4096x8x48_S8x4096x8x64_d3

/-- The attention's rotation of the groups of its keys. -/
def keyTurned (a : FVec Ideal S8x4096x8 .f32) (z : FVec Ideal S8x4096x2x64 .f32) : FVec Ideal S8x4096x2x64 .f32 :=
  let z1 := extractStridedSlice S8x4096x2x8 ![0, 0, 0, 0] z slices_S8x4096x2x64_S8x4096x2x8_0_0_0_0
  let z2 := extractStridedSlice S8x4096x2x8 ![0, 0, 0, 8] z slices_S8x4096x2x64_S8x4096x2x8_0_0_0_8
  let co := broadcastInDim S8x4096x2x8 ![0, 1, 2, 3] bcast_S8x4096x1x8_S8x4096x2x8_0_1_2_3
    (broadcastInDim S8x4096x1x8 ![0, 1, 3] bcast_S8x4096x8_S8x4096x1x8_0_1_3 (Host.cos a))
  let si := broadcastInDim S8x4096x2x8 ![0, 1, 2, 3] bcast_S8x4096x1x8_S8x4096x2x8_0_1_2_3
    (broadcastInDim S8x4096x1x8 ![0, 1, 3] bcast_S8x4096x8_S8x4096x1x8_0_1_3 (Host.sin a))
  concatenate S8x4096x2x64 3 [⟨S8x4096x2x8, subf (mulf z1 co) (mulf z2 si)⟩, ⟨S8x4096x2x8, addf (mulf z1 si) (mulf z2 co)⟩,
    ⟨S8x4096x2x48, extractStridedSlice S8x4096x2x48 ![0, 0, 0, 16] z slices_S8x4096x2x64_S8x4096x2x48_0_0_0_16⟩]
    concatenates_S8x4096x2x8_S8x4096x2x8_S8x4096x2x48_S8x4096x2x64_d3

theorem retTurned_apply (a : FVec Ideal S8x4096x32 .f32) (z : FVec Ideal S8x4096x8x64 .f32) (ang f : ℕ → EReal) (b : Fin 8) (s : Fin 4096) (h : Fin 8)
    (ha : ∀ i : Fin 32, a (ix3 b s i) = ang i) (hz : ∀ d : Fin 64, z (ix4 b s h d) = f d) (d : Fin 64) :
    retTurned a z (ix4 b s h d) = turn 32 ang f d := by
  pointwise [retTurned]
  simp only [ha, hz, turn]
  by_cases h1 : d.val < 32
  · rw [dif_pos h1, if_pos h1, Nat.add_comm]
  · rw [dif_neg h1, if_neg h1]
    by_cases h2 : d.val - 32 < 32
    · rw [dif_pos h2, if_pos (by omega), show 32 + (d.val - 32) = d.val by omega]
    · rw [dif_neg h2, if_neg (by omega)]
      exact congrArg f (by omega)

theorem nsaTurned_apply (a : FVec Ideal S8x4096x8 .f32) (z : FVec Ideal S8x4096x8x64 .f32) (ang f : ℕ → EReal) (b : Fin 8) (s : Fin 4096) (h : Fin 8)
    (ha : ∀ i : Fin 8, a (ix3 b s i) = ang i) (hz : ∀ d : Fin 64, z (ix4 b s h d) = f d) (d : Fin 64) :
    nsaTurned a z (ix4 b s h d) = turn 8 ang f d := by
  pointwise [nsaTurned]
  simp only [ha, hz, turn]
  by_cases h1 : d.val < 8
  · rw [dif_pos h1, if_pos h1, Nat.add_comm]
  · rw [dif_neg h1, if_neg h1]
    by_cases h2 : d.val - 8 < 8
    · rw [dif_pos h2, if_pos (by omega), show 8 + (d.val - 8) = d.val by omega]
    · rw [dif_neg h2, if_neg (by omega)]
      exact congrArg f (by omega)

theorem keyTurned_apply (a : FVec Ideal S8x4096x8 .f32) (z : FVec Ideal S8x4096x2x64 .f32) (ang f : ℕ → EReal) (b : Fin 8) (s : Fin 4096) (h : Fin 2)
    (ha : ∀ i : Fin 8, a (ix3 b s i) = ang i) (hz : ∀ d : Fin 64, z (ix4 b s h d) = f d) (d : Fin 64) :
    keyTurned a z (ix4 b s h d) = turn 8 ang f d := by
  pointwise [keyTurned]
  simp only [ha, hz, turn]
  by_cases h1 : d.val < 8
  · rw [dif_pos h1, if_pos h1, Nat.add_comm]
  · rw [dif_neg h1, if_neg h1]
    by_cases h2 : d.val - 8 < 8
    · rw [dif_pos h2, if_pos (by omega), show 8 + (d.val - 8) = d.val by omega]
    · rw [dif_neg h2, if_neg (by omega)]
      exact congrArg f (by omega)

/-! ### The twelve arrays -/

/-- The heads of 64 columns from `0`, `512` and `2048`, and the groups of the third and fifth of the six arrays from `2560`. -/
def headsRq : FVec Ideal S8x4096x8x64 .f32 := res_main_v33 V
def headsRk : FVec Ideal S8x4096x8x64 .f32 := res_main_v68 V
def headsNq : FVec Ideal S8x4096x8x64 .f32 := res_main_v104 V
def groups : FVec Ideal S8x4096x6x2x64 .f32 := res_main_v143 V
def groupsC : FVec Ideal S8x4096x2x64 .f32 := res_main_v145 V
def groupsD : FVec Ideal S8x4096x2x64 .f32 := res_main_v147 V
def groupsKs : FVec Ideal S8x4096x2x64 .f32 := res_main_v149 V
def groupsKw : FVec Ideal S8x4096x2x64 .f32 := res_main_v153 V
def ones : FVec Ideal S8x4096x2x64 .f32 := broadcastInDim S8x4096x2x64 ![] bcast_S_S8x4096x2x64 (constant S_ .f32 0x3F800000#32)

/-- A token's block. -/
def blocks : IVec S4096 32 :=
  select (andi (cmpi .ne (signi (iotaInDim S4096 32 0)) (broadcastInDim S4096 ![] bcast_S_S4096 (signi (constantI S_ 32 64#32))))
      (cmpi .ne (Host.remsi (iotaInDim S4096 32 0) (broadcastInDim S4096 ![] bcast_S_S4096 (constantI S_ 32 64#32)))
        (broadcastInDim S4096 ![] bcast_S_S4096 (constantI S_ 32 0#32))))
    (subi (Host.divsi (iotaInDim S4096 32 0) (broadcastInDim S4096 ![] bcast_S_S4096 (constantI S_ 32 64#32)))
      (broadcastInDim S4096 ![] bcast_S_S4096 (constantI S_ 32 1#32)))
    (Host.divsi (iotaInDim S4096 32 0) (broadcastInDim S4096 ![] bcast_S_S4096 (constantI S_ 32 64#32)))

def marks : FVec Ideal S8x4096x2x64 .f32 :=
  broadcastInDim S8x4096x2x64 ![0, 1, 2, 3] bcast_S1x4096x1x64_S8x4096x2x64_0_1_2_3 (broadcastInDim S1x4096x1x64 ![1, 3] bcast_S4096x64_S1x4096x1x64_1_3
    (uitofp .f32 (cmpi .eq (broadcastInDim S4096x64 ![0, 1] bcast_S4096x1_S4096x64_0_1 (broadcastInDim S4096x1 ![0] bcast_S4096_S4096x1_0 blocks))
      (broadcastInDim S4096x64 ![0, 1] bcast_S1x64_S4096x64_0_1 (iotaInDim S1x64 32 1)))))

/-- Pairs of groups side by side. -/
def paired (x y : FVec Ideal S8x4096x2x64 .f32) : FVec Ideal S8x4096x256 .f32 :=
  shapeCast S8x4096x256 (concatenate S8x4096x2x128 3 [⟨S8x4096x2x64, x⟩, ⟨S8x4096x2x64, y⟩] concatenates_S8x4096x2x64_S8x4096x2x64_S8x4096x2x128_d3)
    shapeCasts_S8x4096x2x128_S8x4096x256

def siluOf (z : FVec Ideal S8x4096x512 .f32) : FVec Ideal S8x4096x512 .bf16 :=
  truncf .bf16 (mulf z (Host.divf (broadcastInDim S8x4096x512 ![] bcast_S_S8x4096x512 (constant S_ .f32 0x3F800000#32))
    (addf (broadcastInDim S8x4096x512 ![] bcast_S_S8x4096x512 (constant S_ .f32 0x3F800000#32)) (Host.exp (Host.negf z))))) bitsLt_bf16_f32

def oRq : FVec Ideal S8x4096x512 .bf16 := truncf .bf16 (shapeCast S8x4096x512 (mulf (retTurned (retAngle V) (headsRq V))
  (broadcastInDim S8x4096x8x64 ![] bcast_S_S8x4096x8x64 (constant S_ .f32 0x3E000000#32))) shapeCasts_S8x4096x8x64_S8x4096x512) bitsLt_bf16_f32
def oRk : FVec Ideal S8x4096x512 .bf16 := truncf .bf16 (shapeCast S8x4096x512 (retTurned (retAngle V) (headsRk V)) shapeCasts_S8x4096x8x64_S8x4096x512) bitsLt_bf16_f32
def oRv : FVec Ideal S8x4096x512 .bf16 := truncf .bf16 (extractStridedSlice S8x4096x512 ![0, 0, 1024] (P V) slices_S8x4096x3864_S8x4096x512_0_0_1024) bitsLt_bf16_f32
def oRg : FVec Ideal S8x4096x512 .bf16 := siluOf (extractStridedSlice S8x4096x512 ![0, 0, 1536] (P V) slices_S8x4096x3864_S8x4096x512_0_0_1536)
def oNq : FVec Ideal S8x4096x512 .bf16 := truncf .bf16 (shapeCast S8x4096x512 (Host.divf (mulf (nsaTurned (nsaAngle V) (headsNq V))
  (broadcastInDim S8x4096x8x64 ![] bcast_S_S8x4096x8x64 (constant S_ .f32 0x3E000000#32)))
  (broadcastInDim S8x4096x8x64 ![] bcast_S_S8x4096x8x64 (id (Host.log (constant S_ .f32 0x40000000#32))))) shapeCasts_S8x4096x8x64_S8x4096x512) bitsLt_bf16_f32
def oCmp : FVec Ideal S8x4096x512 .f32 := concatenate S8x4096x512 2 [⟨S8x4096x256, paired (groupsC V) (groupsC V)⟩, ⟨S8x4096x256, paired (groupsD V) (groupsD V)⟩]
  concatenates_S8x4096x256_S8x4096x256_S8x4096x512_d2
def oKs : FVec Ideal S8x4096x256 .bf16 := truncf .bf16 (paired (keyTurned (nsaAngle V) (groupsKs V)) marks) bitsLt_bf16_f32
def oVs : FVec Ideal S8x4096x256 .bf16 := truncf .bf16 (paired (shapeCast S8x4096x2x64 (extractStridedSlice S8x4096x1x2x64 ![0, 0, 3, 0, 0] (groups V)
  slices_S8x4096x6x2x64_S8x4096x1x2x64_0_0_3_0_0) shapeCasts_S8x4096x1x2x64_S8x4096x2x64) ones) bitsLt_bf16_f32
def oKw : FVec Ideal S8x4096x256 .bf16 := truncf .bf16 (paired (keyTurned (nsaAngle V) (groupsKw V)) (keyTurned (nsaAngle V) (groupsKw V))) bitsLt_bf16_f32
def oVw : FVec Ideal S8x4096x256 .bf16 := truncf .bf16 (paired (shapeCast S8x4096x2x64 (extractStridedSlice S8x4096x1x2x64 ![0, 0, 5, 0, 0] (groups V)
  slices_S8x4096x6x2x64_S8x4096x1x2x64_0_0_5_0_0) shapeCasts_S8x4096x1x2x64_S8x4096x2x64) ones) bitsLt_bf16_f32
def oNg : FVec Ideal S8x4096x512 .bf16 := siluOf (extractStridedSlice S8x4096x512 ![0, 0, 3352] (P V) slices_S8x4096x3864_S8x4096x512_0_0_3352)
def oGl : FVec Ideal S8x4096x128 .f32 := Host.divf (broadcastInDim S8x4096x128 ![] bcast_S_S8x4096x128 (constant S_ .f32 0x3F800000#32))
  (addf (broadcastInDim S8x4096x128 ![] bcast_S_S8x4096x128 (constant S_ .f32 0x3F800000#32)) (Host.exp (Host.negf (pad S8x4096x128 ![0, 0, 0] ![0, 0, 104] ![0, 0, 0]
    (extractStridedSlice S8x4096x24 ![0, 0, 3328] (P V) slices_S8x4096x3864_S8x4096x24_0_0_3328) (sitofp .f32 (constantI S_ 32 0#32))
    pads_S8x4096x24_S8x4096x128_000_000_01040 h_S_))))

/-- The reference's run, of its arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = oRq (launchContents m c)
      ∧ r.2.mem ((c.tc : Thread nD τ).loc main_v100) = oRk (launchContents m c)
      ∧ r.2.mem ((c.tc : Thread nD τ).loc main_v101) = oRv (launchContents m c)
      ∧ r.2.mem ((c.tc : Thread nD τ).loc main_v103) = oRg (launchContents m c)
      ∧ r.2.mem ((c.tc : Thread nD τ).loc main_v142) = oNq (launchContents m c)
      ∧ r.2.mem ((c.tc : Thread nD τ).loc main_v226) = oCmp (launchContents m c)
      ∧ r.2.mem ((c.tc : Thread nD τ).loc main_v229) = oKs (launchContents m c)
      ∧ r.2.mem ((c.tc : Thread nD τ).loc main_v232) = oVs (launchContents m c)
      ∧ r.2.mem ((c.tc : Thread nD τ).loc main_v235) = oKw (launchContents m c)
      ∧ r.2.mem ((c.tc : Thread nD τ).loc main_v238) = oVw (launchContents m c)
      ∧ r.2.mem ((c.tc : Thread nD τ).loc main_v240) = oNg (launchContents m c)
      ∧ r.2.mem ((c.tc : Thread nD τ).loc main_v247) = oGl (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h1, h2, h3, h4, h5, h6, h7, h8, h9, h10, h11, h12, hk⟩ := h c
  exact ⟨h1, h2, h3, h4, h5, h6, h7, h8, h9, h10, h11, h12, hk⟩

end Cert.Reference2Ideal.Point
-- ==== Proof.Projection.RefPoint.lean ====
/- The reference's twelve arrays over the extended reals, at an index. -/
module

public import proofs.«01_k».proof.Proof.Projection.RefTerm

@[expose] public section

set_option maxRecDepth 16384

noncomputable section

namespace Cert.Reference2Ideal.Point

open Idealize.ShloMosaic Idealize.ShloMosaic.TcCoe Idealize.SL.Sem Cert.Reference2Ideal Cert.Reference2Ideal.Gen Cert.Reference2Ideal.Value
open Idealize.ShloMosaic.StableHlo
open Cert.Projection

variable (V : Valuation τ sig (Elt Ideal))
variable (b : Fin 8) (s : Fin 4096)

theorem headsRq_apply (h : Fin 8) (d : Fin 64) : headsRq V (ix4 b s h d) = proj (args V) b s (h.val * 64 + d.val) := by
  show (shapeCast S8x4096x8x64 (extractStridedSlice S8x4096x512 ![0, 0, 0] (P V) slices_S8x4096x3864_S8x4096x512_0_0_0) shapeCasts_S8x4096x512_S8x4096x8x64 (ix4 b s h d) : EReal) = _
  pointwise []
  rw [P_apply]
theorem headsRk_apply (h : Fin 8) (d : Fin 64) : headsRk V (ix4 b s h d) = proj (args V) b s (512 + (h.val * 64 + d.val)) := by
  show (shapeCast S8x4096x8x64 (extractStridedSlice S8x4096x512 ![0, 0, 512] (P V) slices_S8x4096x3864_S8x4096x512_0_0_512) shapeCasts_S8x4096x512_S8x4096x8x64 (ix4 b s h d) : EReal) = _
  pointwise []
  rw [P_apply]
theorem headsNq_apply (h : Fin 8) (d : Fin 64) : headsNq V (ix4 b s h d) = proj (args V) b s (2048 + (h.val * 64 + d.val)) := by
  show (shapeCast S8x4096x8x64 (extractStridedSlice S8x4096x512 ![0, 0, 2048] (P V) slices_S8x4096x3864_S8x4096x512_0_0_2048) shapeCasts_S8x4096x512_S8x4096x8x64 (ix4 b s h d) : EReal) = _
  pointwise []
  rw [P_apply]
theorem groups_apply (e : Fin 6) (h : Fin 2) (d : Fin 64) : groups V (ix5 b s e h d) = proj (args V) b s (2560 + (e.val * 128 + h.val * 64 + d.val)) := by
  show (shapeCast S8x4096x6x2x64 (extractStridedSlice S8x4096x768 ![0, 0, 2560] (P V) slices_S8x4096x3864_S8x4096x768_0_0_2560) shapeCasts_S8x4096x768_S8x4096x6x2x64 (ix5 b s e h d) : EReal) = _
  pointwise []
  rw [P_apply]
theorem groupsC_apply (h : Fin 2) (d : Fin 64) : groupsC V (ix4 b s h d) = proj (args V) b s (2560 + h.val * 64 + d.val) := by
  show (shapeCast S8x4096x2x64 (extractStridedSlice S8x4096x1x2x64 ![0, 0, 0, 0, 0] (groups V) slices_S8x4096x6x2x64_S8x4096x1x2x64_0_0_0_0_0)
    shapeCasts_S8x4096x1x2x64_S8x4096x2x64 (ix4 b s h d) : EReal) = _
  pointwise []
  rw [groups_apply]
  exact congrArg (proj (args V) b s) (by omega)
theorem groupsD_apply (h : Fin 2) (d : Fin 64) : groupsD V (ix4 b s h d) = proj (args V) b s (2688 + h.val * 64 + d.val) := by
  show (shapeCast S8x4096x2x64 (extractStridedSlice S8x4096x1x2x64 ![0, 0, 1, 0, 0] (groups V) slices_S8x4096x6x2x64_S8x4096x1x2x64_0_0_1_0_0)
    shapeCasts_S8x4096x1x2x64_S8x4096x2x64 (ix4 b s h d) : EReal) = _
  pointwise []
  rw [groups_apply]
  exact congrArg (proj (args V) b s) (by omega)
theorem groupsKs_apply (h : Fin 2) (d : Fin 64) : groupsKs V (ix4 b s h d) = proj (args V) b s (2816 + h.val * 64 + d.val) := by
  show (shapeCast S8x4096x2x64 (extractStridedSlice S8x4096x1x2x64 ![0, 0, 2, 0, 0] (groups V) slices_S8x4096x6x2x64_S8x4096x1x2x64_0_0_2_0_0)
    shapeCasts_S8x4096x1x2x64_S8x4096x2x64 (ix4 b s h d) : EReal) = _
  pointwise []
  rw [groups_apply]
  exact congrArg (proj (args V) b s) (by omega)
theorem groupsKw_apply (h : Fin 2) (d : Fin 64) : groupsKw V (ix4 b s h d) = proj (args V) b s (3072 + h.val * 64 + d.val) := by
  show (shapeCast S8x4096x2x64 (extractStridedSlice S8x4096x1x2x64 ![0, 0, 4, 0, 0] (groups V) slices_S8x4096x6x2x64_S8x4096x1x2x64_0_0_4_0_0)
    shapeCasts_S8x4096x1x2x64_S8x4096x2x64 (ix4 b s h d) : EReal) = _
  pointwise []
  rw [groups_apply]
  exact congrArg (proj (args V) b s) (by omega)
theorem paired_apply (x y : FVec Ideal S8x4096x2x64 .f32) (c : Fin 256) : paired x y (ix3 b s c)
    = if c.val % 128 < 64 then x (ix4 b s ⟨c.val / 128, by omega⟩ ⟨c.val % 64, by omega⟩)
      else y (ix4 b s ⟨c.val / 128, by omega⟩ ⟨c.val % 64, by omega⟩) := by
  pointwise [paired]
  by_cases h : c.val % 128 < 64
  · rw [dif_pos h, if_pos h]
    simp only [show c.val % 128 = c.val % 64 by omega]
  · rw [dif_neg h, if_neg h]
    simp only [show c.val % 128 - 64 = c.val % 64 by omega]

theorem ones_apply (h : Fin 2) (d : Fin 64) : ones (ix4 b s h d) = 1 := by
  pointwise [ones]

/-- The floor of a number's sixty-fourth, as the reference computes it. -/
def floored (n : BitVec 32) : BitVec 32 :=
  Scalar.select (IntOp.andi (IntOp.cmpi .ne (if n = 0 then (0 : BitVec 32) else if n.msb then -1 else 1) (if 64#32 = 0 then (0 : BitVec 32) else if (64#32).msb then -1 else 1))
      (IntOp.cmpi .ne (IntOp.remsi ArithUnit.host n 64#32) 0#32))
    (IntOp.subi (IntOp.divsi ArithUnit.host n 64#32) 1#32) (IntOp.divsi ArithUnit.host n 64#32)

theorem floored_eq (s : Fin 4096) : floored (BitVec.ofNat 32 s.val) = BitVec.ofNat 32 (s.val / 64) := by
  revert s; decide +kernel

theorem blocks_apply (s : Fin 4096) : blocks (ix1 s) = BitVec.ofNat 32 (s.val / 64) := floored_eq s

theorem mark_eq (q d : Fin 64) : IntOp.cmpi .eq (BitVec.ofNat 32 q.val) (BitVec.ofNat 32 d.val) = BitVec.ofBool (decide (q.val = d.val)) := by
  revert q d; decide +kernel

theorem marks_apply (h : Fin 2) (d : Fin 64) : marks (ix4 b s h d) = if s.val / 64 = d.val then 1 else 0 := by
  pointwise [marks]
  rw [blocks_apply, mark_eq ⟨s.val / 64, by omega⟩ d]
  show (((BitVec.ofBool (decide (s.val / 64 = d.val))).toNat : ℝ) : EReal) = _
  by_cases hd : s.val / 64 = d.val
  · rw [if_pos hd, decide_eq_true hd]; simp
  · rw [if_neg hd, decide_eq_false hd]; simp

theorem siluOf_apply (z : FVec Ideal S8x4096x512 .f32) (c : Fin 512) : siluOf z (ix3 b s c) = silu (z (ix3 b s c)) := by
  pointwise [siluOf]
  rfl

theorem truncf_apply {σ : Shape} (x : FVec Ideal σ .f32) (i : σ.Idx) : truncf (F := Ideal) .bf16 x bitsLt_bf16_f32 i = x i := rfl

variable {b s}

theorem oRq_apply (c : Fin 512) : oRq V (ix3 b s c) = rq (args V) b s c := by
  generalize hX : rq (args V) b s c = X
  rw [oRq, truncf_apply]
  pointwise []
  rw [retTurned_apply (retAngle V) (headsRq V) (fun i => place (args V) b s * retRate i) (fun i => proj (args V) b s (c.val / 64 * 64 + i)) b s
    ⟨c.val / 64, by omega⟩ (retAngle_apply V b s) (fun d => headsRq_apply V b s ⟨c.val / 64, by omega⟩ d), ← hX, rq, retTurn]
theorem oRk_apply (c : Fin 512) : oRk V (ix3 b s c) = rk (args V) b s c := by
  generalize hX : rk (args V) b s c = X
  rw [oRk, truncf_apply]
  pointwise []
  rw [retTurned_apply (retAngle V) (headsRk V) (fun i => place (args V) b s * retRate i) (fun i => proj (args V) b s (512 + c.val / 64 * 64 + i)) b s
    ⟨c.val / 64, by omega⟩ (retAngle_apply V b s)
    (fun d => (headsRk_apply V b s ⟨c.val / 64, by omega⟩ d).trans (congrArg _ (Nat.add_assoc _ _ _).symm)), ← hX, rk, retTurn]
theorem oRv_apply (c : Fin 512) : oRv V (ix3 b s c) = rv (args V) b s c := by
  generalize hX : rv (args V) b s c = X
  rw [oRv, truncf_apply]
  pointwise []
  rw [P_apply, ← hX, rv]
theorem oRg_apply (c : Fin 512) : oRg V (ix3 b s c) = rg (args V) b s c := by
  rw [oRg, siluOf_apply]
  generalize hX : rg (args V) b s c = X
  pointwise []
  rw [P_apply, ← hX, rg]
theorem oNq_apply (c : Fin 512) : oNq V (ix3 b s c) = nq (args V) b s c := by
  generalize hX : nq (args V) b s c = X
  pointwise [oNq]
  rw [nsaTurned_apply (nsaAngle V) (headsNq V) (fun i => place (args V) b s * nsaRate i) (fun i => proj (args V) b s (2048 + c.val / 64 * 64 + i)) b s
    ⟨c.val / 64, by omega⟩ (nsaAngle_apply V b s)
    (fun d => (headsNq_apply V b s ⟨c.val / 64, by omega⟩ d).trans (congrArg _ (Nat.add_assoc _ _ _).symm)), ← hX, nq, nsaTurn]
  exact scaled _
theorem oCmp_apply (c : Fin 512) : oCmp V (ix3 b s c) = Projection.cmp (args V) b s c := by
  generalize hX : Projection.cmp (args V) b s c = X
  pointwise [oCmp]
  by_cases h : c.val < 256
  · rw [dif_pos h, paired_apply, ite_self, groupsC_apply, ← hX, Projection.cmp]
    exact congrArg _ (by show 2560 + c.val / 128 * 64 + c.val % 64 = _; omega)
  · rw [dif_neg h, paired_apply, ite_self, groupsD_apply, ← hX, Projection.cmp]
    exact congrArg _ (by show 2688 + (c.val - 256) / 128 * 64 + (c.val - 256) % 64 = _; omega)
theorem oKs_apply (c : Fin 256) : oKs V (ix3 b s c) = ks (args V) b s c := by
  generalize hX : ks (args V) b s c = X
  rw [oKs, truncf_apply]
  rw [paired_apply, keyTurned_apply (nsaAngle V) (groupsKs V) (fun i => place (args V) b s * nsaRate i)
    (fun i => proj (args V) b s (2816 + c.val / 128 * 64 + i)) b s ⟨c.val / 128, by omega⟩ (nsaAngle_apply V b s)
    (fun d => groupsKs_apply V b s ⟨c.val / 128, by omega⟩ d), marks_apply, ← hX, ks, nsaTurn]
theorem oKw_apply (c : Fin 256) : oKw V (ix3 b s c) = kw (args V) b s c := by
  generalize hX : kw (args V) b s c = X
  rw [oKw, truncf_apply]
  rw [paired_apply, keyTurned_apply (nsaAngle V) (groupsKw V) (fun i => place (args V) b s * nsaRate i)
    (fun i => proj (args V) b s (3072 + c.val / 128 * 64 + i)) b s ⟨c.val / 128, by omega⟩ (nsaAngle_apply V b s)
    (fun d => groupsKw_apply V b s ⟨c.val / 128, by omega⟩ d), ite_self, ← hX, kw, nsaTurn]
theorem groupsVs_apply (h : Fin 2) (d : Fin 64) : shapeCast S8x4096x2x64 (extractStridedSlice S8x4096x1x2x64 ![0, 0, 3, 0, 0] (groups V)
    slices_S8x4096x6x2x64_S8x4096x1x2x64_0_0_3_0_0) shapeCasts_S8x4096x1x2x64_S8x4096x2x64 (ix4 b s h d)
      = proj (args V) b s (2944 + h.val * 64 + d.val) := by
  pointwise []
  rw [groups_apply]
  exact congrArg (proj (args V) b s) (by omega)
theorem oVs_apply (c : Fin 256) : oVs V (ix3 b s c) = vs (args V) b s c := by
  generalize hX : vs (args V) b s c = X
  rw [oVs, truncf_apply,
    paired_apply, ones_apply, groupsVs_apply, ← hX, vs]
theorem groupsVw_apply (h : Fin 2) (d : Fin 64) : shapeCast S8x4096x2x64 (extractStridedSlice S8x4096x1x2x64 ![0, 0, 5, 0, 0] (groups V)
    slices_S8x4096x6x2x64_S8x4096x1x2x64_0_0_5_0_0) shapeCasts_S8x4096x1x2x64_S8x4096x2x64 (ix4 b s h d)
      = proj (args V) b s (3200 + h.val * 64 + d.val) := by
  pointwise []
  rw [groups_apply]
  exact congrArg (proj (args V) b s) (by omega)
theorem oVw_apply (c : Fin 256) : oVw V (ix3 b s c) = vw (args V) b s c := by
  generalize hX : vw (args V) b s c = X
  rw [oVw, truncf_apply,
    paired_apply, ones_apply, groupsVw_apply, ← hX, vw]
theorem oNg_apply (c : Fin 512) : oNg V (ix3 b s c) = ng (args V) b s c := by
  rw [oNg, siluOf_apply]
  generalize hX : ng (args V) b s c = X
  pointwise []
  rw [P_apply, ← hX, ng]
theorem oGl_apply (c : Fin 128) : oGl V (ix3 b s c) = gl (args V) b s c := by
  generalize hX : gl (args V) b s c = X
  pointwise [oGl]
  by_cases h : c.val < 24
  · rw [dif_pos h, P_apply, ← hX, gl, if_pos h]
    rfl
  · rw [dif_neg h, ← hX, gl, if_neg h, show FloatOps.sitofp (F := Ideal) FTy.f32 0#32 = (0 : EReal) from ?_]
    · rfl
    · show (((0#32).toInt : ℝ) : EReal) = 0
      simp

end Cert.Reference2Ideal.Point
-- ==== Proof.Projection.Agree.lean ====
/- The projection kernel's twelve arrays are the reference's where both start from the same arguments. -/
module

public import proofs.«01_k».proof.Defs
public import proofs.«01_k».proof.Proof.Projection.Final
public import proofs.«01_k».proof.Proof.Projection.RefPoint
public import Idealize.ShloMosaic.Adequacy
public import Idealize.ShloMosaic.Init

@[expose] public section

noncomputable section

namespace Cert.Projection.Agree

open Idealize.ShloMosaic Idealize.ShloMosaic.TcCoe Idealize.SL.Sem
open Cert.Kernel2Ideal.Final Cert.Reference2Ideal.Point

/-- A run of the reference leaves its arguments, and every semaphore at zero. -/
theorem reference_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
        ∧ r.2.sem = fun _ => 0 :=
  (θ_run Cert.Reference2Ideal.defs _ _).mono
    (fun r h => ⟨fun c => (h c).2.2.2.2.2.2.2.2.2.2.2.2, sem_eq_zero_of_no_sems (by decide) r.2⟩) (Cert.Reference2Ideal.Point.run m g)

variable {m : (ℓ : Loc Cert.Kernel2Ideal.nD Cert.Kernel2Ideal.τ Cert.Kernel2Ideal.sig) → Buf (Elt Ideal) ℓ}
variable {V : Valuation Cert.Reference2Ideal.τ Cert.Reference2Ideal.sig (Elt Ideal)} {c : Dev Cert.Kernel2Ideal.nD}

theorem rq_agree (h : Cert.Reference2Ideal.Point.args V = Cert.Kernel2Ideal.Final.args m c) : oRq V = rqArray m c := by
  funext x
  obtain ⟨b, s, n, rfl⟩ : ∃ (b : Fin 8) (s : Fin 4096) (n : Fin 512), x = ix3 b s n := ⟨x 0, x 1, x 2, eq_ix3 x⟩
  rw [oRq_apply, h]
  rfl

theorem rk_agree (h : Cert.Reference2Ideal.Point.args V = Cert.Kernel2Ideal.Final.args m c) : oRk V = rkArray m c := by
  funext x
  obtain ⟨b, s, n, rfl⟩ : ∃ (b : Fin 8) (s : Fin 4096) (n : Fin 512), x = ix3 b s n := ⟨x 0, x 1, x 2, eq_ix3 x⟩
  rw [oRk_apply, h]
  rfl

theorem rv_agree (h : Cert.Reference2Ideal.Point.args V = Cert.Kernel2Ideal.Final.args m c) : oRv V = rvArray m c := by
  funext x
  obtain ⟨b, s, n, rfl⟩ : ∃ (b : Fin 8) (s : Fin 4096) (n : Fin 512), x = ix3 b s n := ⟨x 0, x 1, x 2, eq_ix3 x⟩
  rw [oRv_apply, h]
  rfl

theorem rg_agree (h : Cert.Reference2Ideal.Point.args V = Cert.Kernel2Ideal.Final.args m c) : oRg V = rgArray m c := by
  funext x
  obtain ⟨b, s, n, rfl⟩ : ∃ (b : Fin 8) (s : Fin 4096) (n : Fin 512), x = ix3 b s n := ⟨x 0, x 1, x 2, eq_ix3 x⟩
  rw [oRg_apply, h]
  rfl

theorem nq_agree (h : Cert.Reference2Ideal.Point.args V = Cert.Kernel2Ideal.Final.args m c) : oNq V = nqArray m c := by
  funext x
  obtain ⟨b, s, n, rfl⟩ : ∃ (b : Fin 8) (s : Fin 4096) (n : Fin 512), x = ix3 b s n := ⟨x 0, x 1, x 2, eq_ix3 x⟩
  rw [oNq_apply, h]
  rfl

theorem cmp_agree (h : Cert.Reference2Ideal.Point.args V = Cert.Kernel2Ideal.Final.args m c) : oCmp V = cmpArray m c := by
  funext x
  obtain ⟨b, s, n, rfl⟩ : ∃ (b : Fin 8) (s : Fin 4096) (n : Fin 512), x = ix3 b s n := ⟨x 0, x 1, x 2, eq_ix3 x⟩
  rw [oCmp_apply, h]
  rfl

theorem ks_agree (h : Cert.Reference2Ideal.Point.args V = Cert.Kernel2Ideal.Final.args m c) : oKs V = ksArray m c := by
  funext x
  obtain ⟨b, s, n, rfl⟩ : ∃ (b : Fin 8) (s : Fin 4096) (n : Fin 256), x = ix3 b s n := ⟨x 0, x 1, x 2, eq_ix3 x⟩
  rw [oKs_apply, h]
  rfl

theorem vs_agree (h : Cert.Reference2Ideal.Point.args V = Cert.Kernel2Ideal.Final.args m c) : oVs V = vsArray m c := by
  funext x
  obtain ⟨b, s, n, rfl⟩ : ∃ (b : Fin 8) (s : Fin 4096) (n : Fin 256), x = ix3 b s n := ⟨x 0, x 1, x 2, eq_ix3 x⟩
  rw [oVs_apply, h]
  rfl

theorem kw_agree (h : Cert.Reference2Ideal.Point.args V = Cert.Kernel2Ideal.Final.args m c) : oKw V = kwArray m c := by
  funext x
  obtain ⟨b, s, n, rfl⟩ : ∃ (b : Fin 8) (s : Fin 4096) (n : Fin 256), x = ix3 b s n := ⟨x 0, x 1, x 2, eq_ix3 x⟩
  rw [oKw_apply, h]
  rfl

theorem vw_agree (h : Cert.Reference2Ideal.Point.args V = Cert.Kernel2Ideal.Final.args m c) : oVw V = vwArray m c := by
  funext x
  obtain ⟨b, s, n, rfl⟩ : ∃ (b : Fin 8) (s : Fin 4096) (n : Fin 256), x = ix3 b s n := ⟨x 0, x 1, x 2, eq_ix3 x⟩
  rw [oVw_apply, h]
  rfl

theorem ng_agree (h : Cert.Reference2Ideal.Point.args V = Cert.Kernel2Ideal.Final.args m c) : oNg V = ngArray m c := by
  funext x
  obtain ⟨b, s, n, rfl⟩ : ∃ (b : Fin 8) (s : Fin 4096) (n : Fin 512), x = ix3 b s n := ⟨x 0, x 1, x 2, eq_ix3 x⟩
  rw [oNg_apply, h]
  rfl

theorem gl_agree (h : Cert.Reference2Ideal.Point.args V = Cert.Kernel2Ideal.Final.args m c) : oGl V = glArray m c := by
  funext x
  obtain ⟨b, s, n, rfl⟩ : ∃ (b : Fin 8) (s : Fin 4096) (n : Fin 128), x = ix3 b s n := ⟨x 0, x 1, x 2, eq_ix3 x⟩
  rw [oGl_apply, h]
  rfl

/-- The arguments, of equal memories. -/
theorem args_agree (m' : (ℓ : Loc Cert.Reference2Ideal.nD Cert.Reference2Ideal.τ Cert.Reference2Ideal.sig) → Buf (Elt Ideal) ℓ)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    Cert.Reference2Ideal.Point.args (StableHlo.launchContents m' c) = Cert.Kernel2Ideal.Final.args m c := by
  unfold Cert.Kernel2Ideal.Final.args
  rw [← h0, ← h1, ← h2, ← h3, ← h4]
  rfl

/-- The named constant is the table's. -/
theorem preserves : Cert.preserves_Kernel2_Kernel2Ideal :=
  IdealRules.named_const.statement Cert.Kernel2Ideal.κ "log2e_8" .f32 0x3E38AA3B#32 ((8⁻¹ * (Real.log 2)⁻¹ : ℝ) : EReal) rfl

set_option maxHeartbeats 2000000 in
theorem algebraic : @Cert.algebraic_Kernel2Ideal_Reference2Ideal Cert.Kernel2Ideal.Gen.facts Cert.Reference2Ideal.Gen.facts :=
  fun m g m' g' _ hargs =>
    ⟨fun c => rqArray m c,
      fun c => rkArray m c,
      fun c => rvArray m c,
      fun c => rgArray m c,
      fun c => nqArray m c,
      fun c => cmpArray m c,
      fun c => ksArray m c,
      fun c => vsArray m c,
      fun c => kwArray m c,
      fun c => vwArray m c,
      fun c => ngArray m c,
      fun c => glArray m c,
      (θ_run Cert.Kernel2Ideal.defs _ _).mono (fun _ h c => by
        obtain ⟨h0, h1, h2, h3, h4, h5, h6, h7, h8, h9, h10, h11, hk⟩ := h c
        exact ⟨h0.trans (rq_final m c), h1.trans (rk_final m c), h2.trans (rv_final m c), h3.trans (rg_final m c), h4.trans (nq_final m c), h5.trans (cmp_final m c), h6.trans (ks_final m c), h7.trans (vs_final m c), h8.trans (kw_final m c), h9.trans (vw_final m c), h10.trans (ng_final m c), h11.trans (gl_final m c), hk⟩)
        (Cert.Kernel2Ideal.Value.run_blocks m g),
      (θ_run Cert.Reference2Ideal.defs _ _).mono (fun _ h c => by
        obtain ⟨h0, h1, h2, h3, h4, h5, h6, h7, h8, h9, h10, h11, hk⟩ := h c
        have e := args_agree m' (hargs c).1 (hargs c).2.1 (hargs c).2.2.1 (hargs c).2.2.2.1 (hargs c).2.2.2.2
        exact ⟨h0.trans (rq_agree e), h1.trans (rk_agree e), h2.trans (rv_agree e), h3.trans (rg_agree e), h4.trans (nq_agree e), h5.trans (cmp_agree e), h6.trans (ks_agree e), h7.trans (vs_agree e), h8.trans (kw_agree e), h9.trans (vw_agree e), h10.trans (ng_agree e), h11.trans (gl_agree e), hk⟩)
        (Cert.Reference2Ideal.Point.run m' g')⟩

end Cert.Projection.Agree

end
-- ==== Proof.Output.Spec.lean ====
/- The layer's output over the extended reals: the array that the kernel and the reference are both shown to compute. -/
module

public import Idealize.ShloMosaic.Lib.Pointwise

@[expose] public section

noncomputable section

namespace Cert.Output

open Idealize.ShloMosaic

/-- The arguments: activations, the modulation's shift, scale and gate in one row, the norm's gains, the retention, the three branches, the
    branches' gates, the gate path, the weights. -/
structure Args where
  x : Fin 8 → Fin 4096 → Fin 1024 → EReal
  mod : Fin 8 → Fin 3072 → EReal
  g : Fin 1024 → EReal
  ret : Fin 8 → Fin 4096 → Fin 512 → EReal
  oc : Fin 8 → Fin 4096 → Fin 512 → EReal
  os : Fin 8 → Fin 4096 → Fin 1024 → EReal
  ow : Fin 8 → Fin 4096 → Fin 1024 → EReal
  gl : Fin 8 → Fin 4096 → Fin 128 → EReal
  ng : Fin 8 → Fin 4096 → Fin 512 → EReal
  w : Fin 1024 → Fin 1024 → EReal

/-- A float constant. -/
abbrev lit (b : BitVec 32) : EReal := Ideal.ofBits .f32 b

/-- Column `n` of a branch whose heads are 64 sums and beside them their divisors. -/
def softmaxed (o : Fin 1024 → EReal) (n : Fin 512) : EReal :=
  o ⟨n.val / 64 * 128 + n.val % 64, by omega⟩ * Ideal.div 1 (o ⟨n.val / 64 * 128 + (64 + n.val % 64), by omega⟩)

/-- The gate of branch `i` for column `n`. -/
def gate (gl : Fin 128 → EReal) (i : Fin 3) (n : Fin 512) : EReal := gl ⟨n.val / 64 * 3 + i.val, by omega⟩

/-- Column `n` of a token's attention. -/
def att (gl : Fin 128 → EReal) (oc ng : Fin 512 → EReal) (os ow : Fin 1024 → EReal) (n : Fin 512) : EReal :=
  (gate gl 0 n * oc n + gate gl 1 n * softmaxed os n + gate gl 2 n * softmaxed ow n) * ng n

/-- A token's row before the norm, column `n`. -/
def mixed (w : Fin 1024 → Fin 1024 → EReal) (gl : Fin 128 → EReal) (ret oc ng : Fin 512 → EReal) (os ow : Fin 1024 → EReal) (n : Fin 1024) : EReal :=
  (∑ k : Fin 512, ret k * w ⟨k.val, by omega⟩ n) + ∑ k : Fin 512, att gl oc ng os ow k * w ⟨512 + k.val, by omega⟩ n

/-- A row, divided by its root mean square. -/
def normed (x g : Fin 1024 → EReal) (k : Fin 1024) : EReal :=
  x k * Ideal.rsqrt (Ideal.div (∑ j, x j * x j) (lit 0x44800000#32) + lit 0x358637BD#32) * g k

/-- The result. -/
def result (A : Args) (b : Fin 8) (s : Fin 4096) (n : Fin 1024) : EReal :=
  A.x b s n + A.mod b ⟨2048 + n.val, by omega⟩
    * normed (mixed A.w (A.gl b s) (A.ret b s) (A.oc b s) (A.ng b s) (A.os b s) (A.ow b s)) A.g n

/-- The gates, the first 24 columns, are real numbers. -/
def RealGates (A : Args) : Prop := ∀ b s (l : Fin 128), l.val < 24 → ∃ r : ℝ, A.gl b s l = r

/-- Spread over the lanes by marks, a gate and what its rounding leaves meet it once. -/
theorem spread (g : ℕ → EReal) (a : ℕ) (ha : a < 24) :
    ∑ k : Fin 128, (if k.val < 32 then g k.val else 0) * (if k.val = a ∨ k.val = 32 + a then 1 else 0) = g a := by
  rw [Finset.sum_eq_single (⟨a, by omega⟩ : Fin 128)]
  · have h : a < 32 := by omega
    simp [h]
  · intro k _ hk
    have hk' : k.val ≠ a := fun h => hk (Fin.ext h)
    by_cases h : k.val < 32
    · have h2 : k.val ≠ 32 + a := by omega
      simp [hk', h2]
    · simp [h]
  · intro h; exact absurd (Finset.mem_univ _) h

end Cert.Output

end
-- ==== Proof.Output.Tile.lean ====
/- The output kernel's values, read at a row and a column. -/
module

public import proofs.«01_k».proof.Proof.Output.Spec
public import proofs.«01_k».proof.Proof.Gen.Kernel3Ideal.Skeleton
public import Idealize.ShloMosaic.Lib.Pointwise

@[expose] public section

set_option maxRecDepth 16384

noncomputable section

namespace Cert.Kernel3Ideal.Tile

open Idealize.ShloMosaic Idealize.ShloMosaic.TcCoe Idealize.SL.Sem Cert.Kernel3Ideal Cert.Kernel3Ideal.Gen Cert.Output

/-! ### Choices by the lane and by the column -/

theorem select_ofBool (p : Prop) [Decidable p] (a b : EReal) :
    Scalar.select (BitVec.ofBool (decide p)) a b = if p then a else b := by
  by_cases h : p <;> simp [h, Scalar.select]

theorem lane_slt_32 (l : Fin 128) : IntOp.cmpi .slt (BitVec.ofNat 32 l) 32#32 = BitVec.ofBool (decide (l.val < 32)) := by
  revert l; decide +kernel
theorem lane_slt_64 (l : Fin 128) : IntOp.cmpi .slt (BitVec.ofNat 32 l) 64#32 = BitVec.ofBool (decide (l.val < 64)) := by
  revert l; decide +kernel
theorem head_of (n : Fin 512) : IntOp.shrsi ArithUnit.vector (BitVec.ofNat 32 n) 6#32 = BitVec.ofNat 32 (n.val / 64) := by
  revert n; decide +kernel
theorem marked (i : Fin 3) (k : Fin 128) (h : Fin 8) :
    IntOp.ori (IntOp.cmpi .eq (BitVec.ofNat 32 k) (IntOp.addi (Scalar.muli 3#32 (BitVec.ofNat 32 h)) (BitVec.ofNat 32 i)))
        (IntOp.cmpi .eq (BitVec.ofNat 32 k) (IntOp.addi (IntOp.addi 32#32 (Scalar.muli 3#32 (BitVec.ofNat 32 h))) (BitVec.ofNat 32 i)))
      = BitVec.ofBool (decide (k.val = h.val * 3 + i.val ∨ k.val = 32 + (h.val * 3 + i.val))) := by
  revert i k h; decide +kernel

/-- The rows and the columns of the marks. -/
abbrev rows : IVec S128x512 32 := iota .tc S128x512 32 [0] iota_S128x512_d0_w32

/-! ### The gates, each beside what its rounding leaves -/

theorem gates_apply (g : Vec Ideal S1x1024x128 .f32) (r : Fin 1024) (hg : ∀ l : Fin 128, l.val < 24 → ∃ a : ℝ, (g (ix3 0 r l) : EReal) = a)
    (k : Fin 128) (hk : k.val < 56) : k0_pay2 (F := Ideal) g (ix2 r k) = if k.val < 32 then g (ix3 0 r k) else 0 := by
  pointwise [k0_pay2]
  rw [lane_slt_32, select_ofBool]
  split
  · rfl
  · obtain ⟨a, ha⟩ := hg ⟨(k.val + 128 - 32) % 128, by omega⟩ (by simp only; omega)
    rw [ha, ← EReal.coe_sub, sub_self, EReal.coe_zero]

theorem marks0_apply (k : Fin 128) (n : Fin 512) :
    k0_pay20 rows k0_pay3 (ix2 k n) = BitVec.ofBool (decide (k.val = n.val / 64 * 3 + 0 ∨ k.val = 32 + (n.val / 64 * 3 + 0))) := by
  pointwise [k0_pay20, k0_pay3]
  rw [head_of]
  exact marked 0 k ⟨n.val / 64, by omega⟩
theorem marks2_apply (k : Fin 128) (n : Fin 512) :
    k0_pay24 (F := Ideal) rows k0_pay3 (ix2 k n) = if k.val = n.val / 64 * 3 + 2 ∨ k.val = 32 + (n.val / 64 * 3 + 2) then 1 else 0 := by
  pointwise [k0_pay24, k0_pay3]
  rw [head_of, ← select_ofBool]
  congr 1
  exact marked 2 k ⟨n.val / 64, by omega⟩

/-! ### A branch's sums over their divisors -/

section Pairs
variable (a b : Vec Ideal S1x1024x128 .bf16) (r : Fin 1024) (o : Fin 1024 → EReal) (c : Fin 4)
  (ha : ∀ l : Fin 128, a (ix3 0 r l) = o ⟨c.val * 256 + l.val, by omega⟩)
  (hb : ∀ l : Fin 128, b (ix3 0 r l) = o ⟨c.val * 256 + 128 + l.val, by omega⟩) (l : Fin 128)
include ha hb

theorem pair_value :
    (if l.val < 64 then a (ix3 0 r l) else b (ix3 0 r ⟨(l.val + 128 - 64) % 128, by omega⟩) : EReal)
        * Ideal.div 1 (if l.val < 64 then a (ix3 0 r ⟨(l.val + 128 - 64) % 128, by omega⟩) else b (ix3 0 r l) : EReal)
      = softmaxed o ⟨c.val * 128 + l.val, by omega⟩ := by
  unfold softmaxed
  by_cases h : l.val < 64
  · simp only [h, if_true, ha]
    congr 3 <;> first | omega | (apply Fin.ext; dsimp only; omega)
  · simp only [h, if_false, hb]
    congr 3 <;> first | omega | (apply Fin.ext; dsimp only; omega)

theorem pair7 : k0_pay7 (F := Ideal) a b (ix2 r l) = softmaxed o ⟨c.val * 128 + l.val, by omega⟩ := by
  rw [← pair_value a b r o c ha hb l]
  pointwise [k0_pay7, k0_pay6]
  simp only [lane_slt_64, select_ofBool]
theorem pair8 : k0_pay8 (F := Ideal) k0_pay6 a b (ix2 r l) = softmaxed o ⟨c.val * 128 + l.val, by omega⟩ := by
  rw [← pair_value a b r o c ha hb l]
  pointwise [k0_pay8, k0_pay6]
  simp only [lane_slt_64, select_ofBool]
theorem pair9 : k0_pay9 (F := Ideal) k0_pay6 a b (ix2 r l) = softmaxed o ⟨c.val * 128 + l.val, by omega⟩ := by
  rw [← pair_value a b r o c ha hb l]
  pointwise [k0_pay9, k0_pay6]
  simp only [lane_slt_64, select_ofBool]
theorem pair16 : k0_pay16 (F := Ideal) a b (ix2 r l) = softmaxed o ⟨c.val * 128 + l.val, by omega⟩ := by
  rw [← pair_value a b r o c ha hb l]
  pointwise [k0_pay16, k0_pay15]
  simp only [lane_slt_64, select_ofBool]
theorem pair17 : k0_pay17 (F := Ideal) a b (ix2 r l) = softmaxed o ⟨c.val * 128 + l.val, by omega⟩ := by
  rw [← pair_value a b r o c ha hb l]
  pointwise [k0_pay17, k0_pay15]
  simp only [lane_slt_64, select_ofBool]

end Pairs

/-- Four tiles side by side. -/
theorem join_value (a b c d : Fin 128 → EReal) (f : Fin 512 → EReal) (ha : ∀ l : Fin 128, a l = f ⟨0 * 128 + l.val, by omega⟩)
    (hb : ∀ l : Fin 128, b l = f ⟨1 * 128 + l.val, by omega⟩) (hc : ∀ l : Fin 128, c l = f ⟨2 * 128 + l.val, by omega⟩)
    (hd : ∀ l : Fin 128, d l = f ⟨3 * 128 + l.val, by omega⟩) (n : Fin 512) :
    (if h : n.val < 128 then a ⟨n.val, h⟩ else if h' : n.val - 128 < 128 then b ⟨n.val - 128, h'⟩
      else if h'' : n.val - 128 - 128 < 128 then c ⟨n.val - 128 - 128, h''⟩ else d ⟨n.val - 128 - 128 - 128, by omega⟩) = f n := by
  split
  · rw [ha]; congr 1; apply Fin.ext; show 0 * 128 + n.val = n.val; omega
  · split
    · rw [hb]; congr 1; apply Fin.ext; show 1 * 128 + (n.val - 128) = n.val; omega
    · split
      · rw [hc]; congr 1; apply Fin.ext; show 2 * 128 + (n.val - 128 - 128) = n.val; omega
      · rw [hd]; congr 1; apply Fin.ext; show 3 * 128 + (n.val - 128 - 128 - 128) = n.val; omega

theorem join_apply (A B C D : FVec Ideal S1024x128 .f32) (r : Fin 1024) (f : Fin 512 → EReal)
    (ha : ∀ l : Fin 128, A (ix2 r l) = f ⟨0 * 128 + l.val, by omega⟩) (hb : ∀ l : Fin 128, B (ix2 r l) = f ⟨1 * 128 + l.val, by omega⟩)
    (hc : ∀ l : Fin 128, C (ix2 r l) = f ⟨2 * 128 + l.val, by omega⟩) (hd : ∀ l : Fin 128, D (ix2 r l) = f ⟨3 * 128 + l.val, by omega⟩)
    (n : Fin 512) :
    concatenate S1024x512 1 [⟨S1024x128, A⟩, ⟨S1024x128, B⟩, ⟨S1024x128, C⟩, ⟨S1024x128, D⟩]
      concatenates_S1024x128_S1024x128_S1024x128_S1024x128_S1024x512_d1 (ix2 r n) = f n := by
  rw [← join_value _ _ _ _ f ha hb hc hd n]
  pointwise

/-- Lane `l` of head `h`. -/
abbrev lane (h : Fin 8) (l : Fin 128) : Fin 1024 := ⟨h.val * 128 + l.val, by omega⟩

section Branch
variable (t : Fin 8 → Vec Ideal S1x1024x128 .bf16) (r : Fin 1024) (o : Fin 1024 → EReal)
  (ht : ∀ (h : Fin 8) (l : Fin 128), t h (ix3 0 r l) = o (lane h l)) (n : Fin 512)
include ht

/-- The selected branch, of its eight heads. -/
theorem selected_apply :
    k0_pay14 (F := Ideal) (k0_pay7 (t 0) (t 1)) (k0_pay8 k0_pay6 (t 2) (t 3)) (k0_pay9 k0_pay6 (t 4) (t 5))
        (k0_pay12 k0_pay6 (t 6) (t 7)) (k0_pay13 k0_pay6 (t 6) (t 7)) (ix2 r n) = softmaxed o n := by
  have h0 := pair7 (t 0) (t 1) r o 0 (fun l => ht 0 l) (fun l => ht 1 l)
  have h1 := pair8 (t 2) (t 3) r o 1 (fun l => ht 2 l) (fun l => ht 3 l)
  have h2 := pair9 (t 4) (t 5) r o 2 (fun l => ht 4 l) (fun l => ht 5 l)
  refine join_apply _ _ _ _ r (softmaxed o) h0 h1 h2 (fun l => ?_) n
  refine Eq.trans ?_ (pair_value (t 6) (t 7) r o 3 (fun l => ht 6 l) (fun l => ht 7 l) l)
  pointwise [k0_pay12, k0_pay13, k0_pay10, k0_pay11, k0_pay6]
  simp only [lane_slt_64, select_ofBool]

/-- The window's branch, of its eight heads. -/
theorem windowed_apply :
    k0_pay19 (F := Ideal) k0_pay15 (k0_pay16 (t 0) (t 1)) (k0_pay17 (t 2) (t 3)) (k0_pay18 (t 4)) (t 5) (t 6) (t 7) (ix2 r n) = softmaxed o n := by
  have h0 := pair16 (t 0) (t 1) r o 0 (fun l => ht 0 l) (fun l => ht 1 l)
  have h1 := pair17 (t 2) (t 3) r o 1 (fun l => ht 2 l) (fun l => ht 3 l)
  refine join_apply _ _ _ _ r (softmaxed o) h0 h1 (fun l => ?_) (fun l => ?_) n
  · refine Eq.trans ?_ (pair_value (t 4) (t 5) r o 2 (fun l => ht 4 l) (fun l => ht 5 l) l)
    pointwise [k0_pay18, k0_pay15]
    simp only [lane_slt_64, select_ofBool]
  · refine Eq.trans ?_ (pair_value (t 6) (t 7) r o 3 (fun l => ht 6 l) (fun l => ht 7 l) l)
    pointwise [k0_pay15]
    simp only [lane_slt_64, select_ofBool]

end Branch

/-! ### The gated sum, the product, the norm -/

theorem spread_gate (v g : Fin 128 → EReal) (hv : ∀ k : Fin 128, k.val < 56 → v k = if k.val < 32 then g k else 0) (i : Fin 3) (n : Fin 512) :
    ∑ k : Fin 128, (if k.val = n.val / 64 * 3 + i.val ∨ k.val = 32 + (n.val / 64 * 3 + i.val) then v k else 0) = gate g i n := by
  have hs : ∀ k : Fin 128, (if k.val = n.val / 64 * 3 + i.val ∨ k.val = 32 + (n.val / 64 * 3 + i.val) then v k else 0)
      = if k.val = n.val / 64 * 3 + i.val ∨ k.val = 32 + (n.val / 64 * 3 + i.val) then (if k.val < 32 then g k else 0) else 0 := by
    intro k
    split
    · exact hv k (by omega)
    · rfl
  rw [Finset.sum_congr rfl fun k _ => hs k]
  have h := spread (fun k => if h : k < 128 then g ⟨k, h⟩ else 0) (n.val / 64 * 3 + i.val) (by omega)
  simp only [Fin.is_lt, dite_true, mul_ite, mul_one, mul_zero] at h
  rw [h, dif_pos (by omega : n.val / 64 * 3 + i.val < 128)]
  rfl

theorem marked1 (k : Fin 128) (n : Fin 512) :
    IntOp.ori (IntOp.cmpi .eq (BitVec.ofNat 32 k) (IntOp.addi (IntOp.muli 3#32 (BitVec.ofNat 32 (n.val / 64))) 1#32))
        (IntOp.cmpi .eq (BitVec.ofNat 32 k) (IntOp.addi (IntOp.addi 32#32 (IntOp.muli 3#32 (BitVec.ofNat 32 (n.val / 64)))) 1#32))
      = BitVec.ofBool (decide (k.val = n.val / 64 * 3 + 1 ∨ k.val = 32 + (n.val / 64 * 3 + 1))) :=
  marked 1 k ⟨n.val / 64, by omega⟩

section Sum
variable (v : FVec Ideal S1024x128 .bf16) (oc : FVec Ideal S1024x512 .bf16) (sel win : FVec Ideal S1024x512 .f32)
  (r : Fin 1024) (g : Fin 128 → EReal) (hv : ∀ k : Fin 128, k.val < 56 → v (ix2 r k) = if k.val < 32 then g k else 0)
include hv

theorem two_gated (n : Fin 512) :
    k0_pay23 (F := Ideal) v rows k0_pay3 k0_pay4 oc sel (k0_pay20 rows k0_pay3) k0_pay21 k0_pay22 (ix2 r n)
      = gate g 0 n * oc (ix2 r n) + gate g 1 n * sel (ix2 r n) := by
  have h0 : ∀ k : Fin 128, k0_pay20 rows k0_pay3 (ix2 k n) = _ := fun k => marks0_apply k n
  generalize hM : k0_pay20 rows k0_pay3 = M at h0 ⊢
  have e0 := spread_gate (fun k => v (ix2 r k)) g hv 0 n
  have e1 := spread_gate (fun k => v (ix2 r k)) g hv 1 n
  generalize gate g 0 n = G0 at e0 ⊢
  generalize gate g 1 n = G1 at e1 ⊢
  pointwise [k0_pay23, k0_pay21, k0_pay22, k0_pay4, k0_pay3]
  simp only [h0, head_of, marked1, select_ofBool]
  rw [← e0, ← e1]
  rfl

theorem third_gate (n : Fin 512) : (∑ k : Fin 128, v (ix2 r k) * k0_pay24 (F := Ideal) rows k0_pay3 (ix2 k n) : EReal) = gate g 2 n := by
  simp only [marks2_apply, mul_ite, mul_one, mul_zero]
  exact spread_gate (fun k => v (ix2 r k)) g hv 2 n

/-- The token's row before the norm. -/
def mix (two : FVec Ideal S1024x512 .f32) (marks : FVec Ideal S128x512 .bf16) (ng ret : Vec Ideal S1x1024x512 .bf16)
    (wa wb : Vec Ideal S512x1024 .bf16) (r n : Fin 1024) : EReal :=
  (∑ k : Fin 512, ret (ix3 0 r k) * wa (ix2 k n))
    + ∑ k : Fin 512, (two (ix2 r k) + (∑ j : Fin 128, v (ix2 r j) * marks (ix2 j k)) * win (ix2 r k)) * ng (ix3 0 r k) * wb (ix2 k n)

omit hv in
theorem normed_apply (two : FVec Ideal S1024x512 .f32) (marks : FVec Ideal S128x512 .bf16) (ng ret : Vec Ideal S1x1024x512 .bf16)
    (wa wb : Vec Ideal S512x1024 .bf16) (gn : Vec Ideal S1x1024 .f32) (ga : Vec Ideal S1x1x1024 .f32) (n : Fin 1024) :
    k0_pay26 (F := Ideal) v win two marks (constant S1024x512 .f32 0x00000000#32) ng ret wa wb gn ga (ix2 r n)
      = ga (ix3 0 0 n) * normed (mix v win two marks ng ret wa wb r) (fun k => gn (ix2 0 k)) n := by
  unfold normed mix
  pointwise [k0_pay26]

end Sum

theorem added_apply (x : Vec Ideal S1x1024x1024 .f32) (y : FVec Ideal S1024x1024 .f32) (r n : Fin 1024) :
    k0_pay1 (F := Ideal) (k0_pay25 x) y (ix3 0 r n) = x (ix3 0 r n) + y (ix2 r n) := by
  pointwise [k0_pay1, k0_pay25]

end Cert.Kernel3Ideal.Tile

end
-- ==== Proof.Output.Point.lean ====
/- The output kernel's block, read at a token and a column: the specification, of blocks that hold the arguments. -/
module

public import proofs.«01_k».proof.Proof.Output.Tile
public import proofs.«01_k».proof.Proof.Gen.Kernel3Ideal.Frame
public import Idealize.ShloMosaic.Lib.Pipeline.ValueKit

@[expose] public section

set_option maxRecDepth 16384

noncomputable section

namespace Cert.Kernel3Ideal.Point

open Idealize.ShloMosaic Idealize.ShloMosaic.TcCoe Idealize.SL.Sem Cert.Kernel3Ideal Cert.Kernel3Ideal.Gen Cert.Kernel3Ideal.Tile Cert.Output

/-- Row `r` of block `i` of tokens. -/
def tok (i : Fin 4) (r : Fin 1024) : Fin 4096 := ⟨i.val * 1024 + r.val, by omega⟩

/-! ### The loads -/

theorem ld_cols (x : Vec Ideal S1x1024x1024 .bf16) (k : ℕ) (inb) (r : Fin 1024) (l : Fin 128) (hk : k + l.val < 1024) :
    View.ld x (Rect.unit (s := S1x1024x1024) ![0, 0, k] S1x1024x128.size inb) (ix3 0 r l) = x (ix3 0 r ⟨k + l.val, hk⟩) := by
  refine View.ld_unit_apply_of x _ _ inb _ (ix3 0 r ⟨k + l.val, hk⟩) fun a => ?_
  match a with
  | ⟨0, _⟩ => rfl
  | ⟨1, _⟩ => exact (Nat.zero_add _).symm
  | ⟨2, _⟩ => rfl
theorem ld_rows (x : Vec Ideal S1024x1024 .bf16) (k : ℕ) (inb) (r : Fin 512) (l : Fin 1024) (hk : k + r.val < 1024) :
    View.ld x (Rect.unit (s := S1024x1024) ![k, 0] S512x1024.size inb) (ix2 r l) = x (ix2 ⟨k + r.val, hk⟩ l) := by
  refine View.ld_unit_apply_of x _ _ inb _ (ix2 ⟨k + r.val, hk⟩ l) fun a => ?_
  match a with
  | ⟨0, _⟩ => rfl
  | ⟨1, _⟩ => exact (Nat.zero_add _).symm

theorem ld_whole {S : Shape} {e : EltTy} (x : Vec Ideal S e) {off : Fin S.rank → ℕ} (h : off = fun _ => 0) (inb) :
    View.ld x (Rect.unit (s := S) off S.size inb) = x := View.ld_unit_zero h inb x

theorem zero2 : (![0, 0] : Fin 2 → ℕ) = fun _ => 0 := by decide
theorem zero3 : (![0, 0, 0] : Fin 3 → ℕ) = fun _ => 0 := by decide

section Branch
variable (x : Vec Ideal S1x1024x1024 .bf16) (r : Fin 1024) (o : Fin 1024 → EReal) (hx : ∀ k : Fin 1024, x (ix3 0 r k) = o k)
include hx

theorem heads_apply (h : Fin 8) (l : Fin 128) :
    (![View.ld x r0_2, View.ld x r0_3, View.ld x r0_4, View.ld x r0_5, View.ld x r0_6, View.ld x r0_7, View.ld x r0_8, View.ld x r0_9] h
      : Vec Ideal S1x1024x128 .bf16) (ix3 0 r l) = o (lane h l) := by
  match h with
  | ⟨0, _⟩ => exact (ld_cols x 0 _ r l (by omega)).trans ((hx _).trans (congrArg o (Fin.ext (by show 0 + l.val = 0 * 128 + l.val; omega))))
  | ⟨1, _⟩ => exact (ld_cols x 128 _ r l (by omega)).trans (hx _)
  | ⟨2, _⟩ => exact (ld_cols x 256 _ r l (by omega)).trans (hx _)
  | ⟨3, _⟩ => exact (ld_cols x 384 _ r l (by omega)).trans (hx _)
  | ⟨4, _⟩ => exact (ld_cols x 512 _ r l (by omega)).trans (hx _)
  | ⟨5, _⟩ => exact (ld_cols x 640 _ r l (by omega)).trans (hx _)
  | ⟨6, _⟩ => exact (ld_cols x 768 _ r l (by omega)).trans (hx _)
  | ⟨7, _⟩ => exact (ld_cols x 896 _ r l (by omega)).trans (hx _)

theorem selected (n : Fin 512) :
    k0_pay14 (F := Ideal) (k0_pay7 (View.ld x r0_2) (View.ld x r0_3)) (k0_pay8 k0_pay6 (View.ld x r0_4) (View.ld x r0_5))
        (k0_pay9 k0_pay6 (View.ld x r0_6) (View.ld x r0_7)) (k0_pay12 k0_pay6 (View.ld x r0_8) (View.ld x r0_9))
        (k0_pay13 k0_pay6 (View.ld x r0_8) (View.ld x r0_9)) (ix2 r n) = softmaxed o n :=
  selected_apply ![View.ld x r0_2, View.ld x r0_3, View.ld x r0_4, View.ld x r0_5, View.ld x r0_6, View.ld x r0_7, View.ld x r0_8, View.ld x r0_9]
    r o (heads_apply x r o hx) n
theorem windowed (n : Fin 512) :
    k0_pay19 (F := Ideal) k0_pay15 (k0_pay16 (View.ld x r0_2) (View.ld x r0_3)) (k0_pay17 (View.ld x r0_4) (View.ld x r0_5))
        (k0_pay18 (View.ld x r0_6)) (View.ld x r0_7) (View.ld x r0_8) (View.ld x r0_9) (ix2 r n) = softmaxed o n :=
  windowed_apply ![View.ld x r0_2, View.ld x r0_3, View.ld x r0_4, View.ld x r0_5, View.ld x r0_6, View.ld x r0_7, View.ld x r0_8, View.ld x r0_9]
    r o (heads_apply x r o hx) n

end Branch

/-! ### The block -/

section Block
variable (x0 : Vec Ideal S1x1024x1024 .f32) (x1 : Vec Ideal S1x1x1024 .f32) (x2 : Vec Ideal S1x1024 .f32) (x3 x4 : Vec Ideal S1x1024x512 .bf16)
  (x5 x6 : Vec Ideal S1x1024x1024 .bf16) (x7 : Vec Ideal S1x1024x128 .f32) (x8 : Vec Ideal S1x1024x512 .bf16) (x9 : Vec Ideal S1024x1024 .bf16)

theorem oc_apply (r : Fin 1024) (k : Fin 512) : k0_pay5 (F := Ideal) x4 (ix2 r k) = x4 (ix3 0 r k) := by pointwise [k0_pay5]

/-- The blocks hold the arguments' parts for block `i` of tokens of batch `b`. -/
structure Holds (A : Args) (b : Fin 8) (i : Fin 4) : Prop where
  x : ∀ r k : Fin 1024, x0 (ix3 0 r k) = A.x b (tok i r) k
  gate : ∀ k : Fin 1024, x1 (ix3 0 0 k) = A.mod b ⟨2048 + k.val, by omega⟩
  gain : ∀ k : Fin 1024, x2 (ix2 0 k) = A.g k
  ret : ∀ (r : Fin 1024) (k : Fin 512), x3 (ix3 0 r k) = A.ret b (tok i r) k
  oc : ∀ (r : Fin 1024) (k : Fin 512), x4 (ix3 0 r k) = A.oc b (tok i r) k
  os : ∀ r k : Fin 1024, x5 (ix3 0 r k) = A.os b (tok i r) k
  ow : ∀ r k : Fin 1024, x6 (ix3 0 r k) = A.ow b (tok i r) k
  gl : ∀ (r : Fin 1024) (k : Fin 128), x7 (ix3 0 r k) = A.gl b (tok i r) k
  ng : ∀ (r : Fin 1024) (k : Fin 512), x8 (ix3 0 r k) = A.ng b (tok i r) k
  w : ∀ k n : Fin 1024, x9 (ix2 k n) = A.w k n

variable {A : Args} {b : Fin 8} {i : Fin 4} (H : Holds x0 x1 x2 x3 x4 x5 x6 x7 x8 x9 A b i) (hg : RealGates A)
include H hg

theorem out_apply (r n : Fin 1024) : out0_10 x0 x1 x2 x3 x4 x5 x6 x7 x8 x9 (ix3 0 r n) = result A b (tok i r) n := by
  unfold_out out0_10
  rw [View.canon_unit_zero zero3]
  rw [ld_whole x0 zero3, ld_whole x1 zero3, ld_whole x2 zero2, ld_whole x3 zero3, ld_whole x4 zero3, ld_whole x7 zero3, ld_whole x8 zero3]
  rw [added_apply, normed_apply, H.x, H.gate]
  unfold result
  have hv : ∀ k : Fin 128, k.val < 56 → k0_pay2 (F := Ideal) x7 (ix2 r k) = if k.val < 32 then A.gl b (tok i r) k else 0 := fun k hk => by
    rw [gates_apply x7 r (fun l hl => by rw [H.gl]; exact hg b (tok i r) l hl) k hk, H.gl]
  have hs := selected x5 r (A.os b (tok i r)) (H.os r)
  have hw := windowed x6 r (A.ow b (tok i r)) (H.ow r)
  congr 2
  congr 1
  · funext n
    unfold mix mixed att
    congr 1
    · refine Finset.sum_congr rfl fun k _ => ?_
      rw [H.ret, ld_rows x9 0 _ k n (by omega), H.w]
      congr 3; exact Nat.zero_add _
    · refine Finset.sum_congr rfl fun k _ => ?_
      rw [ld_rows x9 512 _ k n (by omega), H.w, H.ng, two_gated _ _ _ r _ hv k, third_gate _ r _ hv k, hs, hw]
      rw [oc_apply, H.oc]
  · funext k
    exact H.gain k

end Block

end Cert.Kernel3Ideal.Point

end
-- ==== Proof.Output.Final.lean ====
/- The output kernel's result array over the extended reals: at every index the specification. -/
module

public import proofs.«01_k».proof.Proof.Output.Point
public import proofs.«01_k».proof.Proof.Gen.Kernel3Ideal.Value
public import Idealize.ShloMosaic.Lib.StableHlo.RunRead
public import Idealize.ShloMosaic.Lib.Pipeline.ValueKit

@[expose] public section

set_option maxRecDepth 16384

noncomputable section

namespace Cert.Kernel3Ideal.Final

open Idealize.ShloMosaic Idealize.ShloMosaic.TcCoe Idealize.SL.Sem Cert.Kernel3Ideal Cert.Kernel3Ideal.Gen
open Cert.Kernel3Ideal.Point Cert.Output

variable (m : (ℓ : Loc nD τ sig) → Buf (Elt Ideal) ℓ) (c : Dev nD)

/-! ### What the host hands the kernel -/

set_option maxHeartbeats 4000000 in
theorem V_gate : V m c main_v5 = shapeCast S8x1x1024 (extractStridedSlice S8x1024 ![0, 2048] (m ((c.tc : Thread nD τ).loc main_arg1) : FVec Ideal S8x3072 .f32)
    slices_S8x3072_S8x1024_0_2048) shapeCasts_S8x1024_S8x1x1024 := by
  simp only [V, hostOps0, List.flatten_cons, List.flatten_nil, List.append_nil, List.cons_append, List.nil_append]
  after_reads_simp
  all_goals rfl

set_option maxHeartbeats 4000000 in
theorem V_gain : V m c main_v6 = shapeCast S1x1024 (m ((c.tc : Thread nD τ).loc main_arg2) : FVec Ideal S1024 .f32) shapeCasts_S1024_S1x1024 := by
  simp only [V, hostOps0, List.flatten_cons, List.flatten_nil, List.append_nil, List.cons_append, List.nil_append]
  after_reads_simp
  all_goals rfl

set_option maxHeartbeats 4000000 in
theorem V_weights : V m c main_v7 = truncf (F := Ideal) .bf16 (m ((c.tc : Thread nD τ).loc main_arg9) : FVec Ideal S1024x1024 .f32) bitsLt_bf16_f32 := by
  simp only [V, hostOps0, List.flatten_cons, List.flatten_nil, List.append_nil, List.cons_append, List.nil_append]
  after_reads_simp
  all_goals rfl

theorem gate_apply (x : FVec Ideal S8x3072 .f32) (b : Fin 8) (k : Fin 1024) :
    shapeCast S8x1x1024 (extractStridedSlice S8x1024 ![0, 2048] x slices_S8x3072_S8x1024_0_2048) shapeCasts_S8x1024_S8x1x1024 (ix3 b 0 k)
      = x (ix2 b ⟨2048 + k.val, by omega⟩) := by
  pointwise
theorem gain_apply (x : FVec Ideal S1024 .f32) (k : Fin 1024) : shapeCast S1x1024 x shapeCasts_S1024_S1x1024 (ix2 0 k) = x (ix1 k) := by
  pointwise

/-! ### The blocks of a grid point -/

/-- The batch and the block of tokens of a grid point. -/
def batch (t : Fin cfg0.N) : Fin 8 := ⟨t.val / 4, by have : t.val < 32 := t.isLt; omega⟩
def blk (t : Fin cfg0.N) : Fin 4 := ⟨t.val % 4, by omega⟩

theorem index_facts : ∀ t : Fin cfg0.N,
    win0_0.index t = ![t.val / 4, t.val % 4, 0] ∧ win0_1.index t = ![t.val / 4, 0, 0]
    ∧ win0_2.index t = ![0, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] ∧ win0_9.index t = ![0, 0]
    ∧ win0_10.index t = ![t.val / 4, t.val % 4, 0] :=
  (by decide +kernel : ∀ t : Fin grid0.N, _)

theorem blk0 (t : Fin cfg0.N) (r k : Fin 1024) : iblk m c 0 t (ix3 0 r k) = V m c main_arg0 (ix3 (batch t) (tok (blk t) r) k) := by
  blk_ext [iblk, index_facts t] <;> rfl
theorem blk1 (t : Fin cfg0.N) (k : Fin 1024) : iblk m c 1 t (ix3 0 0 k) = V m c main_v5 (ix3 (batch t) 0 k) := by
  blk_ext [iblk, index_facts t] <;> rfl
theorem blk2 (t : Fin cfg0.N) (k : Fin 1024) : iblk m c 2 t (ix2 0 k) = V m c main_v6 (ix2 0 k) := by
  blk_ext [iblk, index_facts t] <;> rfl
theorem blk3 (t : Fin cfg0.N) (r : Fin 1024) (k : Fin 512) : iblk m c 3 t (ix3 0 r k) = V m c main_arg3 (ix3 (batch t) (tok (blk t) r) k) := by
  blk_ext [iblk, index_facts t] <;> rfl
theorem blk4 (t : Fin cfg0.N) (r : Fin 1024) (k : Fin 512) : iblk m c 4 t (ix3 0 r k) = V m c main_arg4 (ix3 (batch t) (tok (blk t) r) k) := by
  blk_ext [iblk, index_facts t] <;> rfl
theorem blk5 (t : Fin cfg0.N) (r k : Fin 1024) : iblk m c 5 t (ix3 0 r k) = V m c main_arg5 (ix3 (batch t) (tok (blk t) r) k) := by
  blk_ext [iblk, index_facts t] <;> rfl
theorem blk6 (t : Fin cfg0.N) (r k : Fin 1024) : iblk m c 6 t (ix3 0 r k) = V m c main_arg6 (ix3 (batch t) (tok (blk t) r) k) := by
  blk_ext [iblk, index_facts t] <;> rfl
theorem blk7 (t : Fin cfg0.N) (r : Fin 1024) (k : Fin 128) : iblk m c 7 t (ix3 0 r k) = V m c main_arg7 (ix3 (batch t) (tok (blk t) r) k) := by
  blk_ext [iblk, index_facts t] <;> rfl
theorem blk8 (t : Fin cfg0.N) (r : Fin 1024) (k : Fin 512) : iblk m c 8 t (ix3 0 r k) = V m c main_arg8 (ix3 (batch t) (tok (blk t) r) k) := by
  blk_ext [iblk, index_facts t] <;> rfl
theorem blk9 (t : Fin cfg0.N) (k n : Fin 1024) : iblk m c 9 t (ix2 k n) = V m c main_v7 (ix2 k n) := by
  blk_ext [iblk, index_facts t] <;> rfl

/-- The arguments as the run starts with them. -/
def args : Args where
  x b s k := (m ((c.tc : Thread nD τ).loc main_arg0) : FVec Ideal S8x4096x1024 .f32) (ix3 b s k)
  mod b k := (m ((c.tc : Thread nD τ).loc main_arg1) : FVec Ideal S8x3072 .f32) (ix2 b k)
  g k := (m ((c.tc : Thread nD τ).loc main_arg2) : FVec Ideal S1024 .f32) (ix1 k)
  ret b s k := (m ((c.tc : Thread nD τ).loc main_arg3) : FVec Ideal S8x4096x512 .bf16) (ix3 b s k)
  oc b s k := (m ((c.tc : Thread nD τ).loc main_arg4) : FVec Ideal S8x4096x512 .bf16) (ix3 b s k)
  os b s k := (m ((c.tc : Thread nD τ).loc main_arg5) : FVec Ideal S8x4096x1024 .bf16) (ix3 b s k)
  ow b s k := (m ((c.tc : Thread nD τ).loc main_arg6) : FVec Ideal S8x4096x1024 .bf16) (ix3 b s k)
  gl b s k := (m ((c.tc : Thread nD τ).loc main_arg7) : FVec Ideal S8x4096x128 .f32) (ix3 b s k)
  ng b s k := (m ((c.tc : Thread nD τ).loc main_arg8) : FVec Ideal S8x4096x512 .bf16) (ix3 b s k)
  w k n := (m ((c.tc : Thread nD τ).loc main_arg9) : FVec Ideal S1024x1024 .f32) (ix2 k n)

/-- What a grid point finds in its blocks. -/
theorem holds (t : Fin cfg0.N) : Holds (iblk m c 0 t) (iblk m c 1 t) (iblk m c 2 t) (iblk m c 3 t) (iblk m c 4 t) (iblk m c 5 t)
    (iblk m c 6 t) (iblk m c 7 t) (iblk m c 8 t) (iblk m c 9 t) (args m c) (batch t) (blk t) where
  x r k := by rw [blk0, V_main_arg0]; rfl
  gate k := by rw [blk1, V_gate, gate_apply]; rfl
  gain k := by rw [blk2, V_gain, gain_apply]; rfl
  ret r k := by rw [blk3, V_main_arg3]; rfl
  oc r k := by rw [blk4, V_main_arg4]; rfl
  os r k := by rw [blk5, V_main_arg5]; rfl
  ow r k := by rw [blk6, V_main_arg6]; rfl
  gl r k := by rw [blk7, V_main_arg7]; rfl
  ng r k := by rw [blk8, V_main_arg8]; rfl
  w k n := by rw [blk9, V_weights]; rfl

/-! ### The array -/

def answer : FVec Ideal S8x4096x1024 .f32 := fun x => result (args m c) (x 0) (x 1) (x 2)

theorem out_block (hg : RealGates (args m c)) (t : Fin cfg0.N) :
    out0_10 (iblk m c 0 t) (iblk m c 1 t) (iblk m c 2 t) (iblk m c 3 t) (iblk m c 4 t) (iblk m c 5 t) (iblk m c 6 t) (iblk m c 7 t)
        (iblk m c 8 t) (iblk m c 9 t)
      = (fun y => answer m c (ix3 (batch t) (tok (blk t) (y 1)) (y 2)) : Vec Ideal S1x1024x1024 .f32) := by
  funext y
  obtain ⟨z, r, n, rfl⟩ : ∃ (z : Fin 1) (r n : Fin 1024), y = ix3 z r n := ⟨y 0, y 1, y 2, eq_ix3 y⟩
  obtain rfl : z = 0 := Subsingleton.elim _ _
  exact out_apply _ _ _ _ _ _ _ _ _ _ (holds m c t) hg r n

theorem final (hg : RealGates (args m c)) : (dats m 0 c).arrAt 10 cfg0.N = answer m c := by
  refine (dats m 0 c).arrAt_eq_of_covers 10 _ (by decide +kernel) fun t hf y => ?_
  rw [after0_10, out_block m c hg]
  blk_ext [index_facts t] <;> rfl

end Cert.Kernel3Ideal.Final

end
-- ==== Proof.Output.RefPoint.lean ====
/- The output's reference over the extended reals, at an index: the specification. -/
module

public import proofs.«01_k».proof.Proof.Output.Spec
public import proofs.«01_k».proof.Proof.Gen.Reference3Ideal.Run
public import Idealize.ShloMosaic.Lib.Pointwise

@[expose] public section

set_option maxRecDepth 16384

noncomputable section

namespace Cert.Reference3Ideal.Point

open Idealize.ShloMosaic Idealize.ShloMosaic.TcCoe Idealize.SL.Sem Cert.Reference3Ideal Cert.Reference3Ideal.Gen Cert.Reference3Ideal.Value Cert.Output

variable {F : FTy → Type} [FloatOps F]

/-! ### The result in named layers -/

/-- A branch's heads: its 64 sums, over the 64 divisors beside them. -/
def ratios (t : FVec F S8x4096x1024 .bf16) : FVec F S8x4096x8x64 .f32 :=
  mulf (extractStridedSlice S8x4096x8x64 ![0, 0, 0, 0] (shapeCast S8x4096x8x128 (extf .f32 t bitsLt_bf16_f32) shapeCasts_S8x4096x1024_S8x4096x8x128)
      slices_S8x4096x8x128_S8x4096x8x64_0_0_0_0)
    (Host.divf (broadcastInDim S8x4096x8x64 ![] bcast_S_S8x4096x8x64 (constant S_ .f32 0x3F800000#32))
      (extractStridedSlice S8x4096x8x64 ![0, 0, 0, 64] (shapeCast S8x4096x8x128 (extf .f32 t bitsLt_bf16_f32) shapeCasts_S8x4096x1024_S8x4096x8x128)
        slices_S8x4096x8x128_S8x4096x8x64_0_0_0_64))

/-- The gates, three per head. -/
def gates (gl : FVec F S8x4096x128 .f32) : FVec F S8x4096x8x3 .f32 :=
  shapeCast S8x4096x8x3 (extractStridedSlice S8x4096x24 ![0, 0, 0] gl slices_S8x4096x128_S8x4096x24_0_0_0) shapeCasts_S8x4096x24_S8x4096x8x3

/-- A gate for every column of its head. -/
def wide (g : FVec F S8x4096x8x1 .f32) : FVec F S8x4096x8x64 .f32 := broadcastInDim S8x4096x8x64 ![0, 1, 2, 3] bcast_S8x4096x8x1_S8x4096x8x64_0_1_2_3 g

/-- The attention. -/
def attention (oc ng : FVec F S8x4096x512 .bf16) (os ow : FVec F S8x4096x1024 .bf16) (gl : FVec F S8x4096x128 .f32) : FVec F S8x4096x512 .f32 :=
  mulf (shapeCast S8x4096x512 (addf (addf
      (mulf (wide (extractStridedSlice S8x4096x8x1 ![0, 0, 0, 0] (gates gl) slices_S8x4096x8x3_S8x4096x8x1_0_0_0_0))
        (shapeCast S8x4096x8x64 (extf .f32 oc bitsLt_bf16_f32) shapeCasts_S8x4096x512_S8x4096x8x64))
      (mulf (wide (extractStridedSlice S8x4096x8x1 ![0, 0, 0, 1] (gates gl) slices_S8x4096x8x3_S8x4096x8x1_0_0_0_1)) (ratios os)))
      (mulf (wide (extractStridedSlice S8x4096x8x1 ![0, 0, 0, 2] (gates gl) slices_S8x4096x8x3_S8x4096x8x1_0_0_0_2)) (ratios ow)))
      shapeCasts_S8x4096x8x64_S8x4096x512)
    (extf .f32 ng bitsLt_bf16_f32)

/-- The row before the norm. -/
def row (ret : FVec F S8x4096x512 .bf16) (att : FVec F S8x4096x512 .f32) (w : FVec F S1024x1024 .f32) : FVec F S8x4096x1024 .f32 :=
  Host.dotGeneral dot_S8x4096x1024_S1024x1024_S8x4096x1024_2_0_01_1_n_n none
    (concatenate S8x4096x1024 2 [⟨S8x4096x512, extf .f32 ret bitsLt_bf16_f32⟩, ⟨S8x4096x512, att⟩] concatenates_S8x4096x512_S8x4096x512_S8x4096x1024_d2) w

/-- A row over its root mean square, with the norm's gains. -/
def scaled (y : FVec F S8x4096x1024 .f32) (g : FVec F S1024 .f32) : FVec F S8x4096x1024 .f32 :=
  mulf (mulf y (broadcastInDim S8x4096x1024 ![0, 1, 2] bcast_S8x4096x1_S8x4096x1024_0_1_2 (Host.rsqrt (addf
      (Host.divf (broadcastInDim S8x4096x1 ![0, 1] bcast_S8x4096_S8x4096x1_0_1 (Host.reduceAdd (mulf y y) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The result. -/
def output (x : FVec F S8x4096x1024 .f32) (mod : FVec F S8x3072 .f32) (y : FVec F S8x4096x1024 .f32) : FVec F S8x4096x1024 .f32 :=
  addf x (mulf (broadcastInDim S8x4096x1024 ![0, 1, 2] bcast_S8x1x1024_S8x4096x1024_0_1_2 (broadcastInDim S8x1x1024 ![0, 2] bcast_S8x1024_S8x1x1024_0_2
    (extractStridedSlice S8x1024 ![0, 2048] mod slices_S8x3072_S8x1024_0_2048))) y)

/-! ### At an index -/

theorem ratios_apply (t : FVec Ideal S8x4096x1024 .bf16) (b : Fin 8) (s : Fin 4096) (n : Fin 512) :
    ratios t (ix4 b s (⟨n.val / 64, by omega⟩ : Fin 8) (⟨n.val % 64, by omega⟩ : Fin 64)) = softmaxed (fun k => t (ix3 b s k)) n := by
  unfold softmaxed
  pointwise [ratios]

theorem attention_apply (oc ng : FVec Ideal S8x4096x512 .bf16) (os ow : FVec Ideal S8x4096x1024 .bf16) (gl : FVec Ideal S8x4096x128 .f32)
    (b : Fin 8) (s : Fin 4096) (n : Fin 512) :
    attention oc ng os ow gl (ix3 b s n)
      = att (fun k => gl (ix3 b s k)) (fun k => oc (ix3 b s k)) (fun k => ng (ix3 b s k)) (fun k => os (ix3 b s k)) (fun k => ow (ix3 b s k)) n := by
  unfold att gate
  rw [← ratios_apply, ← ratios_apply]
  generalize hs : ratios os = S
  generalize hw : ratios ow = W
  rw [attention, hs, hw]
  pointwise [gates, wide]

theorem row_apply (ret : FVec Ideal S8x4096x512 .bf16) (at' : FVec Ideal S8x4096x512 .f32) (w : FVec Ideal S1024x1024 .f32)
    (b : Fin 8) (s : Fin 4096) (n : Fin 1024) :
    row ret at' w (ix3 b s n) = (∑ k : Fin 512, ret (ix3 b s k) * w (ix2 ⟨k.val, by omega⟩ n))
      + ∑ k : Fin 512, at' (ix3 b s k) * w (ix2 ⟨512 + k.val, by omega⟩ n) := by
  generalize hX : ((∑ k : Fin 512, ret (ix3 b s k) * w (ix2 ⟨k.val, by omega⟩ n) : EReal)
      + ∑ k : Fin 512, at' (ix3 b s k) * w (ix2 ⟨512 + k.val, by omega⟩ n)) = X
  pointwise [row]
  exact hX

theorem scaled_apply (y : FVec Ideal S8x4096x1024 .f32) (g : FVec Ideal S1024 .f32) (b : Fin 8) (s : Fin 4096) (n : Fin 1024) :
    scaled y g (ix3 b s n) = normed (fun k => y (ix3 b s k)) (fun k => g (ix1 k)) n := by
  unfold normed
  pointwise [scaled]

theorem output_apply (x : FVec Ideal S8x4096x1024 .f32) (mod : FVec Ideal S8x3072 .f32) (y : FVec Ideal S8x4096x1024 .f32)
    (b : Fin 8) (s : Fin 4096) (n : Fin 1024) :
    output x mod y (ix3 b s n) = x (ix3 b s n) + mod (ix2 b ⟨2048 + n.val, by omega⟩) * y (ix3 b s n) := by
  pointwise [output]

/-! ### The run's result -/

variable (m : (ℓ : Loc nD τ sig) → Buf (Elt Ideal) ℓ) (c : Dev nD)

theorem result_layers : res_out0 m c
    = output (F := Ideal) (m ((c.tc : Thread nD τ).loc main_arg0)) (m ((c.tc : Thread nD τ).loc main_arg1))
        (scaled (F := Ideal) (row (F := Ideal) (m ((c.tc : Thread nD τ).loc main_arg3))
            (attention (F := Ideal) (m ((c.tc : Thread nD τ).loc main_arg4)) (m ((c.tc : Thread nD τ).loc main_arg8)) (m ((c.tc : Thread nD τ).loc main_arg5))
              (m ((c.tc : Thread nD τ).loc main_arg6)) (m ((c.tc : Thread nD τ).loc main_arg7)))
            (m ((c.tc : Thread nD τ).loc main_arg9)))
          (m ((c.tc : Thread nD τ).loc main_arg2))) := rfl

/-- The arguments as the run starts with them. -/
def args : Args where
  x b s k := (m ((c.tc : Thread nD τ).loc main_arg0) : FVec Ideal S8x4096x1024 .f32) (ix3 b s k)
  mod b k := (m ((c.tc : Thread nD τ).loc main_arg1) : FVec Ideal S8x3072 .f32) (ix2 b k)
  g k := (m ((c.tc : Thread nD τ).loc main_arg2) : FVec Ideal S1024 .f32) (ix1 k)
  ret b s k := (m ((c.tc : Thread nD τ).loc main_arg3) : FVec Ideal S8x4096x512 .bf16) (ix3 b s k)
  oc b s k := (m ((c.tc : Thread nD τ).loc main_arg4) : FVec Ideal S8x4096x512 .bf16) (ix3 b s k)
  os b s k := (m ((c.tc : Thread nD τ).loc main_arg5) : FVec Ideal S8x4096x1024 .bf16) (ix3 b s k)
  ow b s k := (m ((c.tc : Thread nD τ).loc main_arg6) : FVec Ideal S8x4096x1024 .bf16) (ix3 b s k)
  gl b s k := (m ((c.tc : Thread nD τ).loc main_arg7) : FVec Ideal S8x4096x128 .f32) (ix3 b s k)
  ng b s k := (m ((c.tc : Thread nD τ).loc main_arg8) : FVec Ideal S8x4096x512 .bf16) (ix3 b s k)
  w k n := (m ((c.tc : Thread nD τ).loc main_arg9) : FVec Ideal S1024x1024 .f32) (ix2 k n)

theorem result_apply (b : Fin 8) (s : Fin 4096) (n : Fin 1024) : res_out0 m c (ix3 b s n) = result (args m c) b s n := by
  rw [result_layers, output_apply, scaled_apply]
  simp only [row_apply, attention_apply]
  rfl

end Cert.Reference3Ideal.Point

end
-- ==== Proof.Output.Agree.lean ====
/- The output kernel's array is the reference's where both start from the same arguments and the gates are real. -/
module

public import proofs.«01_k».proof.Defs
public import proofs.«01_k».proof.Proof.Output.Final
public import proofs.«01_k».proof.Proof.Output.RefPoint
public import Idealize.ShloMosaic.Adequacy
public import Idealize.ShloMosaic.Init

@[expose] public section

noncomputable section

namespace Cert.Output.Agree

open Idealize.ShloMosaic Idealize.ShloMosaic.TcCoe Idealize.SL.Sem

/-- A run of the reference leaves its arguments, and every semaphore at zero. -/
theorem reference_frame (hF : Cert.Reference3Ideal.Facts) : @Cert.quiescent_Reference3Ideal hF := fun m g _ =>
  (θ_run Cert.Reference3Ideal.defs _ _).mono (fun r h => ⟨fun c => (h c).2, sem_eq_zero_of_no_sems (by decide) r.2⟩)
    (Cert.Reference3Ideal.Value.run m g)

variable {m : (ℓ : Loc Cert.Kernel3Ideal.nD Cert.Kernel3Ideal.τ Cert.Kernel3Ideal.sig) → Buf (Elt Ideal) ℓ}
variable {m' : (ℓ : Loc Cert.Reference3Ideal.nD Cert.Reference3Ideal.τ Cert.Reference3Ideal.sig) → Buf (Elt Ideal) ℓ}
variable {c : Dev Cert.Kernel3Ideal.nD}

theorem answer_agree (h : Cert.Reference3Ideal.Point.args m' c = Cert.Kernel3Ideal.Final.args m c) :
    Cert.Reference3Ideal.Value.res_out0 m' c = Cert.Kernel3Ideal.Final.answer m c := by
  funext x
  obtain ⟨b, s, n, rfl⟩ : ∃ (b : Fin 8) (s : Fin 4096) (n : Fin 1024), x = ix3 b s n := ⟨x 0, x 1, x 2, eq_ix3 x⟩
  rw [Cert.Reference3Ideal.Point.result_apply, h]
  rfl

/-- The precondition says that the gates are real. -/
theorem real_gates [Cert.Pre_finite_gates.Facts]
    (real : ∀ x : EReal, Ideal.cmp .olt (max x (-x)) (Ideal.ofBits .f32 0x7F800000#32) = 1#1 → ∃ r : ℝ, x = r)
    (h : Cert.Pre_Kernel3Ideal_finite_gates m) : RealGates (Cert.Kernel3Ideal.Final.args m c) :=
  fun b s l hl => by
    have hx : (Cert.Kernel3Ideal.Final.args m c).gl b s l
        = extractStridedSlice Cert.Pre_finite_gates.S8x4096x24 ![0, 0, 0]
            (m ((c.tc : Thread Cert.Kernel3Ideal.nD Cert.Kernel3Ideal.τ).loc Cert.Kernel3Ideal.main_arg7) : FVec Ideal Cert.Pre_finite_gates.S8x4096x128 .f32)
            Cert.Pre_finite_gates.Facts.slices_S8x4096x128_S8x4096x24_0_0_0 (ix3 b s (⟨l.val, hl⟩ : Fin 24)) :=
      congrArg _ (funext fun a => by fin_cases a <;> exact Fin.ext (Nat.zero_add _).symm)
    rw [hx]
    exact real _ (congrFun (h c) (ix3 b s (⟨l.val, hl⟩ : Fin 24)))

set_option maxHeartbeats 2000000 in
theorem algebraic [Cert.Pre_finite_gates.Facts]
    (real : ∀ x : EReal, Ideal.cmp .olt (max x (-x)) (Ideal.ofBits .f32 0x7F800000#32) = 1#1 → ∃ r : ℝ, x = r) :
    @Cert.algebraic_Kernel3Ideal_Reference3Ideal_pre_finite_gates Cert.Kernel3Ideal.Gen.facts Cert.Reference3Ideal.Gen.facts _ :=
  fun m g m' g' hpre hargs =>
    ⟨fun c => Cert.Kernel3Ideal.Final.answer m c,
      (θ_run Cert.Kernel3Ideal.defs _ _).mono
        (fun _ h c => ⟨(h c).1.trans (Cert.Kernel3Ideal.Final.final m c (real_gates real hpre)), (h c).2⟩)
        (Cert.Kernel3Ideal.Value.run_blocks m g),
      (θ_run Cert.Reference3Ideal.defs _ _).mono
        (fun _ h c => ⟨(h c).1.trans (answer_agree (by
          obtain ⟨h0, h1, h2, h3, h4, h5, h6, h7, h8, h9⟩ := hargs c
          unfold Cert.Kernel3Ideal.Final.args
          rw [← h0, ← h1, ← h2, ← h3, ← h4, ← h5, ← h6, ← h7, ← h8, ← h9]
          rfl)), (h c).2⟩)
        (Cert.Reference3Ideal.Value.run m' g')⟩

end Cert.Output.Agree

end
-- ==== Proof.Modulation.Agree.lean ====
/- The modulation call's array and its reference's: at a batch and a column both are the weighted sum of the conditioning, each
   element times its logistic, and the bias. -/
module

public import proofs.«01_k».proof.Defs
public import proofs.«01_k».proof.Proof.Projection.Spec
public import proofs.«01_k».proof.Proof.Gen.Kernel4Ideal.Value
public import proofs.«01_k».proof.Proof.Gen.Kernel4Ideal.Frame
public import proofs.«01_k».proof.Proof.Gen.Reference4Ideal.Run
public import Idealize.ShloMosaic.Lib.Pointwise
public import Idealize.ShloMosaic.Lib.StableHlo.RunRead
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem

namespace Cert.Modulation

/-- The modulation of conditioning `c` at column `n`. -/
def result (c : Fin 8 → Fin 1024 → EReal) (w : Fin 1024 → Fin 3072 → EReal) (β : Fin 3072 → EReal) (b : Fin 8) (n : Fin 3072) : EReal :=
  (∑ k, Projection.silu (c b k) * w k n) + β n

end Cert.Modulation

namespace Cert.Kernel4Ideal.Final

open Cert.Kernel4Ideal Cert.Kernel4Ideal.Gen Cert.Modulation

variable (m : (ℓ : Loc nD τ sig) → Buf (Elt Ideal) ℓ) (c : Dev nD)

theorem V_bias : V m c main_v0 = shapeCast S1x1x3072 (m ((c.tc : Thread nD τ).loc main_arg2) : FVec Ideal S1x3072 .f32) shapeCasts_S1x3072_S1x1x3072 := by
  simp only [V, hostOps0, List.flatten_cons, List.flatten_nil, List.append_nil, List.cons_append, List.nil_append]
  after_reads_simp
  all_goals rfl

theorem bias_apply (x : FVec Ideal S1x3072 .f32) (n : Fin 3072) : shapeCast S1x1x3072 x shapeCasts_S1x3072_S1x1x3072 (ix3 0 0 n) = x (ix2 0 n) := by
  pointwise

/-- What the body stores, at a batch and a column of the block. -/
theorem stored_apply (x : Vec Ideal S8x1024 .f32) (w : Vec Ideal S1x1024x1024 .f32) (β : Vec Ideal S1x1x1024 .f32) (b : Fin 8) (n : Fin 1024) :
    k0_pay1 (F := Ideal) x w β (ix2 b n) = (∑ k : Fin 1024, Projection.silu (x (ix2 b k)) * w (ix3 0 k n)) + β (ix3 0 0 n) := by
  unfold Projection.silu
  pointwise [k0_pay1]

theorem zero2 : (![0, 0] : Fin 2 → ℕ) = fun _ => 0 := by decide
theorem zero3 : (![0, 0, 0] : Fin 3 → ℕ) = fun _ => 0 := by decide

theorem block_apply (x : Vec Ideal S8x1024 .f32) (w : Vec Ideal S1x1024x1024 .f32) (β : Vec Ideal S1x1x1024 .f32) (b : Fin 8) (n : Fin 1024) :
    out0_3 x w β (ix2 b n) = (∑ k : Fin 1024, Projection.silu (x (ix2 b k)) * w (ix3 0 k n)) + β (ix3 0 0 n) := by
  unfold out0_3
  rw [View.canon_unit_zero zero2, View.ld_unit_zero zero2, View.ld_unit_zero zero3, View.ld_unit_zero zero3, stored_apply]

/-- Column `n` of block `t` of the columns. -/
def col (t : Fin cfg0.N) (n : Fin 1024) : Fin 3072 := ⟨t.val * 1024 + n.val, by have : t.val < 3 := t.isLt; omega⟩

theorem index_facts : ∀ t : Fin cfg0.N, win0_0.index t = ![0, 0] ∧ win0_1.index t = ![0, 0, t.val] ∧ win0_2.index t = ![0, 0, t.val]
    ∧ win0_3.index t = ![0, t.val] :=
  (by decide +kernel : ∀ t : Fin grid0.N, _)

theorem blk0 (t : Fin cfg0.N) (b : Fin 8) (k : Fin 1024) : iblk m c 0 t (ix2 b k) = V m c main_arg0 (ix2 b k) := by
  blk_ext [iblk, index_facts t] <;> rfl
theorem blk1 (t : Fin cfg0.N) (k n : Fin 1024) : iblk m c 1 t (ix3 0 k n) = V m c main_arg1 (ix3 0 k (col t n)) := by
  blk_ext [iblk, index_facts t] <;> rfl
theorem blk2 (t : Fin cfg0.N) (n : Fin 1024) : iblk m c 2 t (ix3 0 0 n) = V m c main_v0 (ix3 0 0 (col t n)) := by
  blk_ext [iblk, index_facts t] <;> rfl

/-- The array. -/
def answer : FVec Ideal S8x3072 .f32 := fun y => result
  (fun b k => (m ((c.tc : Thread nD τ).loc main_arg0) : FVec Ideal S8x1024 .f32) (ix2 b k))
  (fun k n => (m ((c.tc : Thread nD τ).loc main_arg1) : FVec Ideal S1x1024x3072 .f32) (ix3 0 k n))
  (fun n => (m ((c.tc : Thread nD τ).loc main_arg2) : FVec Ideal S1x3072 .f32) (ix2 0 n)) (y 0) (y 1)

theorem out_block (t : Fin cfg0.N) : out0_3 (iblk m c 0 t) (iblk m c 1 t) (iblk m c 2 t)
    = (fun y => answer m c (ix2 (y 0) (col t (y 1))) : Vec Ideal S8x1024 .f32) := by
  funext y
  obtain ⟨b, n, rfl⟩ : ∃ (b : Fin 8) (n : Fin 1024), y = ix2 b n := ⟨y 0, y 1, eq_ix2 y⟩
  rw [block_apply]
  simp only [blk0, blk1, blk2]
  rw [V_bias, V_main_arg0, V_main_arg1, bias_apply]
  rfl

theorem final : (dats m 0 c).arrAt 3 cfg0.N = answer m c := by
  refine (dats m 0 c).arrAt_eq_of_covers 3 _ (by decide +kernel) fun t hf y => ?_
  rw [after0_3, out_block m c]
  blk_ext [index_facts t] <;> rfl

end Cert.Kernel4Ideal.Final

namespace Cert.Reference4Ideal.Point

open Cert.Reference4Ideal Cert.Reference4Ideal.Gen Cert.Modulation

/-- The reference's term at a batch and a column. -/
theorem term_apply (x : FVec Ideal S8x1024 .f32) (w : FVec Ideal S1x1024x3072 .f32) (β : FVec Ideal S1x3072 .f32) (b : Fin 8) (n : Fin 3072) :
    addf (Host.dotGeneral dot_S8x1024_S1024x3072_S8x3072_1_0_0_1_n_n none (mulf x (Host.divf (broadcastInDim S8x1024 ![] bcast_S_S8x1024 (constant S_ .f32 0x3F800000#32))
          (addf (broadcastInDim S8x1024 ![] bcast_S_S8x1024 (constant S_ .f32 0x3F800000#32)) (Host.exp (Host.negf x)))))
        (shapeCast S1024x3072 w shapeCasts_S1x1024x3072_S1024x3072))
      (broadcastInDim S8x3072 ![0, 1] bcast_S1x3072_S8x3072_0_1 (broadcastInDim S1x3072 ![1] bcast_S3072_S1x3072_1 (shapeCast S3072 β shapeCasts_S1x3072_S3072))) (ix2 b n)
      = result (fun b k => x (ix2 b k)) (fun k n => w (ix3 0 k n)) (fun n => β (ix2 0 n)) b n := by
  unfold result Projection.silu
  pointwise
  rfl

end Cert.Reference4Ideal.Point

namespace Cert.Modulation.Agree

/-- A run of the reference leaves its arguments, and every semaphore at zero. -/
theorem reference_frame (hF : Cert.Reference4Ideal.Facts) : @Cert.quiescent_Reference4Ideal hF := fun m g _ =>
  (θ_run Cert.Reference4Ideal.defs _ _).mono (fun r h => ⟨fun c => (h c).2, sem_eq_zero_of_no_sems (by decide) r.2⟩)
    (Cert.Reference4Ideal.Value.run m g)

theorem algebraic : @Cert.algebraic_Kernel4Ideal_Reference4Ideal Cert.Kernel4Ideal.Gen.facts Cert.Reference4Ideal.Gen.facts :=
  fun m g m' g' _ hargs =>
    ⟨fun c => Cert.Kernel4Ideal.Final.answer m c,
      (θ_run Cert.Kernel4Ideal.defs _ _).mono
        (fun _ h c => ⟨(h c).1.trans (Cert.Kernel4Ideal.Final.final m c), (h c).2⟩)
        (Cert.Kernel4Ideal.Value.run_blocks m g),
      (θ_run Cert.Reference4Ideal.defs _ _).mono
        (fun _ h c => ⟨(h c).1.trans (by
          obtain ⟨h0, h1, h2⟩ := hargs c
          rw [h0, h1, h2]
          funext y
          obtain ⟨b, n, rfl⟩ : ∃ (b : Fin 8) (n : Fin 3072), y = ix2 b n := ⟨y 0, y 1, eq_ix2 y⟩
          exact Cert.Reference4Ideal.Point.term_apply _ _ _ b n), (h c).2⟩)
        (Cert.Reference4Ideal.Value.run m' g')⟩

end Cert.Modulation.Agree

end
-- ==== Proof.Compression.Body.lean ====
/- The compression kernel's body: the block it leaves, at a chunk and a column. -/
module

public import proofs.«01_k».proof.Proof.Projection.Tile
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Kernel5Ideal.Body

open Idealize.ShloMosaic Idealize.ShloMosaic.TcCoe Idealize.SL.Sem Cert.Kernel5Ideal Cert.Kernel5Ideal.Gen
open Cert.Kernel2Ideal.Tile (select_ofBool head_slt_16 head_slt_8 half_slt turn_8)
open Cert.Projection (turn silu)

abbrev Rows := Vec Ideal S1x256x128 .f32
abbrev Place := Vec Ideal S1x1x128 .f32
abbrev Weight := Vec Ideal S1x1x128x256 .bf16

/-- A pair of tokens' share of the hidden layer: the first token's lanes, then the second's. -/
def part (a b : Rows) (pe : Place) (w : Weight) (n h : Fin 256) : EReal :=
  ∑ l : Fin 128, ((if l.val < 64 then a (ix3 0 n l) else b (ix3 0 n l)) + pe (ix3 0 0 l)) * w (ix4 0 0 l h)

section Parts
variable (p : FVec Ideal S256x256 .f32) (a b a' b' : Rows) (pe pe' : Place) (w w' : Weight) (n h : Fin 256)

theorem pay4_apply : k0_pay4 (F := Ideal) a b pe w (ix2 n h) = part a b pe w n h := by
  pointwise [k0_pay4, k0_pay3, k0_pay2]
  simp only [half_slt, select_ofBool]
  rfl
theorem pay5_apply : k0_pay5 (F := Ideal) a b pe w (ix2 n h) = part a b pe w n h := pay4_apply a b pe w n h
theorem pay7_apply : k0_pay7 (F := Ideal) k0_pay2 p a b pe w (ix2 n h) = p (ix2 n h) + part a b pe w n h := by
  pointwise [k0_pay7, k0_pay6, k0_pay2]
  simp only [half_slt, select_ofBool]
  rfl
theorem pay8_apply : k0_pay8 (F := Ideal) k0_pay2 p a b pe w (ix2 n h) = p (ix2 n h) + part a b pe w n h := pay7_apply p a b pe w n h
theorem pay11_apply : k0_pay11 (F := Ideal) p (k0_pay9 k0_pay2 a b) pe w (ix2 n h) = p (ix2 n h) + part a b pe w n h := pay7_apply p a b pe w n h
theorem pay13_apply : k0_pay13 (F := Ideal) k0_pay2 p (k0_pay10 k0_pay2 a b pe) w a' b' pe' w' (ix2 n h)
    = p (ix2 n h) + part a b pe w n h + part a' b' pe' w' n h :=
  (pay7_apply (k0_pay7 k0_pay2 p a b pe w) a' b' pe' w' n h).trans (by rw [pay7_apply])
theorem pay16_apply : k0_pay16 (F := Ideal) k0_pay2 p a b pe w (ix2 n h) = p (ix2 n h) + part a b pe w n h := pay7_apply p a b pe w n h
theorem pay17_apply : k0_pay17 (F := Ideal) k0_pay2 p (k0_pay12 k0_pay2 a b) (k0_pay14 pe) w a' b' pe' w' (ix2 n h)
    = p (ix2 n h) + part a b pe w n h + part a' b' pe' w' n h := pay13_apply p a b a' b' pe pe' w w' n h
theorem pay19_apply : k0_pay19 (F := Ideal) k0_pay2 p a b pe w (ix2 n h) = p (ix2 n h) + part a b pe w n h := pay7_apply p a b pe w n h
theorem pay20_apply : k0_pay20 (F := Ideal) k0_pay2 p a b pe w (ix2 n h) = p (ix2 n h) + part a b pe w n h := pay7_apply p a b pe w n h
theorem pay23_apply : k0_pay23 (F := Ideal) p (k0_pay21 k0_pay2 a b) pe w (ix2 n h) = p (ix2 n h) + part a b pe w n h := pay7_apply p a b pe w n h
theorem pay25_apply : k0_pay25 (F := Ideal) k0_pay2 p (k0_pay22 k0_pay2 a b pe) w a' b' pe' w' (ix2 n h)
    = p (ix2 n h) + part a b pe w n h + part a' b' pe' w' n h := pay13_apply p a b a' b' pe pe' w w' n h

end Parts

variable (a : ℕ → Rows) (pe : ℕ → Place) (w : ℕ → Weight)

/-- The first tokens' sum, left to right. -/
def low : FVec Ideal S256x256 .f32 :=
  k0_pay25 k0_pay2 (k0_pay19 k0_pay2 (k0_pay16 k0_pay2 (k0_pay13 k0_pay2 (k0_pay7 k0_pay2 (k0_pay4 (a 0) (a 1) (pe 0) (w 0))
    (a 2) (a 3) (pe 1) (w 1)) (k0_pay10 k0_pay2 (a 4) (a 5) (pe 2)) (w 2) (a 6) (a 7) (pe 3) (w 3))
    (a 8) (a 9) (pe 4) (w 4)) (a 10) (a 11) (pe 5) (w 5)) (k0_pay22 k0_pay2 (a 12) (a 13) (pe 6)) (w 6) (a 14) (a 15) (pe 7) (w 7)

/-- The last tokens' sum but for its last pair. -/
def high7 : FVec Ideal S256x256 .f32 :=
  k0_pay23 (k0_pay20 k0_pay2 (k0_pay17 k0_pay2 (k0_pay11 (k0_pay8 k0_pay2 (k0_pay5 (a 0) (a 1) (pe 8) (w 8))
    (a 2) (a 3) (pe 9) (w 9)) (k0_pay9 k0_pay2 (a 4) (a 5)) (pe 10) (w 10)) (k0_pay12 k0_pay2 (a 6) (a 7)) (k0_pay14 (pe 11)) (w 11)
    (a 8) (a 9) (pe 12) (w 12)) (a 10) (a 11) (pe 13) (w 13)) (k0_pay21 k0_pay2 (a 12) (a 13)) (pe 14) (w 14)

/-- A chunk's sum over its eight pairs of tokens, the places and weights from `o`. -/
def half (o : ℕ) (n h : Fin 256) : EReal := ∑ k : Fin 8, part (a (2 * k.val)) (a (2 * k.val + 1)) (pe (o + k.val)) (w (o + k.val)) n h

theorem low_apply (n h : Fin 256) : low a pe w (ix2 n h) = half a pe w 0 n h := by
  unfold low half
  rw [pay25_apply, pay19_apply, pay16_apply, pay13_apply, pay7_apply, pay4_apply]
  simp only [Fin.sum_univ_eight]
  rfl
theorem high7_apply (n h : Fin 256) : high7 a pe w (ix2 n h) + part (a 14) (a 15) (pe 15) (w 15) n h = half a pe w 8 n h := by
  unfold high7 half
  rw [pay23_apply, pay20_apply, pay17_apply, pay11_apply, pay8_apply, pay5_apply]
  simp only [Fin.sum_univ_eight]
  rfl

/-- The chunk after, the first one after the last. -/
def next (n : Fin 256) : Fin 256 := ⟨(n.val + 256 - 255) % 256, by omega⟩

variable (w2 : Vec Ideal S1x256x128 .bf16) (p : Vec Ideal S1x256x1 .i32) (q : Vec Ideal S1x128 .f32)

/-- The product with the second weights. -/
def out : FVec Ideal S256x128 .f32 :=
  k0_pay27 (high7 a pe w) (k0_pay24 k0_pay2 (a 14) (a 15)) (low a pe w) (k0_pay26 (pe 15)) (w 15) w2

theorem pay27_apply (u v : FVec Ideal S256x256 .f32) (a b : Rows) (pe : Place) (w : Weight) (n : Fin 256) (l : Fin 128) :
    k0_pay27 (F := Ideal) u (k0_pay24 k0_pay2 a b) v (k0_pay26 pe) w w2 (ix2 n l)
      = ∑ h : Fin 256, silu (v (ix2 n h) + (u (ix2 (next n) h) + part a b pe w (next n) h)) * w2 (ix3 0 h l) := by
  pointwise [k0_pay27, k0_pay24, k0_pay26, k0_pay2]
  simp only [half_slt, select_ofBool]
  rfl

theorem out_apply (n : Fin 256) (l : Fin 128) : out a pe w w2 (ix2 n l)
    = ∑ h : Fin 256, silu (half a pe w 0 n h + half a pe w 8 (next n) h) * w2 (ix3 0 h l) := by
  unfold out
  rw [pay27_apply]
  simp only [low_apply, high7_apply]

/-- The block stored. -/
def body (j : BitVec 32) : Vec Ideal S1x1x1x256x128 .bf16 :=
  k0_pay1 j (out a pe w w2) k0_pay28 (k0_pay30 p q) (k0_pay31 p q) k0_pay32 (k0_pay33 p q) k0_pay34 k0_pay35

theorem first_eq (j : Fin 2) : Scalar.cmpi .eq (BitVec.ofNat 32 j) 0#32 = BitVec.ofBool (decide (j.val = 0)) := by
  revert j; decide +kernel

theorem body_apply (j : Fin 2) (f ang : ℕ → EReal) (n : Fin 256) (hz : ∀ l : Fin 128, out a pe w w2 (ix2 n l) = f l)
    (hq : ∀ l : Fin 128, FloatOps.sitofp (F := Ideal) .f32 (p (ix3 0 n 0)) * q (ix2 0 l) = ang (l % 64 % 8)) (l : Fin 128) :
    body a pe w w2 p q (BitVec.ofNat 32 j) (ix5 0 0 0 n l)
      = if j.val = 0 then turn 8 ang (fun i => f (l / 64 * 64 + i)) (l % 64) else f l := by
  unfold body
  pointwise [k0_pay1, k0_pay28, k0_pay30, k0_pay31, k0_pay32, k0_pay33, k0_pay34, k0_pay35, k0_pay29]
  simp only [head_slt_16, head_slt_8, first_eq, select_ofBool, hz, hq]
  rw [turn_8]

/-! ### The loads -/

variable (m : (ℓ : Loc nD τ sig) → Buf (Elt Ideal) ℓ) (c : Dev nD)

/-- Token `q` of every chunk of 16; pair `q` of the places and of the weights. -/
def tokens (x : Vec Ideal S1x4096x128 .f32) (q : ℕ) : Rows := fun y => x (ix3 0 ⟨(16 * (y 1).val + q) % 4096, by omega⟩ (y 2))
def places (x : Vec Ideal S1x16x128 .f32) (q : ℕ) : Place := fun y => x (ix3 0 ⟨q % 16, by omega⟩ (y 2))
def weights (x : Vec Ideal S1x16x128x256 .bf16) (q : ℕ) : Weight := fun y => x (ix4 0 ⟨q % 16, by omega⟩ (y 2) (y 3))

theorem tokens_eq (t : Fin cfg0.N) (x : Vec Ideal S1x4096x128 .f32) (q : ℕ) (hq : q < 16) (inb) (hw : (ms0_0 t).IsWhole) :
    View.readAt (Elt Ideal) (ms0_0 t).view (⟨![0, q, 0], ![1, 256, 128], ![1, 16, 1], inb⟩ : LoadRect S1x4096x128) (hw.unread x) = tokens x q := by
  funext y
  rw [View.readAt_apply, hw.read_unread]
  refine congrArg x (funext fun a => Fin.ext ?_)
  have h1 : (y 1).val < 256 := (y 1).isLt
  fin_cases a
  · show 0 + 1 * (y 0).val = 0; have : (y 0).val < 1 := (y 0).isLt; omega
  · show q + 16 * (y 1).val = (16 * (y 1).val + q) % 4096; omega
  · show 0 + 1 * (y 2).val = (y 2).val; omega
theorem places_eq (x : Vec Ideal S1x16x128 .f32) (q : ℕ) (hq : q < 16) (inb) :
    View.ld x (Rect.unit (s := S1x16x128) ![0, q, 0] ![1, 1, 128] inb) = places x q := by
  funext y
  refine View.ld_unit_apply_of x _ _ inb _ (ix3 0 ⟨q % 16, by omega⟩ (y 2)) fun a => ?_
  fin_cases a
  · show 0 = 0 + (y 0).val; have : (y 0).val < 1 := (y 0).isLt; omega
  · show q % 16 = q + (y 1).val; have : (y 1).val < 1 := (y 1).isLt; omega
  · show (y 2).val = 0 + (y 2).val; omega
theorem weights_eq (x : Vec Ideal S1x16x128x256 .bf16) (q : ℕ) (hq : q < 16) (inb) :
    View.ld x (Rect.unit (s := S1x16x128x256) ![0, q, 0, 0] ![1, 1, 128, 256] inb) = weights x q := by
  funext y
  refine View.ld_unit_apply_of x _ _ inb _ (ix4 0 ⟨q % 16, by omega⟩ (y 2) (y 3)) fun a => ?_
  fin_cases a
  · show 0 = 0 + (y 0).val; have : (y 0).val < 1 := (y 0).isLt; omega
  · show q % 16 = q + (y 1).val; have : (y 1).val < 1 := (y 1).isLt; omega
  · show (y 2).val = 0 + (y 2).val; omega
  · show (y 3).val = 0 + (y 3).val; omega

theorem outs_eq (t : Fin cfg0.N) : outsAt0 m c t
    = body (tokens (iblk m c 0 t)) (places (iblk m c 1 t)) (weights (iblk m c 2 t)) (iblk m c 3 t) (iblk m c 4 t) (iblk m c 5 t)
        (BitVec.ofNat 32 (grid0.coords t 1).val) := by
  unfold outsAt0
  frame_out
  rw [tokens_eq t _ 0 (by decide), tokens_eq t _ 1 (by decide), tokens_eq t _ 2 (by decide), tokens_eq t _ 3 (by decide),
    tokens_eq t _ 4 (by decide), tokens_eq t _ 5 (by decide), tokens_eq t _ 6 (by decide), tokens_eq t _ 7 (by decide),
    tokens_eq t _ 8 (by decide), tokens_eq t _ 9 (by decide), tokens_eq t _ 10 (by decide), tokens_eq t _ 11 (by decide),
    tokens_eq t _ 12 (by decide), tokens_eq t _ 13 (by decide), tokens_eq t _ 14 (by decide), tokens_eq t _ 15 (by decide)]
  simp only [places_eq _ 0 (by decide), places_eq _ 1 (by decide), places_eq _ 2 (by decide), places_eq _ 3 (by decide),
    places_eq _ 4 (by decide), places_eq _ 5 (by decide), places_eq _ 6 (by decide), places_eq _ 7 (by decide),
    places_eq _ 8 (by decide), places_eq _ 9 (by decide), places_eq _ 10 (by decide), places_eq _ 11 (by decide),
    places_eq _ 12 (by decide), places_eq _ 13 (by decide), places_eq _ 14 (by decide), places_eq _ 15 (by decide),
    weights_eq _ 0 (by decide), weights_eq _ 1 (by decide), weights_eq _ 2 (by decide), weights_eq _ 3 (by decide),
    weights_eq _ 4 (by decide), weights_eq _ 5 (by decide), weights_eq _ 6 (by decide), weights_eq _ 7 (by decide),
    weights_eq _ 8 (by decide), weights_eq _ 9 (by decide), weights_eq _ 10 (by decide), weights_eq _ 11 (by decide),
    weights_eq _ 12 (by decide), weights_eq _ 13 (by decide), weights_eq _ 14 (by decide), weights_eq _ 15 (by decide)]
  rfl

end Cert.Kernel5Ideal.Body

end
-- ==== Proof.Compression.Spec.lean ====
/- The compression over the extended reals: the array that the kernel and the reference are both shown to compute. -/
module

public import proofs.«01_k».proof.Proof.Projection.Spec

@[expose] public section

noncomputable section

namespace Cert.Compression

open Idealize.ShloMosaic Cert.Projection

/-- The arguments: the keys and values to compress, each block's position, and for the keys and the values the places and the weights. -/
structure Args where
  x : Fin 8 → Fin 4096 → Fin 512 → EReal
  pos : Fin 8 → Fin 256 → BitVec 32
  pe : Fin 2 → Fin 32 → Fin 64 → EReal
  w1 : Fin 2 → Fin 2048 → Fin 256 → EReal
  w2 : Fin 2 → Fin 256 → Fin 64 → EReal

variable (A : Args) (b : Fin 8) (j g : Fin 2) (n : Fin 256)

/-- Element `q` of block `n`: token `q / 64`, the tokens after the last going round to the first; an even token's 64 columns lie in the first
    copy of its group, an odd token's in the second. -/
def element (q : Fin 2048) : EReal :=
  A.x b ⟨(16 * n.val + q.val / 64) % 4096, by omega⟩ ⟨(2 * j.val + g.val) * 128 + q.val / 64 % 2 * 64 + q.val % 64, by omega⟩

/-- The hidden layer. -/
def hidden (h : Fin 256) : EReal :=
  ∑ q : Fin 2048, (element A b j g n q + A.pe j ⟨q.val / 64, by omega⟩ ⟨q.val % 64, by omega⟩) * A.w1 j q h

/-- The block's one key or value, at column `d`. -/
def token (d : ℕ) : EReal := ∑ h, silu (hidden A b j g n h) * A.w2 j h ⟨d % 64, by omega⟩

/-- The array: the keys rotated, the values as they are, the columns twice. -/
def result (l : Fin 128) : EReal :=
  if j.val = 0 then turn 8 (fun i => FloatOps.sitofp (F := Ideal) .f32 (A.pos b n) * nsaRate i) (token A b j g n) (l.val % 64)
  else token A b j g n (l.val % 64)

/-- A sum of 2048 in sixteen parts of 128, the first eight and the last eight. -/
theorem sum_split (F : Fin 2048 → EReal) : ∑ q, F q
    = (∑ k : Fin 8, ∑ l : Fin 128, F ⟨128 * k.val + l.val, by omega⟩) + ∑ k : Fin 8, ∑ l : Fin 128, F ⟨1024 + 128 * k.val + l.val, by omega⟩ := by
  obtain ⟨G, hG⟩ : ∃ G : ℕ → EReal, ∀ (q : ℕ) (h : q < 2048), F ⟨q, h⟩ = G q :=
    ⟨fun q => if h : q < 2048 then F ⟨q, h⟩ else 0, fun q h => by simp only [h, dite_true]⟩
  have parts : ∀ o : ℕ, ∑ i ∈ Finset.range 1024, G (o + i) = ∑ k : Fin 8, ∑ l : Fin 128, G (o + 128 * k.val + l.val) := fun o => by
    have h : ∀ r : ℕ, ∑ i ∈ Finset.range (128 * r), G (o + i) = ∑ k ∈ Finset.range r, ∑ l ∈ Finset.range 128, G (o + 128 * k + l) := fun r => by
      induction r with
      | zero => simp
      | succ r ih => rw [Finset.sum_range_succ, ← ih, Nat.mul_succ, Finset.sum_range_add]; simp only [Nat.add_assoc]
    rw [show (1024 : ℕ) = 128 * 8 by decide, h, Finset.sum_range]
    exact Finset.sum_congr rfl fun k _ => Finset.sum_range _
  calc ∑ q, F q = ∑ q : Fin 2048, G q.val := Finset.sum_congr rfl fun q _ => hG q.val q.isLt
    _ = ∑ i ∈ Finset.range 2048, G i := (Finset.sum_range _).symm
    _ = (∑ i ∈ Finset.range 1024, G (0 + i)) + ∑ i ∈ Finset.range 1024, G (1024 + i) := by
      rw [show (2048 : ℕ) = 1024 + 1024 by decide, Finset.sum_range_add]; simp only [Nat.zero_add]
    _ = _ := by
      rw [parts 0, parts 1024]
      simp only [hG, Nat.zero_add]

end Cert.Compression

end
-- ==== Proof.Compression.Final.lean ====
/- The compression call's array: block by block what the body leaves, over the host's tables. -/
module

public import proofs.«01_k».proof.Proof.Compression.Body
public import proofs.«01_k».proof.Proof.Compression.Spec
public import proofs.«01_k».proof.Proof.Projection.Tables
public import Idealize.ShloMosaic.Lib.StableHlo.RunRead
public import Idealize.ShloMosaic.Lib.StableHlo.Predicate

@[expose] public section

set_option maxRecDepth 16384

noncomputable section

namespace Cert.Kernel5Ideal.Final

open Idealize.ShloMosaic Idealize.ShloMosaic.TcCoe Idealize.SL.Sem Cert.Kernel5Ideal Cert.Kernel5Ideal.Gen Cert.Kernel5Ideal.Body
open Cert.Kernel2Ideal.Tables (nsaRow nsaRow_apply)
open Cert.Compression (Args)
open Cert.Projection (silu nsaRate)

variable (m : (ℓ : Loc nD τ sig) → Buf (Elt Ideal) ℓ) (c : Dev nD)

/-- The places of the keys and of the values, two tokens of 64 to a row. -/
def pePair (k v : FVec Ideal S32x64 .f32) : FVec Ideal S2x16x128 .f32 :=
  shapeCast S2x16x128 (concatenate S2x32x64 0 [⟨S1x32x64, broadcastInDim S1x32x64 ![1, 2] bcast_S32x64_S1x32x64_1_2 k⟩,
    ⟨S1x32x64, broadcastInDim S1x32x64 ![1, 2] bcast_S32x64_S1x32x64_1_2 v⟩] concatenates_S1x32x64_S1x32x64_S2x32x64_d0) shapeCasts_S2x32x64_S2x16x128

/-- The first weights of both, 128 rows to a pair of tokens. -/
def w1Pair (k v : FVec Ideal S2048x256 .f32) : FVec Ideal S2x16x128x256 .bf16 :=
  truncf .bf16 (shapeCast S2x16x128x256 (concatenate S2x2048x256 0 [⟨S1x2048x256, broadcastInDim S1x2048x256 ![1, 2] bcast_S2048x256_S1x2048x256_1_2 k⟩,
    ⟨S1x2048x256, broadcastInDim S1x2048x256 ![1, 2] bcast_S2048x256_S1x2048x256_1_2 v⟩] concatenates_S1x2048x256_S1x2048x256_S2x2048x256_d0)
    shapeCasts_S2x2048x256_S2x16x128x256) bitsLt_bf16_f32

/-- The second weights of both, their columns twice. -/
def w2Pair (k v : FVec Ideal S256x64 .f32) : FVec Ideal S2x256x128 .bf16 :=
  let s : FVec Ideal S2x256x64 .f32 := concatenate S2x256x64 0 [⟨S1x256x64, broadcastInDim S1x256x64 ![1, 2] bcast_S256x64_S1x256x64_1_2 k⟩,
    ⟨S1x256x64, broadcastInDim S1x256x64 ![1, 2] bcast_S256x64_S1x256x64_1_2 v⟩] concatenates_S1x256x64_S1x256x64_S2x256x64_d0
  truncf .bf16 (concatenate S2x256x128 2 [⟨S2x256x64, s⟩, ⟨S2x256x64, s⟩] concatenates_S2x256x64_S2x256x64_S2x256x128_d2) bitsLt_bf16_f32

/-- Each block's position: that of its last token, and zero for the block after the last. -/
def posPad (p : IVec S8x4096 32) : IVec S8x256 32 :=
  pad S8x256 ![0, 0] ![0, 1] ![0, 0] (Host.gather gather_S8x4096_S255x1_S8x255_0_1_n_n_1_1_81 p
    (broadcastInDim S255x1 ![0] bcast_S255_S255x1_0 (select (constantI S255 1 0#1)
      (addi (fun i => lit0 (S255.rowMajor i)) (broadcastInDim S255 ![] bcast_S_S255 (constantI S_ 32 4096#32))) fun i => lit0 (S255.rowMajor i))))
    (id (constantI S_ 32 0#32)) pads_S8x255_S8x256_000_010 h_S_

set_option maxHeartbeats 4000000 in
theorem V_pe : V m c main_v19 = pePair (m ((c.tc : Thread nD τ).loc main_arg2)) (m ((c.tc : Thread nD τ).loc main_arg5)) := by
  simp only [V, hostOps0, hostOps0_1, hostOps0_2, hostOps0_3, hostOps0_4, List.flatten_cons, List.flatten_nil, List.append_nil, List.cons_append, List.nil_append]
  after_reads_simp
  all_goals rfl

set_option maxHeartbeats 4000000 in
theorem V_w1 : V m c main_v24 = w1Pair (m ((c.tc : Thread nD τ).loc main_arg3)) (m ((c.tc : Thread nD τ).loc main_arg6)) := by
  simp only [V, hostOps0, hostOps0_1, hostOps0_2, hostOps0_3, hostOps0_4, List.flatten_cons, List.flatten_nil, List.append_nil, List.cons_append, List.nil_append]
  after_reads_simp
  all_goals rfl

set_option maxHeartbeats 4000000 in
theorem V_w2 : V m c main_v29 = w2Pair (m ((c.tc : Thread nD τ).loc main_arg4)) (m ((c.tc : Thread nD τ).loc main_arg7)) := by
  simp only [V, hostOps0, hostOps0_1, hostOps0_2, hostOps0_3, hostOps0_4, List.flatten_cons, List.flatten_nil, List.append_nil, List.cons_append, List.nil_append]
  after_reads_simp
  all_goals rfl

set_option maxHeartbeats 4000000 in
theorem V_pos : V m c main_v36 = shapeCast S8x256x1 (posPad (m ((c.tc : Thread nD τ).loc main_arg1))) shapeCasts_S8x256_S8x256x1 := by
  simp only [V, hostOps0, hostOps0_1, hostOps0_2, hostOps0_3, hostOps0_4, List.flatten_cons, List.flatten_nil, List.append_nil, List.cons_append, List.nil_append]
  after_reads_simp
  all_goals rfl

set_option maxHeartbeats 4000000 in
theorem V_row : V m c main_v15 = nsaRow := by
  simp only [V, hostOps0, hostOps0_1, hostOps0_2, hostOps0_3, hostOps0_4, List.flatten_cons, List.flatten_nil, List.append_nil, List.cons_append, List.nil_append]
  after_reads_simp
  all_goals rfl

theorem pePair_apply (k v : FVec Ideal S32x64 .f32) (j : Fin 2) (r : Fin 16) (l : Fin 128) :
    pePair k v (ix3 j r l) = (if j.val = 0 then k else v) (ix2 ⟨r.val * 2 + l.val / 64, by omega⟩ ⟨l.val % 64, by omega⟩) := by
  fin_cases j <;> pointwise [pePair]

theorem w1Pair_apply (k v : FVec Ideal S2048x256 .f32) (j : Fin 2) (r : Fin 16) (l : Fin 128) (h : Fin 256) :
    w1Pair k v (ix4 j r l h) = (if j.val = 0 then k else v) (ix2 ⟨r.val * 128 + l.val, by omega⟩ h) := by
  fin_cases j <;> pointwise [w1Pair]

theorem w2Pair_apply (k v : FVec Ideal S256x64 .f32) (j : Fin 2) (h : Fin 256) (l : Fin 128) :
    w2Pair k v (ix3 j h l) = (if j.val = 0 then k else v) (ix2 h ⟨l.val % 64, by omega⟩) := by
  fin_cases j <;> pointwise [w2Pair] <;> split <;> refine congrArg _ (congrArg (ix2 h) (Fin.ext ?_))
  all_goals first | (show l.val = l.val % 64; omega) | (show l.val - 64 = l.val % 64; omega)

theorem posCol_apply (p : IVec S8x256 32) (b : Fin 8) (n : Fin 256) : shapeCast S8x256x1 p shapeCasts_S8x256_S8x256x1 (ix3 b n 0) = p (ix2 b n) := by
  pointwise

theorem index_facts : ∀ t : Fin cfg0.N, win0_0.index t = ![t.val / 4, 0, 2 * (t.val / 2 % 2) + t.val % 2] ∧ win0_1.index t = ![t.val / 2 % 2, 0, 0]
    ∧ win0_2.index t = ![t.val / 2 % 2, 0, 0, 0] ∧ win0_3.index t = ![t.val / 2 % 2, 0, 0] ∧ win0_4.index t = ![t.val / 4, 0, 0]
    ∧ win0_5.index t = ![0, 0] ∧ win0_6.index t = ![t.val / 4, t.val / 2 % 2, t.val % 2, 0, 0] :=
  (by decide +kernel : ∀ t : Fin grid0.N, _)
theorem coord_one : ∀ t : Fin cfg0.N, (grid0.coords t 1).val = t.val / 2 % 2 := (by decide +kernel : ∀ t : Fin grid0.N, _)

/-- A point's batch, whether it does the keys or the values, and its group. -/
def bt (t : Fin cfg0.N) : Fin 8 := ⟨t.val / 4, by have : t.val < 32 := t.isLt; omega⟩
def jt (t : Fin cfg0.N) : Fin 2 := ⟨t.val / 2 % 2, by omega⟩
def gt (t : Fin cfg0.N) : Fin 2 := ⟨t.val % 2, by omega⟩

/-- The arguments. -/
def args : Args where
  x b s k := (m ((c.tc : Thread nD τ).loc main_arg0) : FVec Ideal S8x4096x512 .f32) (ix3 b s k)
  pos b n := posPad (m ((c.tc : Thread nD τ).loc main_arg1)) (ix2 b n)
  pe j p d := (if j.val = 0 then (m ((c.tc : Thread nD τ).loc main_arg2) : FVec Ideal S32x64 .f32) else m ((c.tc : Thread nD τ).loc main_arg5)) (ix2 p d)
  w1 j q h := (if j.val = 0 then (m ((c.tc : Thread nD τ).loc main_arg3) : FVec Ideal S2048x256 .f32) else m ((c.tc : Thread nD τ).loc main_arg6)) (ix2 q h)
  w2 j h d := (if j.val = 0 then (m ((c.tc : Thread nD τ).loc main_arg4) : FVec Ideal S256x64 .f32) else m ((c.tc : Thread nD τ).loc main_arg7)) (ix2 h d)

section Blocks
variable (t : Fin cfg0.N)

theorem blk0 (s : Fin 4096) (l : Fin 128) : iblk m c 0 t (ix3 0 s l)
    = (args m c).x (bt t) s ⟨(2 * (jt t).val + (gt t).val) * 128 + l.val, by have := (jt t).isLt; have := (gt t).isLt; omega⟩ := by
  have h : iblk m c 0 t (ix3 0 s l) = V m c main_arg0 (ix3 (bt t) s ⟨(2 * (jt t).val + (gt t).val) * 128 + l.val, by have := (jt t).isLt; have := (gt t).isLt; omega⟩) := by
    blk_ext [iblk, index_facts t] <;> rfl
  rw [h, V_main_arg0]; rfl
theorem blk1 (r : Fin 16) (l : Fin 128) : iblk m c 1 t (ix3 0 r l) = (args m c).pe (jt t) ⟨r.val * 2 + l.val / 64, by omega⟩ ⟨l.val % 64, by omega⟩ := by
  have h : iblk m c 1 t (ix3 0 r l) = V m c main_v19 (ix3 (jt t) r l) := by blk_ext [iblk, index_facts t] <;> rfl
  rw [h, V_pe, pePair_apply]; rfl
theorem blk2 (r : Fin 16) (l : Fin 128) (h : Fin 256) : iblk m c 2 t (ix4 0 r l h) = (args m c).w1 (jt t) ⟨r.val * 128 + l.val, by omega⟩ h := by
  have h' : iblk m c 2 t (ix4 0 r l h) = V m c main_v24 (ix4 (jt t) r l h) := by blk_ext [iblk, index_facts t] <;> rfl
  rw [h', V_w1, w1Pair_apply]; rfl
theorem blk3 (h : Fin 256) (l : Fin 128) : iblk m c 3 t (ix3 0 h l) = (args m c).w2 (jt t) h ⟨l.val % 64, by omega⟩ := by
  have h' : iblk m c 3 t (ix3 0 h l) = V m c main_v29 (ix3 (jt t) h l) := by blk_ext [iblk, index_facts t] <;> rfl
  rw [h', V_w2, w2Pair_apply]; rfl
theorem blk4 (n : Fin 256) : iblk m c 4 t (ix3 0 n 0) = (args m c).pos (bt t) n := by
  have h : iblk m c 4 t (ix3 0 n 0) = V m c main_v36 (ix3 (bt t) n 0) := by blk_ext [iblk, index_facts t] <;> rfl
  rw [h, V_pos, posCol_apply]; rfl
theorem blk5 (l : Fin 128) : iblk m c 5 t (ix2 0 l) = nsaRate (l.val % 8) := by
  have h : iblk m c 5 t (ix2 0 l) = V m c main_v15 (ix2 0 l) := by blk_ext [iblk, index_facts t] <;> rfl
  rw [h, V_row, nsaRow_apply]

/-- Pair `k` of the tokens from token `16 n`, at a lane. -/
theorem pair_apply (n : Fin 256) (k : Fin 8) (l : Fin 128) (s : Fin 4096) (hs : s.val = (16 * n.val + 2 * k.val + l.val / 64) % 4096) :
    (if l.val < 64 then tokens (iblk m c 0 t) (2 * k.val) (ix3 0 n l) else tokens (iblk m c 0 t) (2 * k.val + 1) (ix3 0 n l))
      = (args m c).x (bt t) s ⟨(2 * (jt t).val + (gt t).val) * 128 + l.val, by have := (jt t).isLt; have := (gt t).isLt; omega⟩ := by
  rw [← blk0]
  split
  · exact congrArg (fun s => iblk m c 0 t (ix3 0 s l)) (Fin.ext (by show (16 * n.val + 2 * k.val) % 4096 = s.val; omega))
  · exact congrArg (fun s => iblk m c 0 t (ix3 0 s l)) (Fin.ext (by show (16 * n.val + (2 * k.val + 1)) % 4096 = s.val; omega))

theorem term_apply (n n' : Fin 256) (o : ℕ) (k : Fin 8) (ho : o + k.val < 16) (h : Fin 256) (l : Fin 128) (q : Fin 2048) (hq : q.val = 128 * (o + k.val) + l.val)
    (hn : (16 * n'.val + 2 * k.val + l.val / 64) % 4096 = (16 * n.val + q.val / 64) % 4096) :
    ((if l.val < 64 then tokens (iblk m c 0 t) (2 * k.val) (ix3 0 n' l) else tokens (iblk m c 0 t) (2 * k.val + 1) (ix3 0 n' l))
        + places (iblk m c 1 t) (o + k.val) (ix3 0 0 l)) * weights (iblk m c 2 t) (o + k.val) (ix4 0 0 l h)
      = (Compression.element (args m c) (bt t) (jt t) (gt t) n q + (args m c).pe (jt t) ⟨q.val / 64, by omega⟩ ⟨q.val % 64, by omega⟩)
          * (args m c).w1 (jt t) q h := by
  have hp : places (iblk m c 1 t) (o + k.val) (ix3 0 0 l) = (args m c).pe (jt t) ⟨q.val / 64, by omega⟩ ⟨q.val % 64, by omega⟩ :=
    (blk1 m c t ⟨(o + k.val) % 16, by omega⟩ l).trans (congrArg₂ ((args m c).pe (jt t))
      (Fin.ext (by show (o + k.val) % 16 * 2 + l.val / 64 = q.val / 64; omega)) (Fin.ext (by show l.val % 64 = q.val % 64; omega)))
  have hw : weights (iblk m c 2 t) (o + k.val) (ix4 0 0 l h) = (args m c).w1 (jt t) q h :=
    (blk2 m c t ⟨(o + k.val) % 16, by omega⟩ l h).trans (congrArg (fun q => (args m c).w1 (jt t) q h)
      (Fin.ext (by show (o + k.val) % 16 * 128 + l.val = q.val; omega)))
  rw [hp, hw, pair_apply m c t n' k l ⟨(16 * n.val + q.val / 64) % 4096, by omega⟩ hn.symm]
  unfold Compression.element
  congr 3
  exact Fin.ext (by show (2 * (jt t).val + (gt t).val) * 128 + l.val = (2 * (jt t).val + (gt t).val) * 128 + q.val / 64 % 2 * 64 + q.val % 64; omega)

theorem hidden_apply (n h : Fin 256) :
    half (tokens (iblk m c 0 t)) (places (iblk m c 1 t)) (weights (iblk m c 2 t)) 0 n h
        + half (tokens (iblk m c 0 t)) (places (iblk m c 1 t)) (weights (iblk m c 2 t)) 8 (next n) h
      = Compression.hidden (args m c) (bt t) (jt t) (gt t) n h := by
  unfold Compression.hidden
  rw [Compression.sum_split]
  refine congrArg₂ (· + ·) (Finset.sum_congr rfl fun k _ => Finset.sum_congr rfl fun l _ => ?_) (Finset.sum_congr rfl fun k _ => Finset.sum_congr rfl fun l _ => ?_)
  · exact term_apply m c t n n 0 k (by omega) h l _ (by show 128 * k.val + l.val = _; omega) (by show _ = (16 * n.val + (128 * k.val + l.val) / 64) % 4096; omega)
  · exact term_apply m c t n (next n) 8 k (by omega) h l _ (by show 1024 + 128 * k.val + l.val = _; omega)
      (by show (16 * ((n.val + 256 - 255) % 256) + 2 * k.val + l.val / 64) % 4096 = (16 * n.val + (1024 + 128 * k.val + l.val) / 64) % 4096; omega)

theorem token_apply (n : Fin 256) (l : Fin 128) :
    out (tokens (iblk m c 0 t)) (places (iblk m c 1 t)) (weights (iblk m c 2 t)) (iblk m c 3 t) (ix2 n l)
      = Compression.token (args m c) (bt t) (jt t) (gt t) n l.val := by
  rw [out_apply]
  unfold Compression.token
  exact Finset.sum_congr rfl fun h _ => by rw [hidden_apply, blk3]

theorem token_mod (n : Fin 256) (d d' : ℕ) (h : d % 64 = d' % 64) :
    Compression.token (args m c) (bt t) (jt t) (gt t) n d = Compression.token (args m c) (bt t) (jt t) (gt t) n d' := by
  unfold Compression.token
  exact Finset.sum_congr rfl fun x _ => congrArg (fun z => _ * (args m c).w2 (jt t) x z) (Fin.ext h)

theorem block_apply (n : Fin 256) (l : Fin 128) :
    outsAt0 m c t (ix5 0 0 0 n l) = Compression.result (args m c) (bt t) (jt t) (gt t) n l := by
  rw [outs_eq, coord_one]
  refine (body_apply _ _ _ _ _ _ (jt t) (Compression.token (args m c) (bt t) (jt t) (gt t) n)
    (fun i => FloatOps.sitofp (F := Ideal) .f32 ((args m c).pos (bt t) n) * nsaRate i) n (token_apply m c t n)
    (fun l => by rw [blk4, blk5, Nat.mod_mod_of_dvd _ (by decide : 8 ∣ 64)]) l).trans ?_
  unfold Compression.result
  rw [token_mod m c t n l.val (l.val % 64) (by omega),
    show (fun i => Compression.token (args m c) (bt t) (jt t) (gt t) n (l.val / 64 * 64 + i)) = Compression.token (args m c) (bt t) (jt t) (gt t) n from
      funext fun i => token_mod m c t n _ _ (by omega)]

end Blocks

/-- The array. -/
def answer : FVec Ideal S8x2x2x256x128 .bf16 := fun y => Compression.result (args m c) (y 0) (y 1) (y 2) (y 3) (y 4)

theorem out_block (t : Fin cfg0.N) : outsAt0 m c t = (fun y => answer m c (ix5 (bt t) (jt t) (gt t) (y 3) (y 4)) : Vec Ideal S1x1x1x256x128 .bf16) := by
  funext y
  obtain ⟨n, l, rfl⟩ : ∃ (n : Fin 256) (l : Fin 128), y = ix5 0 0 0 n l := ⟨y 3, y 4, by
    rw [eq_ix5 y]
    congr 1 <;> exact Subsingleton.elim (α := Fin 1) _ _⟩
  exact block_apply m c t n l

theorem final : (dats m 0 c).arrAt 6 cfg0.N = answer m c := by
  refine (dats m 0 c).arrAt_eq_of_covers 6 _ (by decide +kernel) fun t hf y => ?_
  rw [after0_6, out_block m c]
  blk_ext [index_facts t] <;> rfl

end Cert.Kernel5Ideal.Final

end
-- ==== Proof.Compression.RefTerm.lean ====
/- The compression reference in layers, each at an index. -/
module

public import proofs.«01_k».proof.Proof.Compression.Spec
public import proofs.«01_k».proof.Proof.Gen.Reference5Ideal.Run
public import Idealize.ShloMosaic.Lib.Pointwise

@[expose] public section

set_option maxRecDepth 16384

noncomputable section

namespace Cert.Reference5Ideal.Point

open Idealize.ShloMosaic Idealize.ShloMosaic.TcCoe Idealize.SL.Sem Idealize.ShloMosaic.StableHlo
open Cert.Reference5Ideal Cert.Reference5Ideal.Gen Cert.Reference5Ideal.Value
open Cert.Projection (silu turn nsaRate)

/-- Each block's position: that of its last token, and zero for the block after the last. -/
def posPad (p : IVec S8x4096 32) : IVec S8x256 32 :=
  pad S8x256 ![0, 0] ![0, 1] ![0, 0] (Host.gather gather_S8x4096_S255x1_S8x255_0_1_n_n_1_1_81 p
    (broadcastInDim S255x1 ![0] bcast_S255_S255x1_0 (select (constantI S255 1 0#1)
      (addi (fun i => lit0 (S255.rowMajor i)) (broadcastInDim S255 ![] bcast_S_S255 (constantI S_ 32 4096#32))) fun i => lit0 (S255.rowMajor i))))
    (id (constantI S_ 32 0#32)) pads_S8x255_S8x256_000_010 h_S_

/-- The angles of positions `p`. -/
def angles (p : IVec S8x256 32) : FVec Ideal S8x256x8 .f32 :=
  mulf (broadcastInDim S8x256x8 ![0, 1, 2] bcast_S8x256x1_S8x256x8_0_1_2 (broadcastInDim S8x256x1 ![0, 1] bcast_S8x256_S8x256x1_0_1 (sitofp .f32 p)))
    (broadcastInDim S8x256x8 ![0, 1, 2] bcast_S1x1x8_S8x256x8_0_1_2 (broadcastInDim S1x1x8 ![2] bcast_S8_S1x1x8_2
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))

theorem angles_apply (p : IVec S8x256 32) (b : Fin 8) (n : Fin 256) (d : Fin 8) :
    angles p (ix3 b n d) = FloatOps.sitofp (F := Ideal) .f32 (p (ix2 b n)) * nsaRate d.val := by
  pointwise [angles]
  rfl

/-- The hidden layer of chunks `x`: each chunk beside the next one and the places, as a row. -/
def hiddenOf (x : FVec Ideal S8x256x16x2x64 .f32) (pe : FVec Ideal S32x64 .f32) (w : FVec Ideal S2048x256 .f32) : FVec Ideal S8x256x2x256 .f32 :=
  Host.dotGeneral dot_S8x256x2x2048_S2048x256_S8x256x2x256_3_0_012_1_n_n none (shapeCast _ (transpose S8x256x2x32x64 [0, 1, 3, 2, 4] (addf (concatenate S8x256x32x2x64 2 [⟨S8x256x16x2x64, x⟩, ⟨S8x256x16x2x64, (concatenate S8x256x16x2x64 1 [⟨S8x255x16x2x64, (extractStridedSlice S8x255x16x2x64 ![0, 1, 0, 0, 0] x slices_S8x256x16x2x64_S8x255x16x2x64_0_1_0_0_0)⟩, ⟨S8x1x16x2x64, (extractStridedSlice S8x1x16x2x64 ![0, 0, 0, 0, 0] x slices_S8x256x16x2x64_S8x1x16x2x64_0_0_0_0_0)⟩] concatenates_S8x255x16x2x64_S8x1x16x2x64_S8x256x16x2x64_d1)⟩] concatenates_S8x256x16x2x64_S8x256x16x2x64_S8x256x32x2x64_d2) (broadcastInDim S8x256x32x2x64 ![0, 1, 2, 3, 4] bcast_S1x1x32x1x64_S8x256x32x2x64_0_1_2_3_4 (broadcastInDim S1x1x32x1x64 ![2, 4] bcast_S32x64_S1x1x32x1x64_2_4 pe))) transposes_S8x256x32x2x64_S8x256x2x32x64_0_1_3_2_4) shapeCasts_S8x256x2x32x64_S8x256x2x2048) w

/-- The product with the second weights of the hidden layer `z`. -/
def outOf (z : FVec Ideal S8x256x2x256 .f32) (w : FVec Ideal S256x64 .f32) : FVec Ideal S8x256x2x64 .f32 :=
  Host.dotGeneral dot_S8x256x2x256_S256x64_S8x256x2x64_3_0_012_1_n_n none (mulf z (Host.divf (broadcastInDim S8x256x2x256 ![] bcast_S_S8x256x2x256 (constant S_ .f32 0x3F800000#32)) (addf (broadcastInDim S8x256x2x256 ![] bcast_S_S8x256x2x256 (constant S_ .f32 0x3F800000#32)) (Host.exp (Host.negf z))))) w

/-- The keys turned by the angles `a`, and the values. -/
def stackOf (a : FVec Ideal S8x256x8 .f32) (k v : FVec Ideal S8x256x2x64 .f32) : FVec Ideal S8x2x2x256x64 .f32 :=
  transpose S8x2x2x256x64 [0, 1, 3, 2, 4] (concatenate S8x2x256x2x64 1 [⟨S8x1x256x2x64, (broadcastInDim S8x1x256x2x64 ![0, 2, 3, 4] bcast_S8x256x2x64_S8x1x256x2x64_0_2_3_4 ((concatenate S8x256x2x64 3 [⟨S8x256x2x8, ((subf (mulf (extractStridedSlice S8x256x2x8 ![0, 0, 0, 0] k slices_S8x256x2x64_S8x256x2x8_0_0_0_0) (broadcastInDim S8x256x2x8 ![0, 1, 2, 3] bcast_S8x256x1x8_S8x256x2x8_0_1_2_3 (broadcastInDim S8x256x1x8 ![0, 1, 3] bcast_S8x256x8_S8x256x1x8_0_1_3 (Host.cos a)))) (mulf (extractStridedSlice S8x256x2x8 ![0, 0, 0, 8] k slices_S8x256x2x64_S8x256x2x8_0_0_0_8) (broadcastInDim S8x256x2x8 ![0, 1, 2, 3] bcast_S8x256x1x8_S8x256x2x8_0_1_2_3 (broadcastInDim S8x256x1x8 ![0, 1, 3] bcast_S8x256x8_S8x256x1x8_0_1_3 (Host.sin a))))) : (⟨S8x256x2x8, .f32⟩ : BufTy).Contents (Elt Ideal))⟩, ⟨S8x256x2x8, ((addf (mulf (extractStridedSlice S8x256x2x8 ![0, 0, 0, 0] k slices_S8x256x2x64_S8x256x2x8_0_0_0_0) (broadcastInDim S8x256x2x8 ![0, 1, 2, 3] bcast_S8x256x1x8_S8x256x2x8_0_1_2_3 (broadcastInDim S8x256x1x8 ![0, 1, 3] bcast_S8x256x8_S8x256x1x8_0_1_3 (Host.sin a)))) (mulf (extractStridedSlice S8x256x2x8 ![0, 0, 0, 8] k slices_S8x256x2x64_S8x256x2x8_0_0_0_8) (broadcastInDim S8x256x2x8 ![0, 1, 2, 3] bcast_S8x256x1x8_S8x256x2x8_0_1_2_3 (broadcastInDim S8x256x1x8 ![0, 1, 3] bcast_S8x256x8_S8x256x1x8_0_1_3 (Host.cos a))))) : (⟨S8x256x2x8, .f32⟩ : BufTy).Contents (Elt Ideal))⟩, ⟨S8x256x2x48, ((extractStridedSlice S8x256x2x48 ![0, 0, 0, 16] k slices_S8x256x2x64_S8x256x2x48_0_0_0_16) : (⟨S8x256x2x48, .f32⟩ : BufTy).Contents (Elt Ideal))⟩] concatenates_S8x256x2x8_S8x256x2x8_S8x256x2x48_S8x256x2x64_d3 : (⟨S8x256x2x64, .f32⟩ : BufTy).Contents (Elt Ideal))))⟩, ⟨S8x1x256x2x64, (broadcastInDim S8x1x256x2x64 ![0, 2, 3, 4] bcast_S8x256x2x64_S8x1x256x2x64_0_2_3_4 v)⟩] concatenates_S8x1x256x2x64_S8x1x256x2x64_S8x2x256x2x64_d1) transposes_S8x2x256x2x64_S8x2x2x256x64_0_1_3_2_4

section Generic
variable (b : Fin 8) (g : Fin 2) (n : Fin 256)

theorem hiddenOf_apply (x : FVec Ideal S8x256x16x2x64 .f32) (pe : FVec Ideal S32x64 .f32) (w : FVec Ideal S2048x256 .f32) (e : Fin 2048 → EReal)
    (he : ∀ (q : Fin 2048) (n' : Fin 256) (r : Fin 16) (d : Fin 64), n'.val * 16 + r.val = (16 * n.val + q.val / 64) % 4096 → d.val = q.val % 64 →
      x (ix5 b n' r g d) = e q) (h : Fin 256) :
    hiddenOf x pe w (ix4 b n g h) = ∑ q : Fin 2048, (e q + pe (ix2 ⟨q.val / 64, by omega⟩ ⟨q.val % 64, by omega⟩)) * w (ix2 q h) := by
  generalize hX : (∑ q : Fin 2048, (e q + pe (ix2 ⟨q.val / 64, by omega⟩ ⟨q.val % 64, by omega⟩)) * w (ix2 q h)) = X
  pointwise [hiddenOf]
  rw [← hX]
  refine Finset.sum_congr rfl fun q _ => congrArg (fun z : EReal => (z + pe (ix2 ⟨q.val / 64, by omega⟩ ⟨q.val % 64, by omega⟩)) * w (ix2 q h)) ?_
  split
  · exact he q n ⟨q.val / 64, by omega⟩ ⟨q.val % 64, by omega⟩ (by simp only; omega) rfl
  · split
    · exact he q ⟨1 + n.val, by omega⟩ ⟨q.val / 64 - 16, by omega⟩ ⟨q.val % 64, by omega⟩ (by simp only; omega) rfl
    · exact he q ⟨n.val - 255, by omega⟩ ⟨q.val / 64 - 16, by omega⟩ ⟨q.val % 64, by omega⟩ (by simp only; omega) rfl

theorem outOf_apply (z : FVec Ideal S8x256x2x256 .f32) (w : FVec Ideal S256x64 .f32) (d : Fin 64) :
    outOf z w (ix4 b n g d) = ∑ h : Fin 256, silu (z (ix4 b n g h)) * w (ix2 h d) := by
  unfold silu
  pointwise [outOf]
  rfl

theorem stackOf_key (a : FVec Ideal S8x256x8 .f32) (k v : FVec Ideal S8x256x2x64 .f32) (ang f : ℕ → EReal) (ha : ∀ d : Fin 8, a (ix3 b n d) = ang d.val)
    (hk : ∀ d : Fin 64, k (ix4 b n g d) = f d.val) (d : Fin 64) : stackOf a k v (ix5 b 0 g n d) = turn 8 ang f d.val := by
  generalize hX : turn 8 ang f d.val = X
  pointwise [stackOf]
  rw [← hX]
  simp only [ha, hk]
  unfold turn
  by_cases h : d.val < 8
  · rw [dif_pos h, if_pos h, Nat.add_comm 8]
  · rw [dif_neg h, if_neg h]
    by_cases h' : d.val < 16
    · rw [dif_pos (by omega), if_pos (by omega), show 8 + (d.val - 8) = d.val by omega]
    · rw [dif_neg (by omega), if_neg (by omega), show 16 + (d.val - 8 - 8) = d.val by omega]

theorem stackOf_value (a : FVec Ideal S8x256x8 .f32) (k v : FVec Ideal S8x256x2x64 .f32) (d : Fin 64) : stackOf a k v (ix5 b 1 g n d) = v (ix4 b n g d) := by
  pointwise [stackOf]

/-- The columns twice. -/
def twice (z : FVec Ideal S8x2x2x256x64 .f32) : FVec Ideal S8x2x2x256x128 .bf16 :=
  truncf .bf16 (concatenate S8x2x2x256x128 4 [⟨S8x2x2x256x64, z⟩, ⟨S8x2x2x256x64, z⟩] concatenates_S8x2x2x256x64_S8x2x2x256x64_S8x2x2x256x128_d4)
    bitsLt_bf16_f32

theorem twice_apply (z : FVec Ideal S8x2x2x256x64 .f32) (j : Fin 2) (l : Fin 128) : twice z (ix5 b j g n l) = z (ix5 b j g n ⟨l.val % 64, by omega⟩) := by
  pointwise [twice]
  split <;> refine congrArg z (congrArg (ix5 b j g n) (Fin.ext ?_))
  all_goals first | (show l.val = l.val % 64; omega) | (show l.val - 64 = l.val % 64; omega)

end Generic

end Cert.Reference5Ideal.Point

end
-- ==== Proof.Compression.RefPoint.lean ====
/- The compression reference's array, at an index. -/
module

public import proofs.«01_k».proof.Proof.Compression.RefTerm
public import proofs.«01_k».proof.Proof.Gen.Reference5Ideal.Run
public import Idealize.ShloMosaic.Lib.Pointwise

@[expose] public section

set_option maxRecDepth 16384

noncomputable section

namespace Cert.Reference5Ideal.Point

open Idealize.ShloMosaic Idealize.ShloMosaic.TcCoe Idealize.SL.Sem Idealize.ShloMosaic.StableHlo
open Cert.Reference5Ideal Cert.Reference5Ideal.Gen Cert.Reference5Ideal.Value
open Cert.Compression (Args element token result)
open Cert.Projection (silu turn nsaRate)

variable (W : Valuation τ sig (Elt Ideal))

/-- The arguments. -/
def args : Args where
  x b s k := (W (Proc.devRef .tc main_arg0) : FVec Ideal S8x4096x512 .f32) (ix3 b s k)
  pos b n := posPad (W (Proc.devRef .tc main_arg1)) (ix2 b n)
  pe j p d := (if j.val = 0 then (W (Proc.devRef .tc main_arg2) : FVec Ideal S32x64 .f32) else W (Proc.devRef .tc main_arg5)) (ix2 p d)
  w1 j q h := (if j.val = 0 then (W (Proc.devRef .tc main_arg3) : FVec Ideal S2048x256 .f32) else W (Proc.devRef .tc main_arg6)) (ix2 q h)
  w2 j h d := (if j.val = 0 then (W (Proc.devRef .tc main_arg4) : FVec Ideal S256x64 .f32) else W (Proc.devRef .tc main_arg7)) (ix2 h d)

variable (b : Fin 8) (g : Fin 2)

/-- The tokens, each from its copy of the group. -/
theorem tokens_apply (s : Fin 4096) (j : Fin 2) (d : Fin 64) : (res_main_v8 (F := Ideal) W : FVec Ideal S8x4096x2x2x64 .f32) (ix5 b s j g d)
    = (args W).x b s ⟨(2 * j.val + g.val) * 128 + s.val % 2 * 64 + d.val, by omega⟩ := by
  pointwise [res_main_v8, res_main_v0]
  split
  · exact congrArg₂ ((args W).x b) (Fin.ext (by show s.val / 2 * 2 = s.val; omega))
      (Fin.ext (by show j.val * 256 + g.val * 128 + d.val = (2 * j.val + g.val) * 128 + s.val % 2 * 64 + d.val; omega))
  · exact congrArg₂ ((args W).x b) (Fin.ext (by show s.val / 2 * 2 + 1 = s.val; omega))
      (Fin.ext (by show j.val * 256 + g.val * 128 + 64 + d.val = (2 * j.val + g.val) * 128 + s.val % 2 * 64 + d.val; omega))

/-- The keys' chunks of 16 tokens, and the values'. -/
theorem keys_apply (n : Fin 256) (r : Fin 16) (d : Fin 64) : (res_main_v17 (F := Ideal) W : FVec Ideal S8x256x16x2x64 .f32) (ix5 b n r g d)
    = (res_main_v8 (F := Ideal) W : FVec Ideal S8x4096x2x2x64 .f32) (ix5 b ⟨n.val * 16 + r.val, by omega⟩ 0 g d) := by
  pointwise [res_main_v17]
theorem values_apply (n : Fin 256) (r : Fin 16) (d : Fin 64) : (res_main_v60 (F := Ideal) W : FVec Ideal S8x256x16x2x64 .f32) (ix5 b n r g d)
    = (res_main_v8 (F := Ideal) W : FVec Ideal S8x4096x2x2x64 .f32) (ix5 b ⟨n.val * 16 + r.val, by omega⟩ 1 g d) := by
  pointwise [res_main_v60]

variable (n : Fin 256)

theorem element_of (j : Fin 2) (q : Fin 2048) (n' : Fin 256) (r : Fin 16) (d : Fin 64)
    (hs : n'.val * 16 + r.val = (16 * n.val + q.val / 64) % 4096) (hd : d.val = q.val % 64) :
    (res_main_v8 (F := Ideal) W : FVec Ideal S8x4096x2x2x64 .f32) (ix5 b ⟨n'.val * 16 + r.val, by omega⟩ j g d) = element (args W) b j g n q := by
  rw [tokens_apply]
  unfold element
  exact congrArg₂ ((args W).x b) (Fin.ext hs) (Fin.ext (by
    show (2 * j.val + g.val) * 128 + (n'.val * 16 + r.val) % 2 * 64 + d.val = (2 * j.val + g.val) * 128 + q.val / 64 % 2 * 64 + q.val % 64
    omega))

theorem keyHidden_apply (h : Fin 256) : hiddenOf (res_main_v17 W) (W (Proc.devRef .tc main_arg2)) (W (Proc.devRef .tc main_arg3)) (ix4 b n g h)
    = Compression.hidden (args W) b 0 g n h :=
  hiddenOf_apply b g n (res_main_v17 W) (W (Proc.devRef .tc main_arg2)) (W (Proc.devRef .tc main_arg3)) (element (args W) b 0 g n)
    (fun q n' r d h1 h2 => (keys_apply W b g n' r d).trans (element_of W b g n 0 q n' r d h1 h2)) h

theorem valueHidden_apply (h : Fin 256) : hiddenOf (res_main_v60 W) (W (Proc.devRef .tc main_arg5)) (W (Proc.devRef .tc main_arg6)) (ix4 b n g h)
    = Compression.hidden (args W) b 1 g n h :=
  hiddenOf_apply b g n (res_main_v60 W) (W (Proc.devRef .tc main_arg5)) (W (Proc.devRef .tc main_arg6)) (element (args W) b 1 g n)
    (fun q n' r d h1 h2 => (values_apply W b g n' r d).trans (element_of W b g n 1 q n' r d h1 h2)) h

/-- The keys, and the values, one of each block. -/
def keyOf : FVec Ideal S8x256x2x64 .f32 :=
  outOf (hiddenOf (res_main_v17 W) (W (Proc.devRef .tc main_arg2)) (W (Proc.devRef .tc main_arg3))) (W (Proc.devRef .tc main_arg4))
def valueOf : FVec Ideal S8x256x2x64 .f32 :=
  outOf (hiddenOf (res_main_v60 W) (W (Proc.devRef .tc main_arg5)) (W (Proc.devRef .tc main_arg6))) (W (Proc.devRef .tc main_arg7))

theorem key_apply (d : Fin 64) : keyOf W (ix4 b n g d) = token (args W) b 0 g n d.val := by
  unfold keyOf token
  rw [outOf_apply]
  refine Finset.sum_congr rfl fun h _ => ?_
  rw [keyHidden_apply]
  exact congrArg (fun z => silu (Compression.hidden (args W) b 0 g n h) * (args W).w2 0 h z) (Fin.ext (Nat.mod_eq_of_lt d.isLt).symm)

theorem value_apply (d : Fin 64) : valueOf W (ix4 b n g d) = token (args W) b 1 g n d.val := by
  unfold valueOf token
  rw [outOf_apply]
  refine Finset.sum_congr rfl fun h _ => ?_
  rw [valueHidden_apply]
  exact congrArg (fun z => silu (Compression.hidden (args W) b 1 g n h) * (args W).w2 1 h z) (Fin.ext (Nat.mod_eq_of_lt d.isLt).symm)

/-- The keys and the values as the reference stacks them. -/
def stacked : FVec Ideal S8x2x2x256x64 .f32 := stackOf (angles (posPad (W (Proc.devRef .tc main_arg1)))) (keyOf W) (valueOf W)

theorem stacked_apply (j : Fin 2) (l : Fin 128) (d : Fin 64) (hd : d.val = l.val % 64) : stacked W (ix5 b j g n d) = result (args W) b j g n l := by
  unfold result
  by_cases h : j = 0
  · subst h
    refine Eq.trans ?_ (if_pos rfl).symm
    rw [← hd]
    exact stackOf_key b g n _ _ _ _ _ (angles_apply _ b n) (key_apply W b g n) d
  · have h1 : j = 1 := by omega
    subst h1
    refine Eq.trans ?_ (if_neg (by decide)).symm
    rw [← hd]
    exact (stackOf_value b g n _ _ _ d).trans (value_apply W b g n d)

theorem term_apply (j : Fin 2) (l : Fin 128) : twice (stacked W) (ix5 b j g n l) = result (args W) b j g n l :=
  (twice_apply b g n _ j l).trans (stacked_apply W b g n j l _ rfl)

theorem term_eq : twice (stacked W) = twice (res_main_v74 W) := rfl

end Cert.Reference5Ideal.Point

end
-- ==== Proof.Compression.Agree.lean ====
/- The compression call's array and its reference's: both are the specification's at the arguments. -/
module

public import proofs.«01_k».proof.Defs
public import proofs.«01_k».proof.Proof.Compression.Final
public import proofs.«01_k».proof.Proof.Compression.RefPoint
public import proofs.«01_k».proof.Proof.Gen.Kernel5Ideal.Value
public import proofs.«01_k».proof.Proof.Gen.Kernel5Ideal.Frame
public import proofs.«01_k».proof.Proof.Gen.Reference5Ideal.Run
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

namespace Cert.Compression.Agree

/-- The reference, from its run. -/
theorem reference_frame (hF : Cert.Reference5Ideal.Facts) : @Cert.quiescent_Reference5Ideal hF := fun m g _ =>
  (θ_run Cert.Reference5Ideal.defs _ _).mono (fun r h => ⟨fun c => (h c).2, sem_eq_zero_of_no_sems (by decide) r.2⟩)
    (Cert.Reference5Ideal.Value.run m g)

theorem algebraic : @Cert.algebraic_Kernel5Ideal_Reference5Ideal Cert.Kernel5Ideal.Gen.facts Cert.Reference5Ideal.Gen.facts :=
  fun m g m' g' _ hargs =>
    ⟨fun c => Cert.Kernel5Ideal.Final.answer m c,
      (θ_run Cert.Kernel5Ideal.defs _ _).mono (fun _ h c => ⟨(h c).1.trans (Cert.Kernel5Ideal.Final.final m c), (h c).2⟩)
        (Cert.Kernel5Ideal.Value.run_blocks m g),
      (θ_run Cert.Reference5Ideal.defs _ _).mono (fun _ h c => ⟨(h c).1.trans (by
          obtain ⟨h0, h1, h2, h3, h4, h5, h6, h7⟩ := hargs c
          have e : Cert.Reference5Ideal.Point.args (launchContents m' c) = Cert.Kernel5Ideal.Final.args m c := by
            unfold Cert.Kernel5Ideal.Final.args
            rw [← h0, ← h1, ← h2, ← h3, ← h4, ← h5, ← h6, ← h7]
            rfl
          funext y
          obtain ⟨b, j, g, n, l, rfl⟩ : ∃ (b : Fin 8) (j : Fin 2) (g : Fin 2) (n : Fin 256) (l : Fin 128), y = ix5 b j g n l :=
            ⟨y 0, y 1, y 2, y 3, y 4, eq_ix5 y⟩
          exact (congrFun (Cert.Reference5Ideal.Point.term_eq (launchContents m' c)) _).symm.trans
            ((Cert.Reference5Ideal.Point.term_apply (launchContents m' c) b g n j l).trans (by rw [e]; rfl))), (h c).2⟩)
        (Cert.Reference5Ideal.Value.run m' g')⟩

end Cert.Compression.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.RefPoint
public import proofs.«01_k».proof.Proof.Final
public import proofs.«01_k».proof.Proof.Projection.Kernel2Frame
public import proofs.«01_k».proof.Proof.Projection.Kernel2IdealFrame
public import proofs.«01_k».proof.Proof.Projection.Agree
public import proofs.«01_k».proof.Proof.Output.Agree
public import proofs.«01_k».proof.Proof.Modulation.Agree
public import proofs.«01_k».proof.Proof.Compression.Agree
public import Idealize.ShloMosaic.Adequacy
public import Idealize.ShloMosaic.Init

@[expose] public section

noncomputable section

namespace Cert.Proof

open Idealize.ShloMosaic Idealize.ShloMosaic.TcCoe Idealize.SL.Sem
open Cert.Retention (IsReal)

instance preFacts : Cert.Pre_finite.Facts where
  bitsLt_bf16_f32 := by decide
  bcast_S_S8x4096x512 := by decide

instance gateFacts : Cert.Pre_finite_gates.Facts where
  bcast_S_S8x4096x24 := by decide
  slices_S8x4096x128_S8x4096x24_0_0_0 := by decide

/-- A value whose magnitude compares below infinity is a real number. -/
theorem real_of_lt {x : EReal} (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => simp at hlt
  | top => simp at hlt
  | coe r => exact ⟨r, rfl⟩

/-- The precondition says that the queries, the keys and the values are real. -/
theorem real_args (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Final.RealArgs m c := by
  intro w x
  obtain ⟨h0, h1, h2⟩ := h c
  fin_cases w
  · exact real_of_lt (congrFun h0 x)
  · exact real_of_lt (congrFun h1 x)
  · exact real_of_lt (congrFun h2 x)

/-- The kernel's answer and the reference's are one array where they start from the same arguments. -/
theorem answer_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = Cert.KernelIdeal.Final.args m c 0)
    (h1 : m' ((c.tc : Thread Cert.ReferenceIdeal.nD Cert.ReferenceIdeal.τ).loc Cert.ReferenceIdeal.main_arg1) = Cert.KernelIdeal.Final.args m c 1)
    (h2 : m' ((c.tc : Thread Cert.ReferenceIdeal.nD Cert.ReferenceIdeal.τ).loc Cert.ReferenceIdeal.main_arg2) = Cert.KernelIdeal.Final.args m c 2)
    (h3 : m' ((c.tc : Thread Cert.ReferenceIdeal.nD Cert.ReferenceIdeal.τ).loc Cert.ReferenceIdeal.main_arg3) = Cert.KernelIdeal.Final.args m c 3) :
    Cert.ReferenceIdeal.Step.R_main_v112 (Cert.ReferenceIdeal.RefRun.stateAt m' c 32)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
      = Cert.KernelIdeal.Final.answer m c := by
  funext x
  obtain ⟨b, s, w, rfl⟩ : ∃ (b : Fin 8) (s : Fin 4096) (w : Fin 512), x = ix3 b s w := ⟨x 0, x 1, x 2, eq_ix3 x⟩
  obtain ⟨n, i, hs, rfl⟩ : ∃ (n : Fin 32) (i : Fin 128) (hs : n.val * 128 + i.val < 4096), s = ⟨n.val * 128 + i.val, hs⟩ :=
    ⟨⟨s.val / 128, by omega⟩, ⟨s.val % 128, by omega⟩, by show s.val / 128 * 128 + s.val % 128 < 4096; omega,
      Fin.ext (by show s.val = s.val / 128 * 128 + s.val % 128; omega)⟩
  obtain ⟨h, e, hw, rfl⟩ : ∃ (h : Fin 8) (e : Fin 64) (hw : h.val * 64 + e.val < 512), w = ⟨h.val * 64 + e.val, hw⟩ :=
    ⟨⟨w.val / 64, by omega⟩, ⟨w.val % 64, by omega⟩, by show w.val / 64 * 64 + w.val % 64 < 512; omega,
      Fin.ext (by show w.val = w.val / 64 * 64 + w.val % 64; omega)⟩
  refine (Cert.ReferenceIdeal.Point.R_apply m' c _ _ b n i h e).trans ((Cert.KernelIdeal.Final.answer_apply m c b h n i e hs hw).trans ?_).symm
  rw [← h0, ← h1, ← h2, ← h3]
  rfl

/-- A run of the reference leaves its arguments, and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0 :=
  (θ_run Cert.ReferenceIdeal.defs _ _).mono (fun r h => ⟨fun c => (h c).2, sem_eq_zero_of_no_sems (by decide) r.2⟩)
    (Cert.ReferenceIdeal.RefRun.run m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, preFacts, gateFacts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    fun m g _ => Cert.Kernel2.Gen.frame m g,
    fun m g _ => Cert.Kernel2Ideal.Gen.frame m g,
    fun m g _ => Cert.Projection.Agree.reference_frame m g,
    fun m g _ => Cert.Kernel3.Gen.frame m g,
    fun m g _ => Cert.Kernel3Ideal.Gen.frame m g,
    fun m g _ => Cert.Kernel3Ideal.Gen.frame m g,
    Cert.Output.Agree.reference_frame _,
    fun m g _ => Cert.Output.Agree.reference_frame _ m g trivial,
    fun m g _ => Cert.Kernel4.Gen.frame m g,
    fun m g _ => Cert.Kernel4Ideal.Gen.frame m g,
    Cert.Modulation.Agree.reference_frame _,
    fun m g _ => Cert.Kernel5.Gen.frame m g,
    fun m g _ => Cert.Kernel5Ideal.Gen.frame m g,
    Cert.Compression.Agree.reference_frame _,
    trivial,
    fun m g m' g' hpre hargs =>
      ⟨fun c => Cert.KernelIdeal.Final.answer m c,
        (θ_run Cert.KernelIdeal.defs _ _).mono
          (fun _ h c => ⟨(h c).1.trans (Cert.KernelIdeal.Final.final (real_args m hpre c)), (h c).2⟩)
          (Cert.KernelIdeal.Value.run_blocks m g),
        (θ_run Cert.ReferenceIdeal.defs _ _).mono
          (fun _ h c => ⟨(h c).1.trans (answer_eq m m' c (hargs c).1 (hargs c).2.1 (hargs c).2.2.1 (hargs c).2.2.2), (h c).2⟩)
          (Cert.ReferenceIdeal.RefRun.run m' g')⟩,
    Cert.Projection.Agree.preserves,
    Cert.Projection.Agree.algebraic,
    trivial,
    Cert.Output.Agree.algebraic fun _ h => real_of_lt h,
    trivial,
    Cert.Modulation.Agree.algebraic,
    trivial,
    Cert.Compression.Agree.algebraic⟩

end Cert.Proof
